-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_x_finite_ReferenceIdeal.lean ====
abbrev S4096x16384 : Shape := ⟨2, ![4096, 16384]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)

variable [Facts]

def fn {F : FTy → Type} [FloatOps F] (main_arg0 : FVec F S4096x16384 .f32) (main_arg1 : FVec F S16384 .f32) (main_arg2 : FVec F S16384 .f32) : IVec S4096x16384 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  main_v2
-- ==== Kernel.lean ====
abbrev S4096x1024 : Shape := ⟨2, ![4096, 1024]⟩
abbrev S1024 : Shape := ⟨1, ![1024]⟩
abbrev S4x16x2x8x128 : Shape := ⟨5, ![4, 16, 2, 8, 128]⟩
abbrev S2x512x1024 : Shape := ⟨3, ![2, 512, 1024]⟩
abbrev S4 : Shape := ⟨1, ![4]⟩
abbrev S4x16 : Shape := ⟨2, ![4, 16]⟩
abbrev S2 : Shape := ⟨1, ![2]⟩
abbrev S1 : Shape := ⟨1, ![1]⟩
abbrev S_ : Shape := ⟨0, ![]⟩
abbrev S1024x1024 : Shape := ⟨2, ![1024, 1024]⟩
abbrev S8x128x1024 : Shape := ⟨3, ![8, 128, 1024]⟩
abbrev S8x128 : Shape := ⟨2, ![8, 128]⟩
abbrev S1x8x128 : Shape := ⟨3, ![1, 8, 128]⟩
abbrev S2x8x128 : Shape := ⟨3, ![2, 8, 128]⟩
abbrev S1x1x2x8x128 : Shape := ⟨5, ![1, 1, 2, 8, 128]⟩
abbrev S1x1 : Shape := ⟨2, ![1, 1]⟩
abbrev S1x1x1024 : Shape := ⟨3, ![1, 1, 1024]⟩
abbrev S1x16x2x8x128 : Shape := ⟨5, ![1, 16, 2, 8, 128]⟩
abbrev S16x2x8x128 : Shape := ⟨4, ![16, 2, 8, 128]⟩
abbrev S512x1024 : Shape := ⟨2, ![512, 1024]⟩
abbrev S4x128x1024 : Shape := ⟨3, ![4, 128, 1024]⟩
abbrev S4x128 : Shape := ⟨2, ![4, 128]⟩
abbrev S4x128x1 : Shape := ⟨3, ![4, 128, 1]⟩
abbrev S1x512x1024 : Shape := ⟨3, ![1, 512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S4096x1024, .f32⟩
  | .local _ .vmem, ⟨0, _⟩ => ⟨S1024, .f32⟩
  | .local _ .vmem, ⟨1, _⟩ => ⟨S1024, .f32⟩
  | .local _ .vmem, ⟨2, _⟩ => ⟨S4096x1024, .f32⟩
  | .local _ .vmem, ⟨3, _⟩ => ⟨S4x16x2x8x128, .f32⟩
  | .local _ .vmem, ⟨4, _⟩ => ⟨S2x512x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 136 → Bool
  | ⟨i, _⟩ => dmaSemScopedAt i

abbrev sig : RefSig :=
  (ofTc nBuf bufTy 2 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_14 : BitVec 32 := 1#32
  let v20 : BitVec 32 := Scalar.addi v2 c1_i32_14
  let c16_i32_15 : BitVec 32 := 16#32
  let c0_i32_16 : BitVec 32 := 0#32
  let v21 : BitVec 1 := Scalar.cmpi .eq c16_i32_15 c0_i32_16
  let c1_i32_17 : BitVec 32 := 1#32
  let v22 : BitVec 32 := Scalar.select v21 c1_i32_17 c16_i32_15
  let v23 : BitVec 32 := Scalar.remsi v20 v22
  let c0_i32_19 : BitVec 32 := 0#32
  let v25 : BitVec 1 := Scalar.cmpi .slt v23 c0_i32_19
  let c0_i32_20 : BitVec 32 := 0#32
  let v26 : BitVec 1 := Scalar.cmpi .slt v22 c0_i32_20
  let v27 : BitVec 1 := Scalar.xori v25 v26
  let c0_i32_18 : BitVec 32 := 0#32
  let v24 : BitVec 1 := Scalar.cmpi .ne v23 c0_i32_18
  let v28 : BitVec 1 := Scalar.andi v27 v24
  let v29 : BitVec 32 := Scalar.addi v23 v22
  let v30 : BitVec 32 := Scalar.select v28 v29 v23
  let c1_i32_22 : BitVec 32 := 1#32
  let v31 : BitVec 32 := Scalar.muli v30 c1_i32_22
  let v32 : BitVec 32 := Scalar.addi c0_i32_23 v31
  v32.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_24 : BitVec 32 := 2#32
  let v33 : BitVec 32 := Scalar.addi v2 c2_i32_24
  let c16_i32_25 : BitVec 32 := 16#32
  let c0_i32_26 : BitVec 32 := 0#32
  let v34 : BitVec 1 := Scalar.cmpi .eq c16_i32_25 c0_i32_26
  let c1_i32_27 : BitVec 32 := 1#32
  let v35 : BitVec 32 := Scalar.select v34 c1_i32_27 c16_i32_25
  let v36 : BitVec 32 := Scalar.remsi v33 v35
  let c0_i32_29 : BitVec 32 := 0#32
  let v38 : BitVec 1 := Scalar.cmpi .slt v36 c0_i32_29
  let c0_i32_30 : BitVec 32 := 0#32
  let v39 : BitVec 1 := Scalar.cmpi .slt v35 c0_i32_30
  let v40 : BitVec 1 := Scalar.xori v38 v39
  let c0_i32_28 : BitVec 32 := 0#32
  let v37 : BitVec 1 := Scalar.cmpi .ne v36 c0_i32_28
  let v41 : BitVec 1 := Scalar.andi v40 v37
  let v42 : BitVec 32 := Scalar.addi v36 v35
  let v43 : BitVec 32 := Scalar.select v41 v42 v36
  let c1_i32_32 : BitVec 32 := 1#32
  let v44 : BitVec 32 := Scalar.muli v43 c1_i32_32
  let v45 : BitVec 32 := Scalar.addi c0_i32_33 v44
  v45.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_34 : BitVec 32 := 3#32
  let v46 : BitVec 32 := Scalar.addi v2 c3_i32_34
  let c16_i32_35 : BitVec 32 := 16#32
  let c0_i32_36 : BitVec 32 := 0#32
  let v47 : BitVec 1 := Scalar.cmpi .eq c16_i32_35 c0_i32_36
  let c1_i32_37 : BitVec 32 := 1#32
  let v48 : BitVec 32 := Scalar.select v47 c1_i32_37 c16_i32_35
  let v49 : BitVec 32 := Scalar.remsi v46 v48
  let c0_i32_39 : BitVec 32 := 0#32
  let v51 : BitVec 1 := Scalar.cmpi .slt v49 c0_i32_39
  let c0_i32_40 : BitVec 32 := 0#32
  let v52 : BitVec 1 := Scalar.cmpi .slt v48 c0_i32_40
  let v53 : BitVec 1 := Scalar.xori v51 v52
  let c0_i32_38 : BitVec 32 := 0#32
  let v50 : BitVec 1 := Scalar.cmpi .ne v49 c0_i32_38
  let v54 : BitVec 1 := Scalar.andi v53 v50
  let v55 : BitVec 32 := Scalar.addi v49 v48
  let v56 : BitVec 32 := Scalar.select v54 v55 v49
  let c1_i32_42 : BitVec 32 := 1#32
  let v57 : BitVec 32 := Scalar.muli v56 c1_i32_42
  let v58 : BitVec 32 := Scalar.addi c0_i32_43 v57
  v58.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v59 : BitVec 32 := Scalar.addi v2 c4_i32
  let c16_i32_44 : BitVec 32 := 16#32
  let c0_i32_45 : BitVec 32 := 0#32
  let v60 : BitVec 1 := Scalar.cmpi .eq c16_i32_44 c0_i32_45
  let c1_i32_46 : BitVec 32 := 1#32
  let v61 : BitVec 32 := Scalar.select v60 c1_i32_46 c16_i32_44
  let v62 : BitVec 32 := Scalar.remsi v59 v61
  let c0_i32_48 : BitVec 32 := 0#32
  let v64 : BitVec 1 := Scalar.cmpi .slt v62 c0_i32_48
  let c0_i32_49 : BitVec 32 := 0#32
  let v65 : BitVec 1 := Scalar.cmpi .slt v61 c0_i32_49
  let v66 : BitVec 1 := Scalar.xori v64 v65
  let c0_i32_47 : BitVec 32 := 0#32
  let v63 : BitVec 1 := Scalar.cmpi .ne v62 c0_i32_47
  let v67 : BitVec 1 := Scalar.andi v66 v63
  let v68 : BitVec 32 := Scalar.addi v62 v61
  let v69 : BitVec 32 := Scalar.select v67 v68 v62
  let c1_i32_51 : BitVec 32 := 1#32
  let v70 : BitVec 32 := Scalar.muli v69 c1_i32_51
  let v71 : BitVec 32 := Scalar.addi c0_i32_52 v70
  v71.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v72 : BitVec 32 := Scalar.addi v2 c5_i32
  let c16_i32_53 : BitVec 32 := 16#32
  let c0_i32_54 : BitVec 32 := 0#32
  let v73 : BitVec 1 := Scalar.cmpi .eq c16_i32_53 c0_i32_54
  let c1_i32_55 : BitVec 32 := 1#32
  let v74 : BitVec 32 := Scalar.select v73 c1_i32_55 c16_i32_53
  let v75 : BitVec 32 := Scalar.remsi v72 v74
  let c0_i32_57 : BitVec 32 := 0#32
  let v77 : BitVec 1 := Scalar.cmpi .slt v75 c0_i32_57
  let c0_i32_58 : BitVec 32 := 0#32
  let v78 : BitVec 1 := Scalar.cmpi .slt v74 c0_i32_58
  let v79 : BitVec 1 := Scalar.xori v77 v78
  let c0_i32_56 : BitVec 32 := 0#32
  let v76 : BitVec 1 := Scalar.cmpi .ne v75 c0_i32_56
  let v80 : BitVec 1 := Scalar.andi v79 v76
  let v81 : BitVec 32 := Scalar.addi v75 v74
  let v82 : BitVec 32 := Scalar.select v80 v81 v75
  let c1_i32_60 : BitVec 32 := 1#32
  let v83 : BitVec 32 := Scalar.muli v82 c1_i32_60
  let v84 : BitVec 32 := Scalar.addi c0_i32_61 v83
  v84.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v85 : BitVec 32 := Scalar.addi v2 c6_i32
  let c16_i32_62 : BitVec 32 := 16#32
  let c0_i32_63 : BitVec 32 := 0#32
  let v86 : BitVec 1 := Scalar.cmpi .eq c16_i32_62 c0_i32_63
  let c1_i32_64 : BitVec 32 := 1#32
  let v87 : BitVec 32 := Scalar.select v86 c1_i32_64 c16_i32_62
  let v88 : BitVec 32 := Scalar.remsi v85 v87
  let c0_i32_66 : BitVec 32 := 0#32
  let v90 : BitVec 1 := Scalar.cmpi .slt v88 c0_i32_66
  let c0_i32_67 : BitVec 32 := 0#32
  let v91 : BitVec 1 := Scalar.cmpi .slt v87 c0_i32_67
  let v92 : BitVec 1 := Scalar.xori v90 v91
  let c0_i32_65 : BitVec 32 := 0#32
  let v89 : BitVec 1 := Scalar.cmpi .ne v88 c0_i32_65
  let v93 : BitVec 1 := Scalar.andi v92 v89
  let v94 : BitVec 32 := Scalar.addi v88 v87
  let v95 : BitVec 32 := Scalar.select v93 v94 v88
  let c1_i32_69 : BitVec 32 := 1#32
  let v96 : BitVec 32 := Scalar.muli v95 c1_i32_69
  let v97 : BitVec 32 := Scalar.addi c0_i32_70 v96
  v97.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v98 : BitVec 32 := Scalar.addi v2 c7_i32
  let c16_i32_71 : BitVec 32 := 16#32
  let c0_i32_72 : BitVec 32 := 0#32
  let v99 : BitVec 1 := Scalar.cmpi .eq c16_i32_71 c0_i32_72
  let c1_i32_73 : BitVec 32 := 1#32
  let v100 : BitVec 32 := Scalar.select v99 c1_i32_73 c16_i32_71
  let v101 : BitVec 32 := Scalar.remsi v98 v100
  let c0_i32_75 : BitVec 32 := 0#32
  let v103 : BitVec 1 := Scalar.cmpi .slt v101 c0_i32_75
  let c0_i32_76 : BitVec 32 := 0#32
  let v104 : BitVec 1 := Scalar.cmpi .slt v100 c0_i32_76
  let v105 : BitVec 1 := Scalar.xori v103 v104
  let c0_i32_74 : BitVec 32 := 0#32
  let v102 : BitVec 1 := Scalar.cmpi .ne v101 c0_i32_74
  let v106 : BitVec 1 := Scalar.andi v105 v102
  let v107 : BitVec 32 := Scalar.addi v101 v100
  let v108 : BitVec 32 := Scalar.select v106 v107 v101
  let c1_i32_78 : BitVec 32 := 1#32
  let v109 : BitVec 32 := Scalar.muli v108 c1_i32_78
  let v110 : BitVec 32 := Scalar.addi c0_i32_79 v109
  v110.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v111 : BitVec 32 := Scalar.addi v2 c8_i32
  let c16_i32_80 : BitVec 32 := 16#32
  let c0_i32_81 : BitVec 32 := 0#32
  let v112 : BitVec 1 := Scalar.cmpi .eq c16_i32_80 c0_i32_81
  let c1_i32_82 : BitVec 32 := 1#32
  let v113 : BitVec 32 := Scalar.select v112 c1_i32_82 c16_i32_80
  let v114 : BitVec 32 := Scalar.remsi v111 v113
  let c0_i32_84 : BitVec 32 := 0#32
  let v116 : BitVec 1 := Scalar.cmpi .slt v114 c0_i32_84
  let c0_i32_85 : BitVec 32 := 0#32
  let v117 : BitVec 1 := Scalar.cmpi .slt v113 c0_i32_85
  let v118 : BitVec 1 := Scalar.xori v116 v117
  let c0_i32_83 : BitVec 32 := 0#32
  let v115 : BitVec 1 := Scalar.cmpi .ne v114 c0_i32_83
  let v119 : BitVec 1 := Scalar.andi v118 v115
  let v120 : BitVec 32 := Scalar.addi v114 v113
  let v121 : BitVec 32 := Scalar.select v119 v120 v114
  let c1_i32_87 : BitVec 32 := 1#32
  let v122 : BitVec 32 := Scalar.muli v121 c1_i32_87
  let v123 : BitVec 32 := Scalar.addi c0_i32_88 v122
  v123.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v124 : BitVec 32 := Scalar.addi v2 c9_i32
  let c16_i32_89 : BitVec 32 := 16#32
  let c0_i32_90 : BitVec 32 := 0#32
  let v125 : BitVec 1 := Scalar.cmpi .eq c16_i32_89 c0_i32_90
  let c1_i32_91 : BitVec 32 := 1#32
  let v126 : BitVec 32 := Scalar.select v125 c1_i32_91 c16_i32_89
  let v127 : BitVec 32 := Scalar.remsi v124 v126
  let c0_i32_93 : BitVec 32 := 0#32
  let v129 : BitVec 1 := Scalar.cmpi .slt v127 c0_i32_93
  let c0_i32_94 : BitVec 32 := 0#32
  let v130 : BitVec 1 := Scalar.cmpi .slt v126 c0_i32_94
  let v131 : BitVec 1 := Scalar.xori v129 v130
  let c0_i32_92 : BitVec 32 := 0#32
  let v128 : BitVec 1 := Scalar.cmpi .ne v127 c0_i32_92
  let v132 : BitVec 1 := Scalar.andi v131 v128
  let v133 : BitVec 32 := Scalar.addi v127 v126
  let v134 : BitVec 32 := Scalar.select v132 v133 v127
  let c1_i32_96 : BitVec 32 := 1#32
  let v135 : BitVec 32 := Scalar.muli v134 c1_i32_96
  let v136 : BitVec 32 := Scalar.addi c0_i32_97 v135
  v136.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v137 : BitVec 32 := Scalar.addi v2 c10_i32
  let c16_i32_98 : BitVec 32 := 16#32
  let c0_i32_99 : BitVec 32 := 0#32
  let v138 : BitVec 1 := Scalar.cmpi .eq c16_i32_98 c0_i32_99
  let c1_i32_100 : BitVec 32 := 1#32
  let v139 : BitVec 32 := Scalar.select v138 c1_i32_100 c16_i32_98
  let v140 : BitVec 32 := Scalar.remsi v137 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let c1_i32_105 : BitVec 32 := 1#32
  let v148 : BitVec 32 := Scalar.muli v147 c1_i32_105
  let v149 : BitVec 32 := Scalar.addi c0_i32_106 v148
  v149.toNat
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v150 : BitVec 32 := Scalar.addi v2 c11_i32
  let c16_i32_107 : BitVec 32 := 16#32
  let c0_i32_108 : BitVec 32 := 0#32
  let v151 : BitVec 1 := Scalar.cmpi .eq c16_i32_107 c0_i32_108
  let c1_i32_109 : BitVec 32 := 1#32
  let v152 : BitVec 32 := Scalar.select v151 c1_i32_109 c16_i32_107
  let v153 : BitVec 32 := Scalar.remsi v150 v152
  let c0_i32_111 : BitVec 32 := 0#32
  let v155 : BitVec 1 := Scalar.cmpi .slt v153 c0_i32_111
  let c0_i32_112 : BitVec 32 := 0#32
  let v156 : BitVec 1 := Scalar.cmpi .slt v152 c0_i32_112
  let v157 : BitVec 1 := Scalar.xori v155 v156
  let c0_i32_110 : BitVec 32 := 0#32
  let v154 : BitVec 1 := Scalar.cmpi .ne v153 c0_i32_110
  let v158 : BitVec 1 := Scalar.andi v157 v154
  let v159 : BitVec 32 := Scalar.addi v153 v152
  let v160 : BitVec 32 := Scalar.select v158 v159 v153
  let c1_i32_114 : BitVec 32 := 1#32
  let v161 : BitVec 32 := Scalar.muli v160 c1_i32_114
  let v162 : BitVec 32 := Scalar.addi c0_i32_115 v161
  v162.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v163 : BitVec 32 := Scalar.addi v2 c12_i32
  let c16_i32_116 : BitVec 32 := 16#32
  let c0_i32_117 : BitVec 32 := 0#32
  let v164 : BitVec 1 := Scalar.cmpi .eq c16_i32_116 c0_i32_117
  let c1_i32_118 : BitVec 32 := 1#32
  let v165 : BitVec 32 := Scalar.select v164 c1_i32_118 c16_i32_116
  let v166 : BitVec 32 := Scalar.remsi v163 v165
  let c0_i32_120 : BitVec 32 := 0#32
  let v168 : BitVec 1 := Scalar.cmpi .slt v166 c0_i32_120
  let c0_i32_121 : BitVec 32 := 0#32
  let v169 : BitVec 1 := Scalar.cmpi .slt v165 c0_i32_121
  let v170 : BitVec 1 := Scalar.xori v168 v169
  let c0_i32_119 : BitVec 32 := 0#32
  let v167 : BitVec 1 := Scalar.cmpi .ne v166 c0_i32_119
  let v171 : BitVec 1 := Scalar.andi v170 v167
  let v172 : BitVec 32 := Scalar.addi v166 v165
  let v173 : BitVec 32 := Scalar.select v171 v172 v166
  let c1_i32_123 : BitVec 32 := 1#32
  let v174 : BitVec 32 := Scalar.muli v173 c1_i32_123
  let v175 : BitVec 32 := Scalar.addi c0_i32_124 v174
  v175.toNat
def k0_dev13 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v176 : BitVec 32 := Scalar.addi v2 c13_i32
  let c16_i32_125 : BitVec 32 := 16#32
  let c0_i32_126 : BitVec 32 := 0#32
  let v177 : BitVec 1 := Scalar.cmpi .eq c16_i32_125 c0_i32_126
  let c1_i32_127 : BitVec 32 := 1#32
  let v178 : BitVec 32 := Scalar.select v177 c1_i32_127 c16_i32_125
  let v179 : BitVec 32 := Scalar.remsi v176 v178
  let c0_i32_129 : BitVec 32 := 0#32
  let v181 : BitVec 1 := Scalar.cmpi .slt v179 c0_i32_129
  let c0_i32_130 : BitVec 32 := 0#32
  let v182 : BitVec 1 := Scalar.cmpi .slt v178 c0_i32_130
  let v183 : BitVec 1 := Scalar.xori v181 v182
  let c0_i32_128 : BitVec 32 := 0#32
  let v180 : BitVec 1 := Scalar.cmpi .ne v179 c0_i32_128
  let v184 : BitVec 1 := Scalar.andi v183 v180
  let v185 : BitVec 32 := Scalar.addi v179 v178
  let v186 : BitVec 32 := Scalar.select v184 v185 v179
  let c1_i32_132 : BitVec 32 := 1#32
  let v187 : BitVec 32 := Scalar.muli v186 c1_i32_132
  let v188 : BitVec 32 := Scalar.addi c0_i32_133 v187
  v188.toNat
def k0_dev14 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v189 : BitVec 32 := Scalar.addi v2 c14_i32
  let c16_i32_134 : BitVec 32 := 16#32
  let c0_i32_135 : BitVec 32 := 0#32
  let v190 : BitVec 1 := Scalar.cmpi .eq c16_i32_134 c0_i32_135
  let c1_i32_136 : BitVec 32 := 1#32
  let v191 : BitVec 32 := Scalar.select v190 c1_i32_136 c16_i32_134
  let v192 : BitVec 32 := Scalar.remsi v189 v191
  let c0_i32_138 : BitVec 32 := 0#32
  let v194 : BitVec 1 := Scalar.cmpi .slt v192 c0_i32_138
  let c0_i32_139 : BitVec 32 := 0#32
  let v195 : BitVec 1 := Scalar.cmpi .slt v191 c0_i32_139
  let v196 : BitVec 1 := Scalar.xori v194 v195
  let c0_i32_137 : BitVec 32 := 0#32
  let v193 : BitVec 1 := Scalar.cmpi .ne v192 c0_i32_137
  let v197 : BitVec 1 := Scalar.andi v196 v193
  let v198 : BitVec 32 := Scalar.addi v192 v191
  let v199 : BitVec 32 := Scalar.select v197 v198 v192
  let c1_i32_141 : BitVec 32 := 1#32
  let v200 : BitVec 32 := Scalar.muli v199 c1_i32_141
  let v201 : BitVec 32 := Scalar.addi c0_i32_142 v200
  v201.toNat
def k0_dev15 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v202 : BitVec 32 := Scalar.addi v2 c15_i32
  let c16_i32_143 : BitVec 32 := 16#32
  let c0_i32_144 : BitVec 32 := 0#32
  let v203 : BitVec 1 := Scalar.cmpi .eq c16_i32_143 c0_i32_144
  let c1_i32_145 : BitVec 32 := 1#32
  let v204 : BitVec 32 := Scalar.select v203 c1_i32_145 c16_i32_143
  let v205 : BitVec 32 := Scalar.remsi v202 v204
  let c0_i32_147 : BitVec 32 := 0#32
  let v207 : BitVec 1 := Scalar.cmpi .slt v205 c0_i32_147
  let c0_i32_148 : BitVec 32 := 0#32
  let v208 : BitVec 1 := Scalar.cmpi .slt v204 c0_i32_148
  let v209 : BitVec 1 := Scalar.xori v207 v208
  let c0_i32_146 : BitVec 32 := 0#32
  let v206 : BitVec 1 := Scalar.cmpi .ne v205 c0_i32_146
  let v210 : BitVec 1 := Scalar.andi v209 v206
  let v211 : BitVec 32 := Scalar.addi v205 v204
  let v212 : BitVec 32 := Scalar.select v210 v211 v205
  let c1_i32_150 : BitVec 32 := 1#32
  let v213 : BitVec 32 := Scalar.muli v212 c1_i32_150
  let v214 : BitVec 32 := Scalar.addi c0_i32_151 v213
  v214.toNat
def k0_dev16 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_165 : BitVec 32 := 1#32
  let v230 : BitVec 32 := Scalar.addi v2 c1_i32_165
  let c16_i32_166 : BitVec 32 := 16#32
  let c0_i32_167 : BitVec 32 := 0#32
  let v231 : BitVec 1 := Scalar.cmpi .eq c16_i32_166 c0_i32_167
  let c1_i32_168 : BitVec 32 := 1#32
  let v232 : BitVec 32 := Scalar.select v231 c1_i32_168 c16_i32_166
  let v233 : BitVec 32 := Scalar.remsi v230 v232
  let c0_i32_170 : BitVec 32 := 0#32
  let v235 : BitVec 1 := Scalar.cmpi .slt v233 c0_i32_170
  let c0_i32_171 : BitVec 32 := 0#32
  let v236 : BitVec 1 := Scalar.cmpi .slt v232 c0_i32_171
  let v237 : BitVec 1 := Scalar.xori v235 v236
  let c0_i32_169 : BitVec 32 := 0#32
  let v234 : BitVec 1 := Scalar.cmpi .ne v233 c0_i32_169
  let v238 : BitVec 1 := Scalar.andi v237 v234
  let v239 : BitVec 32 := Scalar.addi v233 v232
  let v240 : BitVec 32 := Scalar.select v238 v239 v233
  let c1_i32_180 : BitVec 32 := 1#32
  let v241 : BitVec 32 := Scalar.muli v240 c1_i32_180
  let v242 : BitVec 32 := Scalar.addi c0_i32_181 v241
  v242.toNat
def k0_dev17 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_188 : BitVec 32 := 2#32
  let v251 : BitVec 32 := Scalar.addi v2 c2_i32_188
  let c16_i32_189 : BitVec 32 := 16#32
  let c0_i32_190 : BitVec 32 := 0#32
  let v252 : BitVec 1 := Scalar.cmpi .eq c16_i32_189 c0_i32_190
  let c1_i32_191 : BitVec 32 := 1#32
  let v253 : BitVec 32 := Scalar.select v252 c1_i32_191 c16_i32_189
  let v254 : BitVec 32 := Scalar.remsi v251 v253
  let c0_i32_193 : BitVec 32 := 0#32
  let v256 : BitVec 1 := Scalar.cmpi .slt v254 c0_i32_193
  let c0_i32_194 : BitVec 32 := 0#32
  let v257 : BitVec 1 := Scalar.cmpi .slt v253 c0_i32_194
  let v258 : BitVec 1 := Scalar.xori v256 v257
  let c0_i32_192 : BitVec 32 := 0#32
  let v255 : BitVec 1 := Scalar.cmpi .ne v254 c0_i32_192
  let v259 : BitVec 1 := Scalar.andi v258 v255
  let v260 : BitVec 32 := Scalar.addi v254 v253
  let v261 : BitVec 32 := Scalar.select v259 v260 v254
  let c1_i32_203 : BitVec 32 := 1#32
  let v262 : BitVec 32 := Scalar.muli v261 c1_i32_203
  let v263 : BitVec 32 := Scalar.addi c0_i32_204 v262
  v263.toNat
def k0_dev18 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_211 : BitVec 32 := 3#32
  let v272 : BitVec 32 := Scalar.addi v2 c3_i32_211
  let c16_i32_212 : BitVec 32 := 16#32
  let c0_i32_213 : BitVec 32 := 0#32
  let v273 : BitVec 1 := Scalar.cmpi .eq c16_i32_212 c0_i32_213
  let c1_i32_214 : BitVec 32 := 1#32
  let v274 : BitVec 32 := Scalar.select v273 c1_i32_214 c16_i32_212
  let v275 : BitVec 32 := Scalar.remsi v272 v274
  let c0_i32_216 : BitVec 32 := 0#32
  let v277 : BitVec 1 := Scalar.cmpi .slt v275 c0_i32_216
  let c0_i32_217 : BitVec 32 := 0#32
  let v278 : BitVec 1 := Scalar.cmpi .slt v274 c0_i32_217
  let v279 : BitVec 1 := Scalar.xori v277 v278
  let c0_i32_215 : BitVec 32 := 0#32
  let v276 : BitVec 1 := Scalar.cmpi .ne v275 c0_i32_215
  let v280 : BitVec 1 := Scalar.andi v279 v276
  let v281 : BitVec 32 := Scalar.addi v275 v274
  let v282 : BitVec 32 := Scalar.select v280 v281 v275
  let c1_i32_226 : BitVec 32 := 1#32
  let v283 : BitVec 32 := Scalar.muli v282 c1_i32_226
  let v284 : BitVec 32 := Scalar.addi c0_i32_227 v283
  v284.toNat
def k0_dev19 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_234 : BitVec 32 := 4#32
  let v293 : BitVec 32 := Scalar.addi v2 c4_i32_234
  let c16_i32_235 : BitVec 32 := 16#32
  let c0_i32_236 : BitVec 32 := 0#32
  let v294 : BitVec 1 := Scalar.cmpi .eq c16_i32_235 c0_i32_236
  let c1_i32_237 : BitVec 32 := 1#32
  let v295 : BitVec 32 := Scalar.select v294 c1_i32_237 c16_i32_235
  let v296 : BitVec 32 := Scalar.remsi v293 v295
  let c0_i32_239 : BitVec 32 := 0#32
  let v298 : BitVec 1 := Scalar.cmpi .slt v296 c0_i32_239
  let c0_i32_240 : BitVec 32 := 0#32
  let v299 : BitVec 1 := Scalar.cmpi .slt v295 c0_i32_240
  let v300 : BitVec 1 := Scalar.xori v298 v299
  let c0_i32_238 : BitVec 32 := 0#32
  let v297 : BitVec 1 := Scalar.cmpi .ne v296 c0_i32_238
  let v301 : BitVec 1 := Scalar.andi v300 v297
  let v302 : BitVec 32 := Scalar.addi v296 v295
  let v303 : BitVec 32 := Scalar.select v301 v302 v296
  let c1_i32_249 : BitVec 32 := 1#32
  let v304 : BitVec 32 := Scalar.muli v303 c1_i32_249
  let v305 : BitVec 32 := Scalar.addi c0_i32_250 v304
  v305.toNat
def k0_dev20 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_257 : BitVec 32 := 5#32
  let v314 : BitVec 32 := Scalar.addi v2 c5_i32_257
  let c16_i32_258 : BitVec 32 := 16#32
  let c0_i32_259 : BitVec 32 := 0#32
  let v315 : BitVec 1 := Scalar.cmpi .eq c16_i32_258 c0_i32_259
  let c1_i32_260 : BitVec 32 := 1#32
  let v316 : BitVec 32 := Scalar.select v315 c1_i32_260 c16_i32_258
  let v317 : BitVec 32 := Scalar.remsi v314 v316
  let c0_i32_262 : BitVec 32 := 0#32
  let v319 : BitVec 1 := Scalar.cmpi .slt v317 c0_i32_262
  let c0_i32_263 : BitVec 32 := 0#32
  let v320 : BitVec 1 := Scalar.cmpi .slt v316 c0_i32_263
  let v321 : BitVec 1 := Scalar.xori v319 v320
  let c0_i32_261 : BitVec 32 := 0#32
  let v318 : BitVec 1 := Scalar.cmpi .ne v317 c0_i32_261
  let v322 : BitVec 1 := Scalar.andi v321 v318
  let v323 : BitVec 32 := Scalar.addi v317 v316
  let v324 : BitVec 32 := Scalar.select v322 v323 v317
  let c1_i32_272 : BitVec 32 := 1#32
  let v325 : BitVec 32 := Scalar.muli v324 c1_i32_272
  let v326 : BitVec 32 := Scalar.addi c0_i32_273 v325
  v326.toNat
def k0_dev21 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_280 : BitVec 32 := 6#32
  let v335 : BitVec 32 := Scalar.addi v2 c6_i32_280
  let c16_i32_281 : BitVec 32 := 16#32
  let c0_i32_282 : BitVec 32 := 0#32
  let v336 : BitVec 1 := Scalar.cmpi .eq c16_i32_281 c0_i32_282
  let c1_i32_283 : BitVec 32 := 1#32
  let v337 : BitVec 32 := Scalar.select v336 c1_i32_283 c16_i32_281
  let v338 : BitVec 32 := Scalar.remsi v335 v337
  let c0_i32_285 : BitVec 32 := 0#32
  let v340 : BitVec 1 := Scalar.cmpi .slt v338 c0_i32_285
  let c0_i32_286 : BitVec 32 := 0#32
  let v341 : BitVec 1 := Scalar.cmpi .slt v337 c0_i32_286
  let v342 : BitVec 1 := Scalar.xori v340 v341
  let c0_i32_284 : BitVec 32 := 0#32
  let v339 : BitVec 1 := Scalar.cmpi .ne v338 c0_i32_284
  let v343 : BitVec 1 := Scalar.andi v342 v339
  let v344 : BitVec 32 := Scalar.addi v338 v337
  let v345 : BitVec 32 := Scalar.select v343 v344 v338
  let c1_i32_295 : BitVec 32 := 1#32
  let v346 : BitVec 32 := Scalar.muli v345 c1_i32_295
  let v347 : BitVec 32 := Scalar.addi c0_i32_296 v346
  v347.toNat
def k0_dev22 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_303 : BitVec 32 := 7#32
  let v356 : BitVec 32 := Scalar.addi v2 c7_i32_303
  let c16_i32_304 : BitVec 32 := 16#32
  let c0_i32_305 : BitVec 32 := 0#32
  let v357 : BitVec 1 := Scalar.cmpi .eq c16_i32_304 c0_i32_305
  let c1_i32_306 : BitVec 32 := 1#32
  let v358 : BitVec 32 := Scalar.select v357 c1_i32_306 c16_i32_304
  let v359 : BitVec 32 := Scalar.remsi v356 v358
  let c0_i32_308 : BitVec 32 := 0#32
  let v361 : BitVec 1 := Scalar.cmpi .slt v359 c0_i32_308
  let c0_i32_309 : BitVec 32 := 0#32
  let v362 : BitVec 1 := Scalar.cmpi .slt v358 c0_i32_309
  let v363 : BitVec 1 := Scalar.xori v361 v362
  let c0_i32_307 : BitVec 32 := 0#32
  let v360 : BitVec 1 := Scalar.cmpi .ne v359 c0_i32_307
  let v364 : BitVec 1 := Scalar.andi v363 v360
  let v365 : BitVec 32 := Scalar.addi v359 v358
  let v366 : BitVec 32 := Scalar.select v364 v365 v359
  let c1_i32_318 : BitVec 32 := 1#32
  let v367 : BitVec 32 := Scalar.muli v366 c1_i32_318
  let v368 : BitVec 32 := Scalar.addi c0_i32_319 v367
  v368.toNat
def k0_dev23 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_326 : BitVec 32 := 8#32
  let v377 : BitVec 32 := Scalar.addi v2 c8_i32_326
  let c16_i32_327 : BitVec 32 := 16#32
  let c0_i32_328 : BitVec 32 := 0#32
  let v378 : BitVec 1 := Scalar.cmpi .eq c16_i32_327 c0_i32_328
  let c1_i32_329 : BitVec 32 := 1#32
  let v379 : BitVec 32 := Scalar.select v378 c1_i32_329 c16_i32_327
  let v380 : BitVec 32 := Scalar.remsi v377 v379
  let c0_i32_331 : BitVec 32 := 0#32
  let v382 : BitVec 1 := Scalar.cmpi .slt v380 c0_i32_331
  let c0_i32_332 : BitVec 32 := 0#32
  let v383 : BitVec 1 := Scalar.cmpi .slt v379 c0_i32_332
  let v384 : BitVec 1 := Scalar.xori v382 v383
  let c0_i32_330 : BitVec 32 := 0#32
  let v381 : BitVec 1 := Scalar.cmpi .ne v380 c0_i32_330
  let v385 : BitVec 1 := Scalar.andi v384 v381
  let v386 : BitVec 32 := Scalar.addi v380 v379
  let v387 : BitVec 32 := Scalar.select v385 v386 v380
  let c1_i32_341 : BitVec 32 := 1#32
  let v388 : BitVec 32 := Scalar.muli v387 c1_i32_341
  let v389 : BitVec 32 := Scalar.addi c0_i32_342 v388
  v389.toNat
def k0_dev24 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_349 : BitVec 32 := 9#32
  let v398 : BitVec 32 := Scalar.addi v2 c9_i32_349
  let c16_i32_350 : BitVec 32 := 16#32
  let c0_i32_351 : BitVec 32 := 0#32
  let v399 : BitVec 1 := Scalar.cmpi .eq c16_i32_350 c0_i32_351
  let c1_i32_352 : BitVec 32 := 1#32
  let v400 : BitVec 32 := Scalar.select v399 c1_i32_352 c16_i32_350
  let v401 : BitVec 32 := Scalar.remsi v398 v400
  let c0_i32_354 : BitVec 32 := 0#32
  let v403 : BitVec 1 := Scalar.cmpi .slt v401 c0_i32_354
  let c0_i32_355 : BitVec 32 := 0#32
  let v404 : BitVec 1 := Scalar.cmpi .slt v400 c0_i32_355
  let v405 : BitVec 1 := Scalar.xori v403 v404
  let c0_i32_353 : BitVec 32 := 0#32
  let v402 : BitVec 1 := Scalar.cmpi .ne v401 c0_i32_353
  let v406 : BitVec 1 := Scalar.andi v405 v402
  let v407 : BitVec 32 := Scalar.addi v401 v400
  let v408 : BitVec 32 := Scalar.select v406 v407 v401
  let c1_i32_364 : BitVec 32 := 1#32
  let v409 : BitVec 32 := Scalar.muli v408 c1_i32_364
  let v410 : BitVec 32 := Scalar.addi c0_i32_365 v409
  v410.toNat
def k0_dev25 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_372 : BitVec 32 := 10#32
  let v419 : BitVec 32 := Scalar.addi v2 c10_i32_372
  let c16_i32_373 : BitVec 32 := 16#32
  let c0_i32_374 : BitVec 32 := 0#32
  let v420 : BitVec 1 := Scalar.cmpi .eq c16_i32_373 c0_i32_374
  let c1_i32_375 : BitVec 32 := 1#32
  let v421 : BitVec 32 := Scalar.select v420 c1_i32_375 c16_i32_373
  let v422 : BitVec 32 := Scalar.remsi v419 v421
  let c0_i32_377 : BitVec 32 := 0#32
  let v424 : BitVec 1 := Scalar.cmpi .slt v422 c0_i32_377
  let c0_i32_378 : BitVec 32 := 0#32
  let v425 : BitVec 1 := Scalar.cmpi .slt v421 c0_i32_378
  let v426 : BitVec 1 := Scalar.xori v424 v425
  let c0_i32_376 : BitVec 32 := 0#32
  let v423 : BitVec 1 := Scalar.cmpi .ne v422 c0_i32_376
  let v427 : BitVec 1 := Scalar.andi v426 v423
  let v428 : BitVec 32 := Scalar.addi v422 v421
  let v429 : BitVec 32 := Scalar.select v427 v428 v422
  let c1_i32_387 : BitVec 32 := 1#32
  let v430 : BitVec 32 := Scalar.muli v429 c1_i32_387
  let v431 : BitVec 32 := Scalar.addi c0_i32_388 v430
  v431.toNat
def k0_dev26 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_395 : BitVec 32 := 11#32
  let v440 : BitVec 32 := Scalar.addi v2 c11_i32_395
  let c16_i32_396 : BitVec 32 := 16#32
  let c0_i32_397 : BitVec 32 := 0#32
  let v441 : BitVec 1 := Scalar.cmpi .eq c16_i32_396 c0_i32_397
  let c1_i32_398 : BitVec 32 := 1#32
  let v442 : BitVec 32 := Scalar.select v441 c1_i32_398 c16_i32_396
  let v443 : BitVec 32 := Scalar.remsi v440 v442
  let c0_i32_400 : BitVec 32 := 0#32
  let v445 : BitVec 1 := Scalar.cmpi .slt v443 c0_i32_400
  let c0_i32_401 : BitVec 32 := 0#32
  let v446 : BitVec 1 := Scalar.cmpi .slt v442 c0_i32_401
  let v447 : BitVec 1 := Scalar.xori v445 v446
  let c0_i32_399 : BitVec 32 := 0#32
  let v444 : BitVec 1 := Scalar.cmpi .ne v443 c0_i32_399
  let v448 : BitVec 1 := Scalar.andi v447 v444
  let v449 : BitVec 32 := Scalar.addi v443 v442
  let v450 : BitVec 32 := Scalar.select v448 v449 v443
  let c1_i32_410 : BitVec 32 := 1#32
  let v451 : BitVec 32 := Scalar.muli v450 c1_i32_410
  let v452 : BitVec 32 := Scalar.addi c0_i32_411 v451
  v452.toNat
def k0_dev27 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_418 : BitVec 32 := 12#32
  let v461 : BitVec 32 := Scalar.addi v2 c12_i32_418
  let c16_i32_419 : BitVec 32 := 16#32
  let c0_i32_420 : BitVec 32 := 0#32
  let v462 : BitVec 1 := Scalar.cmpi .eq c16_i32_419 c0_i32_420
  let c1_i32_421 : BitVec 32 := 1#32
  let v463 : BitVec 32 := Scalar.select v462 c1_i32_421 c16_i32_419
  let v464 : BitVec 32 := Scalar.remsi v461 v463
  let c0_i32_423 : BitVec 32 := 0#32
  let v466 : BitVec 1 := Scalar.cmpi .slt v464 c0_i32_423
  let c0_i32_424 : BitVec 32 := 0#32
  let v467 : BitVec 1 := Scalar.cmpi .slt v463 c0_i32_424
  let v468 : BitVec 1 := Scalar.xori v466 v467
  let c0_i32_422 : BitVec 32 := 0#32
  let v465 : BitVec 1 := Scalar.cmpi .ne v464 c0_i32_422
  let v469 : BitVec 1 := Scalar.andi v468 v465
  let v470 : BitVec 32 := Scalar.addi v464 v463
  let v471 : BitVec 32 := Scalar.select v469 v470 v464
  let c1_i32_433 : BitVec 32 := 1#32
  let v472 : BitVec 32 := Scalar.muli v471 c1_i32_433
  let v473 : BitVec 32 := Scalar.addi c0_i32_434 v472
  v473.toNat
def k0_dev28 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_441 : BitVec 32 := 13#32
  let v482 : BitVec 32 := Scalar.addi v2 c13_i32_441
  let c16_i32_442 : BitVec 32 := 16#32
  let c0_i32_443 : BitVec 32 := 0#32
  let v483 : BitVec 1 := Scalar.cmpi .eq c16_i32_442 c0_i32_443
  let c1_i32_444 : BitVec 32 := 1#32
  let v484 : BitVec 32 := Scalar.select v483 c1_i32_444 c16_i32_442
  let v485 : BitVec 32 := Scalar.remsi v482 v484
  let c0_i32_446 : BitVec 32 := 0#32
  let v487 : BitVec 1 := Scalar.cmpi .slt v485 c0_i32_446
  let c0_i32_447 : BitVec 32 := 0#32
  let v488 : BitVec 1 := Scalar.cmpi .slt v484 c0_i32_447
  let v489 : BitVec 1 := Scalar.xori v487 v488
  let c0_i32_445 : BitVec 32 := 0#32
  let v486 : BitVec 1 := Scalar.cmpi .ne v485 c0_i32_445
  let v490 : BitVec 1 := Scalar.andi v489 v486
  let v491 : BitVec 32 := Scalar.addi v485 v484
  let v492 : BitVec 32 := Scalar.select v490 v491 v485
  let c1_i32_456 : BitVec 32 := 1#32
  let v493 : BitVec 32 := Scalar.muli v492 c1_i32_456
  let v494 : BitVec 32 := Scalar.addi c0_i32_457 v493
  v494.toNat
def k0_dev29 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_464 : BitVec 32 := 14#32
  let v503 : BitVec 32 := Scalar.addi v2 c14_i32_464
  let c16_i32_465 : BitVec 32 := 16#32
  let c0_i32_466 : BitVec 32 := 0#32
  let v504 : BitVec 1 := Scalar.cmpi .eq c16_i32_465 c0_i32_466
  let c1_i32_467 : BitVec 32 := 1#32
  let v505 : BitVec 32 := Scalar.select v504 c1_i32_467 c16_i32_465
  let v506 : BitVec 32 := Scalar.remsi v503 v505
  let c0_i32_469 : BitVec 32 := 0#32
  let v508 : BitVec 1 := Scalar.cmpi .slt v506 c0_i32_469
  let c0_i32_470 : BitVec 32 := 0#32
  let v509 : BitVec 1 := Scalar.cmpi .slt v505 c0_i32_470
  let v510 : BitVec 1 := Scalar.xori v508 v509
  let c0_i32_468 : BitVec 32 := 0#32
  let v507 : BitVec 1 := Scalar.cmpi .ne v506 c0_i32_468
  let v511 : BitVec 1 := Scalar.andi v510 v507
  let v512 : BitVec 32 := Scalar.addi v506 v505
  let v513 : BitVec 32 := Scalar.select v511 v512 v506
  let c1_i32_479 : BitVec 32 := 1#32
  let v514 : BitVec 32 := Scalar.muli v513 c1_i32_479
  let v515 : BitVec 32 := Scalar.addi c0_i32_480 v514
  v515.toNat
def k0_dev30 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_487 : BitVec 32 := 15#32
  let v524 : BitVec 32 := Scalar.addi v2 c15_i32_487
  let c16_i32_488 : BitVec 32 := 16#32
  let c0_i32_489 : BitVec 32 := 0#32
  let v525 : BitVec 1 := Scalar.cmpi .eq c16_i32_488 c0_i32_489
  let c1_i32_490 : BitVec 32 := 1#32
  let v526 : BitVec 32 := Scalar.select v525 c1_i32_490 c16_i32_488
  let v527 : BitVec 32 := Scalar.remsi v524 v526
  let c0_i32_492 : BitVec 32 := 0#32
  let v529 : BitVec 1 := Scalar.cmpi .slt v527 c0_i32_492
  let c0_i32_493 : BitVec 32 := 0#32
  let v530 : BitVec 1 := Scalar.cmpi .slt v526 c0_i32_493
  let v531 : BitVec 1 := Scalar.xori v529 v530
  let c0_i32_491 : BitVec 32 := 0#32
  let v528 : BitVec 1 := Scalar.cmpi .ne v527 c0_i32_491
  let v532 : BitVec 1 := Scalar.andi v531 v528
  let v533 : BitVec 32 := Scalar.addi v527 v526
  let v534 : BitVec 32 := Scalar.select v532 v533 v527
  let c1_i32_502 : BitVec 32 := 1#32
  let v535 : BitVec 32 := Scalar.muli v534 c1_i32_502
  let v536 : BitVec 32 := Scalar.addi c0_i32_503 v535
  v536.toNat
def k0_dev31 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_522 : BitVec 32 := 1#32
  let v560 : BitVec 32 := Scalar.addi v2 c1_i32_522
  let c16_i32_523 : BitVec 32 := 16#32
  let c0_i32_524 : BitVec 32 := 0#32
  let v561 : BitVec 1 := Scalar.cmpi .eq c16_i32_523 c0_i32_524
  let c1_i32_525 : BitVec 32 := 1#32
  let v562 : BitVec 32 := Scalar.select v561 c1_i32_525 c16_i32_523
  let v563 : BitVec 32 := Scalar.remsi v560 v562
  let c0_i32_527 : BitVec 32 := 0#32
  let v565 : BitVec 1 := Scalar.cmpi .slt v563 c0_i32_527
  let c0_i32_528 : BitVec 32 := 0#32
  let v566 : BitVec 1 := Scalar.cmpi .slt v562 c0_i32_528
  let v567 : BitVec 1 := Scalar.xori v565 v566
  let c0_i32_526 : BitVec 32 := 0#32
  let v564 : BitVec 1 := Scalar.cmpi .ne v563 c0_i32_526
  let v568 : BitVec 1 := Scalar.andi v567 v564
  let v569 : BitVec 32 := Scalar.addi v563 v562
  let v570 : BitVec 32 := Scalar.select v568 v569 v563
  let c1_i32_537 : BitVec 32 := 1#32
  let v571 : BitVec 32 := Scalar.muli v570 c1_i32_537
  let v572 : BitVec 32 := Scalar.addi c0_i32_538 v571
  v572.toNat
def k0_dev32 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_545 : BitVec 32 := 2#32
  let v581 : BitVec 32 := Scalar.addi v2 c2_i32_545
  let c16_i32_546 : BitVec 32 := 16#32
  let c0_i32_547 : BitVec 32 := 0#32
  let v582 : BitVec 1 := Scalar.cmpi .eq c16_i32_546 c0_i32_547
  let c1_i32_548 : BitVec 32 := 1#32
  let v583 : BitVec 32 := Scalar.select v582 c1_i32_548 c16_i32_546
  let v584 : BitVec 32 := Scalar.remsi v581 v583
  let c0_i32_550 : BitVec 32 := 0#32
  let v586 : BitVec 1 := Scalar.cmpi .slt v584 c0_i32_550
  let c0_i32_551 : BitVec 32 := 0#32
  let v587 : BitVec 1 := Scalar.cmpi .slt v583 c0_i32_551
  let v588 : BitVec 1 := Scalar.xori v586 v587
  let c0_i32_549 : BitVec 32 := 0#32
  let v585 : BitVec 1 := Scalar.cmpi .ne v584 c0_i32_549
  let v589 : BitVec 1 := Scalar.andi v588 v585
  let v590 : BitVec 32 := Scalar.addi v584 v583
  let v591 : BitVec 32 := Scalar.select v589 v590 v584
  let c1_i32_560 : BitVec 32 := 1#32
  let v592 : BitVec 32 := Scalar.muli v591 c1_i32_560
  let v593 : BitVec 32 := Scalar.addi c0_i32_561 v592
  v593.toNat
def k0_dev33 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_568 : BitVec 32 := 3#32
  let v602 : BitVec 32 := Scalar.addi v2 c3_i32_568
  let c16_i32_569 : BitVec 32 := 16#32
  let c0_i32_570 : BitVec 32 := 0#32
  let v603 : BitVec 1 := Scalar.cmpi .eq c16_i32_569 c0_i32_570
  let c1_i32_571 : BitVec 32 := 1#32
  let v604 : BitVec 32 := Scalar.select v603 c1_i32_571 c16_i32_569
  let v605 : BitVec 32 := Scalar.remsi v602 v604
  let c0_i32_573 : BitVec 32 := 0#32
  let v607 : BitVec 1 := Scalar.cmpi .slt v605 c0_i32_573
  let c0_i32_574 : BitVec 32 := 0#32
  let v608 : BitVec 1 := Scalar.cmpi .slt v604 c0_i32_574
  let v609 : BitVec 1 := Scalar.xori v607 v608
  let c0_i32_572 : BitVec 32 := 0#32
  let v606 : BitVec 1 := Scalar.cmpi .ne v605 c0_i32_572
  let v610 : BitVec 1 := Scalar.andi v609 v606
  let v611 : BitVec 32 := Scalar.addi v605 v604
  let v612 : BitVec 32 := Scalar.select v610 v611 v605
  let c1_i32_583 : BitVec 32 := 1#32
  let v613 : BitVec 32 := Scalar.muli v612 c1_i32_583
  let v614 : BitVec 32 := Scalar.addi c0_i32_584 v613
  v614.toNat
def k0_dev34 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_591 : BitVec 32 := 4#32
  let v623 : BitVec 32 := Scalar.addi v2 c4_i32_591
  let c16_i32_592 : BitVec 32 := 16#32
  let c0_i32_593 : BitVec 32 := 0#32
  let v624 : BitVec 1 := Scalar.cmpi .eq c16_i32_592 c0_i32_593
  let c1_i32_594 : BitVec 32 := 1#32
  let v625 : BitVec 32 := Scalar.select v624 c1_i32_594 c16_i32_592
  let v626 : BitVec 32 := Scalar.remsi v623 v625
  let c0_i32_596 : BitVec 32 := 0#32
  let v628 : BitVec 1 := Scalar.cmpi .slt v626 c0_i32_596
  let c0_i32_597 : BitVec 32 := 0#32
  let v629 : BitVec 1 := Scalar.cmpi .slt v625 c0_i32_597
  let v630 : BitVec 1 := Scalar.xori v628 v629
  let c0_i32_595 : BitVec 32 := 0#32
  let v627 : BitVec 1 := Scalar.cmpi .ne v626 c0_i32_595
  let v631 : BitVec 1 := Scalar.andi v630 v627
  let v632 : BitVec 32 := Scalar.addi v626 v625
  let v633 : BitVec 32 := Scalar.select v631 v632 v626
  let c1_i32_606 : BitVec 32 := 1#32
  let v634 : BitVec 32 := Scalar.muli v633 c1_i32_606
  let v635 : BitVec 32 := Scalar.addi c0_i32_607 v634
  v635.toNat
def k0_dev35 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_614 : BitVec 32 := 5#32
  let v644 : BitVec 32 := Scalar.addi v2 c5_i32_614
  let c16_i32_615 : BitVec 32 := 16#32
  let c0_i32_616 : BitVec 32 := 0#32
  let v645 : BitVec 1 := Scalar.cmpi .eq c16_i32_615 c0_i32_616
  let c1_i32_617 : BitVec 32 := 1#32
  let v646 : BitVec 32 := Scalar.select v645 c1_i32_617 c16_i32_615
  let v647 : BitVec 32 := Scalar.remsi v644 v646
  let c0_i32_619 : BitVec 32 := 0#32
  let v649 : BitVec 1 := Scalar.cmpi .slt v647 c0_i32_619
  let c0_i32_620 : BitVec 32 := 0#32
  let v650 : BitVec 1 := Scalar.cmpi .slt v646 c0_i32_620
  let v651 : BitVec 1 := Scalar.xori v649 v650
  let c0_i32_618 : BitVec 32 := 0#32
  let v648 : BitVec 1 := Scalar.cmpi .ne v647 c0_i32_618
  let v652 : BitVec 1 := Scalar.andi v651 v648
  let v653 : BitVec 32 := Scalar.addi v647 v646
  let v654 : BitVec 32 := Scalar.select v652 v653 v647
  let c1_i32_629 : BitVec 32 := 1#32
  let v655 : BitVec 32 := Scalar.muli v654 c1_i32_629
  let v656 : BitVec 32 := Scalar.addi c0_i32_630 v655
  v656.toNat
def k0_dev36 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_637 : BitVec 32 := 6#32
  let v665 : BitVec 32 := Scalar.addi v2 c6_i32_637
  let c16_i32_638 : BitVec 32 := 16#32
  let c0_i32_639 : BitVec 32 := 0#32
  let v666 : BitVec 1 := Scalar.cmpi .eq c16_i32_638 c0_i32_639
  let c1_i32_640 : BitVec 32 := 1#32
  let v667 : BitVec 32 := Scalar.select v666 c1_i32_640 c16_i32_638
  let v668 : BitVec 32 := Scalar.remsi v665 v667
  let c0_i32_642 : BitVec 32 := 0#32
  let v670 : BitVec 1 := Scalar.cmpi .slt v668 c0_i32_642
  let c0_i32_643 : BitVec 32 := 0#32
  let v671 : BitVec 1 := Scalar.cmpi .slt v667 c0_i32_643
  let v672 : BitVec 1 := Scalar.xori v670 v671
  let c0_i32_641 : BitVec 32 := 0#32
  let v669 : BitVec 1 := Scalar.cmpi .ne v668 c0_i32_641
  let v673 : BitVec 1 := Scalar.andi v672 v669
  let v674 : BitVec 32 := Scalar.addi v668 v667
  let v675 : BitVec 32 := Scalar.select v673 v674 v668
  let c1_i32_652 : BitVec 32 := 1#32
  let v676 : BitVec 32 := Scalar.muli v675 c1_i32_652
  let v677 : BitVec 32 := Scalar.addi c0_i32_653 v676
  v677.toNat
def k0_dev37 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_660 : BitVec 32 := 7#32
  let v686 : BitVec 32 := Scalar.addi v2 c7_i32_660
  let c16_i32_661 : BitVec 32 := 16#32
  let c0_i32_662 : BitVec 32 := 0#32
  let v687 : BitVec 1 := Scalar.cmpi .eq c16_i32_661 c0_i32_662
  let c1_i32_663 : BitVec 32 := 1#32
  let v688 : BitVec 32 := Scalar.select v687 c1_i32_663 c16_i32_661
  let v689 : BitVec 32 := Scalar.remsi v686 v688
  let c0_i32_665 : BitVec 32 := 0#32
  let v691 : BitVec 1 := Scalar.cmpi .slt v689 c0_i32_665
  let c0_i32_666 : BitVec 32 := 0#32
  let v692 : BitVec 1 := Scalar.cmpi .slt v688 c0_i32_666
  let v693 : BitVec 1 := Scalar.xori v691 v692
  let c0_i32_664 : BitVec 32 := 0#32
  let v690 : BitVec 1 := Scalar.cmpi .ne v689 c0_i32_664
  let v694 : BitVec 1 := Scalar.andi v693 v690
  let v695 : BitVec 32 := Scalar.addi v689 v688
  let v696 : BitVec 32 := Scalar.select v694 v695 v689
  let c1_i32_675 : BitVec 32 := 1#32
  let v697 : BitVec 32 := Scalar.muli v696 c1_i32_675
  let v698 : BitVec 32 := Scalar.addi c0_i32_676 v697
  v698.toNat
def k0_dev38 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_683 : BitVec 32 := 8#32
  let v707 : BitVec 32 := Scalar.addi v2 c8_i32_683
  let c16_i32_684 : BitVec 32 := 16#32
  let c0_i32_685 : BitVec 32 := 0#32
  let v708 : BitVec 1 := Scalar.cmpi .eq c16_i32_684 c0_i32_685
  let c1_i32_686 : BitVec 32 := 1#32
  let v709 : BitVec 32 := Scalar.select v708 c1_i32_686 c16_i32_684
  let v710 : BitVec 32 := Scalar.remsi v707 v709
  let c0_i32_688 : BitVec 32 := 0#32
  let v712 : BitVec 1 := Scalar.cmpi .slt v710 c0_i32_688
  let c0_i32_689 : BitVec 32 := 0#32
  let v713 : BitVec 1 := Scalar.cmpi .slt v709 c0_i32_689
  let v714 : BitVec 1 := Scalar.xori v712 v713
  let c0_i32_687 : BitVec 32 := 0#32
  let v711 : BitVec 1 := Scalar.cmpi .ne v710 c0_i32_687
  let v715 : BitVec 1 := Scalar.andi v714 v711
  let v716 : BitVec 32 := Scalar.addi v710 v709
  let v717 : BitVec 32 := Scalar.select v715 v716 v710
  let c1_i32_698 : BitVec 32 := 1#32
  let v718 : BitVec 32 := Scalar.muli v717 c1_i32_698
  let v719 : BitVec 32 := Scalar.addi c0_i32_699 v718
  v719.toNat
def k0_dev39 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_706 : BitVec 32 := 9#32
  let v728 : BitVec 32 := Scalar.addi v2 c9_i32_706
  let c16_i32_707 : BitVec 32 := 16#32
  let c0_i32_708 : BitVec 32 := 0#32
  let v729 : BitVec 1 := Scalar.cmpi .eq c16_i32_707 c0_i32_708
  let c1_i32_709 : BitVec 32 := 1#32
  let v730 : BitVec 32 := Scalar.select v729 c1_i32_709 c16_i32_707
  let v731 : BitVec 32 := Scalar.remsi v728 v730
  let c0_i32_711 : BitVec 32 := 0#32
  let v733 : BitVec 1 := Scalar.cmpi .slt v731 c0_i32_711
  let c0_i32_712 : BitVec 32 := 0#32
  let v734 : BitVec 1 := Scalar.cmpi .slt v730 c0_i32_712
  let v735 : BitVec 1 := Scalar.xori v733 v734
  let c0_i32_710 : BitVec 32 := 0#32
  let v732 : BitVec 1 := Scalar.cmpi .ne v731 c0_i32_710
  let v736 : BitVec 1 := Scalar.andi v735 v732
  let v737 : BitVec 32 := Scalar.addi v731 v730
  let v738 : BitVec 32 := Scalar.select v736 v737 v731
  let c1_i32_721 : BitVec 32 := 1#32
  let v739 : BitVec 32 := Scalar.muli v738 c1_i32_721
  let v740 : BitVec 32 := Scalar.addi c0_i32_722 v739
  v740.toNat
def k0_dev40 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_729 : BitVec 32 := 10#32
  let v749 : BitVec 32 := Scalar.addi v2 c10_i32_729
  let c16_i32_730 : BitVec 32 := 16#32
  let c0_i32_731 : BitVec 32 := 0#32
  let v750 : BitVec 1 := Scalar.cmpi .eq c16_i32_730 c0_i32_731
  let c1_i32_732 : BitVec 32 := 1#32
  let v751 : BitVec 32 := Scalar.select v750 c1_i32_732 c16_i32_730
  let v752 : BitVec 32 := Scalar.remsi v749 v751
  let c0_i32_734 : BitVec 32 := 0#32
  let v754 : BitVec 1 := Scalar.cmpi .slt v752 c0_i32_734
  let c0_i32_735 : BitVec 32 := 0#32
  let v755 : BitVec 1 := Scalar.cmpi .slt v751 c0_i32_735
  let v756 : BitVec 1 := Scalar.xori v754 v755
  let c0_i32_733 : BitVec 32 := 0#32
  let v753 : BitVec 1 := Scalar.cmpi .ne v752 c0_i32_733
  let v757 : BitVec 1 := Scalar.andi v756 v753
  let v758 : BitVec 32 := Scalar.addi v752 v751
  let v759 : BitVec 32 := Scalar.select v757 v758 v752
  let c1_i32_744 : BitVec 32 := 1#32
  let v760 : BitVec 32 := Scalar.muli v759 c1_i32_744
  let v761 : BitVec 32 := Scalar.addi c0_i32_745 v760
  v761.toNat
def k0_dev41 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_752 : BitVec 32 := 11#32
  let v770 : BitVec 32 := Scalar.addi v2 c11_i32_752
  let c16_i32_753 : BitVec 32 := 16#32
  let c0_i32_754 : BitVec 32 := 0#32
  let v771 : BitVec 1 := Scalar.cmpi .eq c16_i32_753 c0_i32_754
  let c1_i32_755 : BitVec 32 := 1#32
  let v772 : BitVec 32 := Scalar.select v771 c1_i32_755 c16_i32_753
  let v773 : BitVec 32 := Scalar.remsi v770 v772
  let c0_i32_757 : BitVec 32 := 0#32
  let v775 : BitVec 1 := Scalar.cmpi .slt v773 c0_i32_757
  let c0_i32_758 : BitVec 32 := 0#32
  let v776 : BitVec 1 := Scalar.cmpi .slt v772 c0_i32_758
  let v777 : BitVec 1 := Scalar.xori v775 v776
  let c0_i32_756 : BitVec 32 := 0#32
  let v774 : BitVec 1 := Scalar.cmpi .ne v773 c0_i32_756
  let v778 : BitVec 1 := Scalar.andi v777 v774
  let v779 : BitVec 32 := Scalar.addi v773 v772
  let v780 : BitVec 32 := Scalar.select v778 v779 v773
  let c1_i32_767 : BitVec 32 := 1#32
  let v781 : BitVec 32 := Scalar.muli v780 c1_i32_767
  let v782 : BitVec 32 := Scalar.addi c0_i32_768 v781
  v782.toNat
def k0_dev42 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_775 : BitVec 32 := 12#32
  let v791 : BitVec 32 := Scalar.addi v2 c12_i32_775
  let c16_i32_776 : BitVec 32 := 16#32
  let c0_i32_777 : BitVec 32 := 0#32
  let v792 : BitVec 1 := Scalar.cmpi .eq c16_i32_776 c0_i32_777
  let c1_i32_778 : BitVec 32 := 1#32
  let v793 : BitVec 32 := Scalar.select v792 c1_i32_778 c16_i32_776
  let v794 : BitVec 32 := Scalar.remsi v791 v793
  let c0_i32_780 : BitVec 32 := 0#32
  let v796 : BitVec 1 := Scalar.cmpi .slt v794 c0_i32_780
  let c0_i32_781 : BitVec 32 := 0#32
  let v797 : BitVec 1 := Scalar.cmpi .slt v793 c0_i32_781
  let v798 : BitVec 1 := Scalar.xori v796 v797
  let c0_i32_779 : BitVec 32 := 0#32
  let v795 : BitVec 1 := Scalar.cmpi .ne v794 c0_i32_779
  let v799 : BitVec 1 := Scalar.andi v798 v795
  let v800 : BitVec 32 := Scalar.addi v794 v793
  let v801 : BitVec 32 := Scalar.select v799 v800 v794
  let c1_i32_790 : BitVec 32 := 1#32
  let v802 : BitVec 32 := Scalar.muli v801 c1_i32_790
  let v803 : BitVec 32 := Scalar.addi c0_i32_791 v802
  v803.toNat
def k0_dev43 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_798 : BitVec 32 := 13#32
  let v812 : BitVec 32 := Scalar.addi v2 c13_i32_798
  let c16_i32_799 : BitVec 32 := 16#32
  let c0_i32_800 : BitVec 32 := 0#32
  let v813 : BitVec 1 := Scalar.cmpi .eq c16_i32_799 c0_i32_800
  let c1_i32_801 : BitVec 32 := 1#32
  let v814 : BitVec 32 := Scalar.select v813 c1_i32_801 c16_i32_799
  let v815 : BitVec 32 := Scalar.remsi v812 v814
  let c0_i32_803 : BitVec 32 := 0#32
  let v817 : BitVec 1 := Scalar.cmpi .slt v815 c0_i32_803
  let c0_i32_804 : BitVec 32 := 0#32
  let v818 : BitVec 1 := Scalar.cmpi .slt v814 c0_i32_804
  let v819 : BitVec 1 := Scalar.xori v817 v818
  let c0_i32_802 : BitVec 32 := 0#32
  let v816 : BitVec 1 := Scalar.cmpi .ne v815 c0_i32_802
  let v820 : BitVec 1 := Scalar.andi v819 v816
  let v821 : BitVec 32 := Scalar.addi v815 v814
  let v822 : BitVec 32 := Scalar.select v820 v821 v815
  let c1_i32_813 : BitVec 32 := 1#32
  let v823 : BitVec 32 := Scalar.muli v822 c1_i32_813
  let v824 : BitVec 32 := Scalar.addi c0_i32_814 v823
  v824.toNat
def k0_dev44 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_821 : BitVec 32 := 14#32
  let v833 : BitVec 32 := Scalar.addi v2 c14_i32_821
  let c16_i32_822 : BitVec 32 := 16#32
  let c0_i32_823 : BitVec 32 := 0#32
  let v834 : BitVec 1 := Scalar.cmpi .eq c16_i32_822 c0_i32_823
  let c1_i32_824 : BitVec 32 := 1#32
  let v835 : BitVec 32 := Scalar.select v834 c1_i32_824 c16_i32_822
  let v836 : BitVec 32 := Scalar.remsi v833 v835
  let c0_i32_826 : BitVec 32 := 0#32
  let v838 : BitVec 1 := Scalar.cmpi .slt v836 c0_i32_826
  let c0_i32_827 : BitVec 32 := 0#32
  let v839 : BitVec 1 := Scalar.cmpi .slt v835 c0_i32_827
  let v840 : BitVec 1 := Scalar.xori v838 v839
  let c0_i32_825 : BitVec 32 := 0#32
  let v837 : BitVec 1 := Scalar.cmpi .ne v836 c0_i32_825
  let v841 : BitVec 1 := Scalar.andi v840 v837
  let v842 : BitVec 32 := Scalar.addi v836 v835
  let v843 : BitVec 32 := Scalar.select v841 v842 v836
  let c1_i32_836 : BitVec 32 := 1#32
  let v844 : BitVec 32 := Scalar.muli v843 c1_i32_836
  let v845 : BitVec 32 := Scalar.addi c0_i32_837 v844
  v845.toNat
def k0_dev45 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_844 : BitVec 32 := 15#32
  let v854 : BitVec 32 := Scalar.addi v2 c15_i32_844
  let c16_i32_845 : BitVec 32 := 16#32
  let c0_i32_846 : BitVec 32 := 0#32
  let v855 : BitVec 1 := Scalar.cmpi .eq c16_i32_845 c0_i32_846
  let c1_i32_847 : BitVec 32 := 1#32
  let v856 : BitVec 32 := Scalar.select v855 c1_i32_847 c16_i32_845
  let v857 : BitVec 32 := Scalar.remsi v854 v856
  let c0_i32_849 : BitVec 32 := 0#32
  let v859 : BitVec 1 := Scalar.cmpi .slt v857 c0_i32_849
  let c0_i32_850 : BitVec 32 := 0#32
  let v860 : BitVec 1 := Scalar.cmpi .slt v856 c0_i32_850
  let v861 : BitVec 1 := Scalar.xori v859 v860
  let c0_i32_848 : BitVec 32 := 0#32
  let v858 : BitVec 1 := Scalar.cmpi .ne v857 c0_i32_848
  let v862 : BitVec 1 := Scalar.andi v861 v858
  let v863 : BitVec 32 := Scalar.addi v857 v856
  let v864 : BitVec 32 := Scalar.select v862 v863 v857
  let c1_i32_859 : BitVec 32 := 1#32
  let v865 : BitVec 32 := Scalar.muli v864 c1_i32_859
  let v866 : BitVec 32 := Scalar.addi c0_i32_860 v865
  v866.toNat
def k0_dev46 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_879 : BitVec 32 := 1#32
  let v890 : BitVec 32 := Scalar.addi v2 c1_i32_879
  let c16_i32_880 : BitVec 32 := 16#32
  let c0_i32_881 : BitVec 32 := 0#32
  let v891 : BitVec 1 := Scalar.cmpi .eq c16_i32_880 c0_i32_881
  let c1_i32_882 : BitVec 32 := 1#32
  let v892 : BitVec 32 := Scalar.select v891 c1_i32_882 c16_i32_880
  let v893 : BitVec 32 := Scalar.remsi v890 v892
  let c0_i32_884 : BitVec 32 := 0#32
  let v895 : BitVec 1 := Scalar.cmpi .slt v893 c0_i32_884
  let c0_i32_885 : BitVec 32 := 0#32
  let v896 : BitVec 1 := Scalar.cmpi .slt v892 c0_i32_885
  let v897 : BitVec 1 := Scalar.xori v895 v896
  let c0_i32_883 : BitVec 32 := 0#32
  let v894 : BitVec 1 := Scalar.cmpi .ne v893 c0_i32_883
  let v898 : BitVec 1 := Scalar.andi v897 v894
  let v899 : BitVec 32 := Scalar.addi v893 v892
  let v900 : BitVec 32 := Scalar.select v898 v899 v893
  let c1_i32_894 : BitVec 32 := 1#32
  let v901 : BitVec 32 := Scalar.muli v900 c1_i32_894
  let v902 : BitVec 32 := Scalar.addi c0_i32_895 v901
  v902.toNat
def k0_dev47 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_902 : BitVec 32 := 2#32
  let v911 : BitVec 32 := Scalar.addi v2 c2_i32_902
  let c16_i32_903 : BitVec 32 := 16#32
  let c0_i32_904 : BitVec 32 := 0#32
  let v912 : BitVec 1 := Scalar.cmpi .eq c16_i32_903 c0_i32_904
  let c1_i32_905 : BitVec 32 := 1#32
  let v913 : BitVec 32 := Scalar.select v912 c1_i32_905 c16_i32_903
  let v914 : BitVec 32 := Scalar.remsi v911 v913
  let c0_i32_907 : BitVec 32 := 0#32
  let v916 : BitVec 1 := Scalar.cmpi .slt v914 c0_i32_907
  let c0_i32_908 : BitVec 32 := 0#32
  let v917 : BitVec 1 := Scalar.cmpi .slt v913 c0_i32_908
  let v918 : BitVec 1 := Scalar.xori v916 v917
  let c0_i32_906 : BitVec 32 := 0#32
  let v915 : BitVec 1 := Scalar.cmpi .ne v914 c0_i32_906
  let v919 : BitVec 1 := Scalar.andi v918 v915
  let v920 : BitVec 32 := Scalar.addi v914 v913
  let v921 : BitVec 32 := Scalar.select v919 v920 v914
  let c1_i32_917 : BitVec 32 := 1#32
  let v922 : BitVec 32 := Scalar.muli v921 c1_i32_917
  let v923 : BitVec 32 := Scalar.addi c0_i32_918 v922
  v923.toNat
def k0_dev48 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_925 : BitVec 32 := 3#32
  let v932 : BitVec 32 := Scalar.addi v2 c3_i32_925
  let c16_i32_926 : BitVec 32 := 16#32
  let c0_i32_927 : BitVec 32 := 0#32
  let v933 : BitVec 1 := Scalar.cmpi .eq c16_i32_926 c0_i32_927
  let c1_i32_928 : BitVec 32 := 1#32
  let v934 : BitVec 32 := Scalar.select v933 c1_i32_928 c16_i32_926
  let v935 : BitVec 32 := Scalar.remsi v932 v934
  let c0_i32_930 : BitVec 32 := 0#32
  let v937 : BitVec 1 := Scalar.cmpi .slt v935 c0_i32_930
  let c0_i32_931 : BitVec 32 := 0#32
  let v938 : BitVec 1 := Scalar.cmpi .slt v934 c0_i32_931
  let v939 : BitVec 1 := Scalar.xori v937 v938
  let c0_i32_929 : BitVec 32 := 0#32
  let v936 : BitVec 1 := Scalar.cmpi .ne v935 c0_i32_929
  let v940 : BitVec 1 := Scalar.andi v939 v936
  let v941 : BitVec 32 := Scalar.addi v935 v934
  let v942 : BitVec 32 := Scalar.select v940 v941 v935
  let c1_i32_940 : BitVec 32 := 1#32
  let v943 : BitVec 32 := Scalar.muli v942 c1_i32_940
  let v944 : BitVec 32 := Scalar.addi c0_i32_941 v943
  v944.toNat
def k0_dev49 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_948 : BitVec 32 := 4#32
  let v953 : BitVec 32 := Scalar.addi v2 c4_i32_948
  let c16_i32_949 : BitVec 32 := 16#32
  let c0_i32_950 : BitVec 32 := 0#32
  let v954 : BitVec 1 := Scalar.cmpi .eq c16_i32_949 c0_i32_950
  let c1_i32_951 : BitVec 32 := 1#32
  let v955 : BitVec 32 := Scalar.select v954 c1_i32_951 c16_i32_949
  let v956 : BitVec 32 := Scalar.remsi v953 v955
  let c0_i32_953 : BitVec 32 := 0#32
  let v958 : BitVec 1 := Scalar.cmpi .slt v956 c0_i32_953
  let c0_i32_954 : BitVec 32 := 0#32
  let v959 : BitVec 1 := Scalar.cmpi .slt v955 c0_i32_954
  let v960 : BitVec 1 := Scalar.xori v958 v959
  let c0_i32_952 : BitVec 32 := 0#32
  let v957 : BitVec 1 := Scalar.cmpi .ne v956 c0_i32_952
  let v961 : BitVec 1 := Scalar.andi v960 v957
  let v962 : BitVec 32 := Scalar.addi v956 v955
  let v963 : BitVec 32 := Scalar.select v961 v962 v956
  let c1_i32_963 : BitVec 32 := 1#32
  let v964 : BitVec 32 := Scalar.muli v963 c1_i32_963
  let v965 : BitVec 32 := Scalar.addi c0_i32_964 v964
  v965.toNat
def k0_dev50 (d0 : Dev nD) : Nat :=
  let c0_i32_987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_971 : BitVec 32 := 5#32
  let v974 : BitVec 32 := Scalar.addi v2 c5_i32_971
  let c16_i32_972 : BitVec 32 := 16#32
  let c0_i32_973 : BitVec 32 := 0#32
  let v975 : BitVec 1 := Scalar.cmpi .eq c16_i32_972 c0_i32_973
  let c1_i32_974 : BitVec 32 := 1#32
  let v976 : BitVec 32 := Scalar.select v975 c1_i32_974 c16_i32_972
  let v977 : BitVec 32 := Scalar.remsi v974 v976
  let c0_i32_976 : BitVec 32 := 0#32
  let v979 : BitVec 1 := Scalar.cmpi .slt v977 c0_i32_976
  let c0_i32_977 : BitVec 32 := 0#32
  let v980 : BitVec 1 := Scalar.cmpi .slt v976 c0_i32_977
  let v981 : BitVec 1 := Scalar.xori v979 v980
  let c0_i32_975 : BitVec 32 := 0#32
  let v978 : BitVec 1 := Scalar.cmpi .ne v977 c0_i32_975
  let v982 : BitVec 1 := Scalar.andi v981 v978
  let v983 : BitVec 32 := Scalar.addi v977 v976
  let v984 : BitVec 32 := Scalar.select v982 v983 v977
  let c1_i32_986 : BitVec 32 := 1#32
  let v985 : BitVec 32 := Scalar.muli v984 c1_i32_986
  let v986 : BitVec 32 := Scalar.addi c0_i32_987 v985
  v986.toNat
def k0_dev51 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_994 : BitVec 32 := 6#32
  let v995 : BitVec 32 := Scalar.addi v2 c6_i32_994
  let c16_i32_995 : BitVec 32 := 16#32
  let c0_i32_996 : BitVec 32 := 0#32
  let v996 : BitVec 1 := Scalar.cmpi .eq c16_i32_995 c0_i32_996
  let c1_i32_997 : BitVec 32 := 1#32
  let v997 : BitVec 32 := Scalar.select v996 c1_i32_997 c16_i32_995
  let v998 : BitVec 32 := Scalar.remsi v995 v997
  let c0_i32_999 : BitVec 32 := 0#32
  let v1000 : BitVec 1 := Scalar.cmpi .slt v998 c0_i32_999
  let c0_i32_1000 : BitVec 32 := 0#32
  let v1001 : BitVec 1 := Scalar.cmpi .slt v997 c0_i32_1000
  let v1002 : BitVec 1 := Scalar.xori v1000 v1001
  let c0_i32_998 : BitVec 32 := 0#32
  let v999 : BitVec 1 := Scalar.cmpi .ne v998 c0_i32_998
  let v1003 : BitVec 1 := Scalar.andi v1002 v999
  let v1004 : BitVec 32 := Scalar.addi v998 v997
  let v1005 : BitVec 32 := Scalar.select v1003 v1004 v998
  let c1_i32_1009 : BitVec 32 := 1#32
  let v1006 : BitVec 32 := Scalar.muli v1005 c1_i32_1009
  let v1007 : BitVec 32 := Scalar.addi c0_i32_1010 v1006
  v1007.toNat
def k0_dev52 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1017 : BitVec 32 := 7#32
  let v1016 : BitVec 32 := Scalar.addi v2 c7_i32_1017
  let c16_i32_1018 : BitVec 32 := 16#32
  let c0_i32_1019 : BitVec 32 := 0#32
  let v1017 : BitVec 1 := Scalar.cmpi .eq c16_i32_1018 c0_i32_1019
  let c1_i32_1020 : BitVec 32 := 1#32
  let v1018 : BitVec 32 := Scalar.select v1017 c1_i32_1020 c16_i32_1018
  let v1019 : BitVec 32 := Scalar.remsi v1016 v1018
  let c0_i32_1022 : BitVec 32 := 0#32
  let v1021 : BitVec 1 := Scalar.cmpi .slt v1019 c0_i32_1022
  let c0_i32_1023 : BitVec 32 := 0#32
  let v1022 : BitVec 1 := Scalar.cmpi .slt v1018 c0_i32_1023
  let v1023 : BitVec 1 := Scalar.xori v1021 v1022
  let c0_i32_1021 : BitVec 32 := 0#32
  let v1020 : BitVec 1 := Scalar.cmpi .ne v1019 c0_i32_1021
  let v1024 : BitVec 1 := Scalar.andi v1023 v1020
  let v1025 : BitVec 32 := Scalar.addi v1019 v1018
  let v1026 : BitVec 32 := Scalar.select v1024 v1025 v1019
  let c1_i32_1032 : BitVec 32 := 1#32
  let v1027 : BitVec 32 := Scalar.muli v1026 c1_i32_1032
  let v1028 : BitVec 32 := Scalar.addi c0_i32_1033 v1027
  v1028.toNat
def k0_dev53 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1040 : BitVec 32 := 8#32
  let v1037 : BitVec 32 := Scalar.addi v2 c8_i32_1040
  let c16_i32_1041 : BitVec 32 := 16#32
  let c0_i32_1042 : BitVec 32 := 0#32
  let v1038 : BitVec 1 := Scalar.cmpi .eq c16_i32_1041 c0_i32_1042
  let c1_i32_1043 : BitVec 32 := 1#32
  let v1039 : BitVec 32 := Scalar.select v1038 c1_i32_1043 c16_i32_1041
  let v1040 : BitVec 32 := Scalar.remsi v1037 v1039
  let c0_i32_1045 : BitVec 32 := 0#32
  let v1042 : BitVec 1 := Scalar.cmpi .slt v1040 c0_i32_1045
  let c0_i32_1046 : BitVec 32 := 0#32
  let v1043 : BitVec 1 := Scalar.cmpi .slt v1039 c0_i32_1046
  let v1044 : BitVec 1 := Scalar.xori v1042 v1043
  let c0_i32_1044 : BitVec 32 := 0#32
  let v1041 : BitVec 1 := Scalar.cmpi .ne v1040 c0_i32_1044
  let v1045 : BitVec 1 := Scalar.andi v1044 v1041
  let v1046 : BitVec 32 := Scalar.addi v1040 v1039
  let v1047 : BitVec 32 := Scalar.select v1045 v1046 v1040
  let c1_i32_1055 : BitVec 32 := 1#32
  let v1048 : BitVec 32 := Scalar.muli v1047 c1_i32_1055
  let v1049 : BitVec 32 := Scalar.addi c0_i32_1056 v1048
  v1049.toNat
def k0_dev54 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1063 : BitVec 32 := 9#32
  let v1058 : BitVec 32 := Scalar.addi v2 c9_i32_1063
  let c16_i32_1064 : BitVec 32 := 16#32
  let c0_i32_1065 : BitVec 32 := 0#32
  let v1059 : BitVec 1 := Scalar.cmpi .eq c16_i32_1064 c0_i32_1065
  let c1_i32_1066 : BitVec 32 := 1#32
  let v1060 : BitVec 32 := Scalar.select v1059 c1_i32_1066 c16_i32_1064
  let v1061 : BitVec 32 := Scalar.remsi v1058 v1060
  let c0_i32_1068 : BitVec 32 := 0#32
  let v1063 : BitVec 1 := Scalar.cmpi .slt v1061 c0_i32_1068
  let c0_i32_1069 : BitVec 32 := 0#32
  let v1064 : BitVec 1 := Scalar.cmpi .slt v1060 c0_i32_1069
  let v1065 : BitVec 1 := Scalar.xori v1063 v1064
  let c0_i32_1067 : BitVec 32 := 0#32
  let v1062 : BitVec 1 := Scalar.cmpi .ne v1061 c0_i32_1067
  let v1066 : BitVec 1 := Scalar.andi v1065 v1062
  let v1067 : BitVec 32 := Scalar.addi v1061 v1060
  let v1068 : BitVec 32 := Scalar.select v1066 v1067 v1061
  let c1_i32_1078 : BitVec 32 := 1#32
  let v1069 : BitVec 32 := Scalar.muli v1068 c1_i32_1078
  let v1070 : BitVec 32 := Scalar.addi c0_i32_1079 v1069
  v1070.toNat
def k0_dev55 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1086 : BitVec 32 := 10#32
  let v1079 : BitVec 32 := Scalar.addi v2 c10_i32_1086
  let c16_i32_1087 : BitVec 32 := 16#32
  let c0_i32_1088 : BitVec 32 := 0#32
  let v1080 : BitVec 1 := Scalar.cmpi .eq c16_i32_1087 c0_i32_1088
  let c1_i32_1089 : BitVec 32 := 1#32
  let v1081 : BitVec 32 := Scalar.select v1080 c1_i32_1089 c16_i32_1087
  let v1082 : BitVec 32 := Scalar.remsi v1079 v1081
  let c0_i32_1091 : BitVec 32 := 0#32
  let v1084 : BitVec 1 := Scalar.cmpi .slt v1082 c0_i32_1091
  let c0_i32_1092 : BitVec 32 := 0#32
  let v1085 : BitVec 1 := Scalar.cmpi .slt v1081 c0_i32_1092
  let v1086 : BitVec 1 := Scalar.xori v1084 v1085
  let c0_i32_1090 : BitVec 32 := 0#32
  let v1083 : BitVec 1 := Scalar.cmpi .ne v1082 c0_i32_1090
  let v1087 : BitVec 1 := Scalar.andi v1086 v1083
  let v1088 : BitVec 32 := Scalar.addi v1082 v1081
  let v1089 : BitVec 32 := Scalar.select v1087 v1088 v1082
  let c1_i32_1101 : BitVec 32 := 1#32
  let v1090 : BitVec 32 := Scalar.muli v1089 c1_i32_1101
  let v1091 : BitVec 32 := Scalar.addi c0_i32_1102 v1090
  v1091.toNat
def k0_dev56 (d0 : Dev nD) : Nat :=
  let c0_i32_1125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1109 : BitVec 32 := 11#32
  let v1100 : BitVec 32 := Scalar.addi v2 c11_i32_1109
  let c16_i32_1110 : BitVec 32 := 16#32
  let c0_i32_1111 : BitVec 32 := 0#32
  let v1101 : BitVec 1 := Scalar.cmpi .eq c16_i32_1110 c0_i32_1111
  let c1_i32_1112 : BitVec 32 := 1#32
  let v1102 : BitVec 32 := Scalar.select v1101 c1_i32_1112 c16_i32_1110
  let v1103 : BitVec 32 := Scalar.remsi v1100 v1102
  let c0_i32_1114 : BitVec 32 := 0#32
  let v1105 : BitVec 1 := Scalar.cmpi .slt v1103 c0_i32_1114
  let c0_i32_1115 : BitVec 32 := 0#32
  let v1106 : BitVec 1 := Scalar.cmpi .slt v1102 c0_i32_1115
  let v1107 : BitVec 1 := Scalar.xori v1105 v1106
  let c0_i32_1113 : BitVec 32 := 0#32
  let v1104 : BitVec 1 := Scalar.cmpi .ne v1103 c0_i32_1113
  let v1108 : BitVec 1 := Scalar.andi v1107 v1104
  let v1109 : BitVec 32 := Scalar.addi v1103 v1102
  let v1110 : BitVec 32 := Scalar.select v1108 v1109 v1103
  let c1_i32_1124 : BitVec 32 := 1#32
  let v1111 : BitVec 32 := Scalar.muli v1110 c1_i32_1124
  let v1112 : BitVec 32 := Scalar.addi c0_i32_1125 v1111
  v1112.toNat
def k0_dev57 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1132 : BitVec 32 := 12#32
  let v1121 : BitVec 32 := Scalar.addi v2 c12_i32_1132
  let c16_i32_1133 : BitVec 32 := 16#32
  let c0_i32_1134 : BitVec 32 := 0#32
  let v1122 : BitVec 1 := Scalar.cmpi .eq c16_i32_1133 c0_i32_1134
  let c1_i32_1135 : BitVec 32 := 1#32
  let v1123 : BitVec 32 := Scalar.select v1122 c1_i32_1135 c16_i32_1133
  let v1124 : BitVec 32 := Scalar.remsi v1121 v1123
  let c0_i32_1137 : BitVec 32 := 0#32
  let v1126 : BitVec 1 := Scalar.cmpi .slt v1124 c0_i32_1137
  let c0_i32_1138 : BitVec 32 := 0#32
  let v1127 : BitVec 1 := Scalar.cmpi .slt v1123 c0_i32_1138
  let v1128 : BitVec 1 := Scalar.xori v1126 v1127
  let c0_i32_1136 : BitVec 32 := 0#32
  let v1125 : BitVec 1 := Scalar.cmpi .ne v1124 c0_i32_1136
  let v1129 : BitVec 1 := Scalar.andi v1128 v1125
  let v1130 : BitVec 32 := Scalar.addi v1124 v1123
  let v1131 : BitVec 32 := Scalar.select v1129 v1130 v1124
  let c1_i32_1147 : BitVec 32 := 1#32
  let v1132 : BitVec 32 := Scalar.muli v1131 c1_i32_1147
  let v1133 : BitVec 32 := Scalar.addi c0_i32_1148 v1132
  v1133.toNat
def k0_dev58 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1155 : BitVec 32 := 13#32
  let v1142 : BitVec 32 := Scalar.addi v2 c13_i32_1155
  let c16_i32_1156 : BitVec 32 := 16#32
  let c0_i32_1157 : BitVec 32 := 0#32
  let v1143 : BitVec 1 := Scalar.cmpi .eq c16_i32_1156 c0_i32_1157
  let c1_i32_1158 : BitVec 32 := 1#32
  let v1144 : BitVec 32 := Scalar.select v1143 c1_i32_1158 c16_i32_1156
  let v1145 : BitVec 32 := Scalar.remsi v1142 v1144
  let c0_i32_1160 : BitVec 32 := 0#32
  let v1147 : BitVec 1 := Scalar.cmpi .slt v1145 c0_i32_1160
  let c0_i32_1161 : BitVec 32 := 0#32
  let v1148 : BitVec 1 := Scalar.cmpi .slt v1144 c0_i32_1161
  let v1149 : BitVec 1 := Scalar.xori v1147 v1148
  let c0_i32_1159 : BitVec 32 := 0#32
  let v1146 : BitVec 1 := Scalar.cmpi .ne v1145 c0_i32_1159
  let v1150 : BitVec 1 := Scalar.andi v1149 v1146
  let v1151 : BitVec 32 := Scalar.addi v1145 v1144
  let v1152 : BitVec 32 := Scalar.select v1150 v1151 v1145
  let c1_i32_1170 : BitVec 32 := 1#32
  let v1153 : BitVec 32 := Scalar.muli v1152 c1_i32_1170
  let v1154 : BitVec 32 := Scalar.addi c0_i32_1171 v1153
  v1154.toNat
def k0_dev59 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1178 : BitVec 32 := 14#32
  let v1163 : BitVec 32 := Scalar.addi v2 c14_i32_1178
  let c16_i32_1179 : BitVec 32 := 16#32
  let c0_i32_1180 : BitVec 32 := 0#32
  let v1164 : BitVec 1 := Scalar.cmpi .eq c16_i32_1179 c0_i32_1180
  let c1_i32_1181 : BitVec 32 := 1#32
  let v1165 : BitVec 32 := Scalar.select v1164 c1_i32_1181 c16_i32_1179
  let v1166 : BitVec 32 := Scalar.remsi v1163 v1165
  let c0_i32_1183 : BitVec 32 := 0#32
  let v1168 : BitVec 1 := Scalar.cmpi .slt v1166 c0_i32_1183
  let c0_i32_1184 : BitVec 32 := 0#32
  let v1169 : BitVec 1 := Scalar.cmpi .slt v1165 c0_i32_1184
  let v1170 : BitVec 1 := Scalar.xori v1168 v1169
  let c0_i32_1182 : BitVec 32 := 0#32
  let v1167 : BitVec 1 := Scalar.cmpi .ne v1166 c0_i32_1182
  let v1171 : BitVec 1 := Scalar.andi v1170 v1167
  let v1172 : BitVec 32 := Scalar.addi v1166 v1165
  let v1173 : BitVec 32 := Scalar.select v1171 v1172 v1166
  let c1_i32_1193 : BitVec 32 := 1#32
  let v1174 : BitVec 32 := Scalar.muli v1173 c1_i32_1193
  let v1175 : BitVec 32 := Scalar.addi c0_i32_1194 v1174
  v1175.toNat
def k0_dev60 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1201 : BitVec 32 := 15#32
  let v1184 : BitVec 32 := Scalar.addi v2 c15_i32_1201
  let c16_i32_1202 : BitVec 32 := 16#32
  let c0_i32_1203 : BitVec 32 := 0#32
  let v1185 : BitVec 1 := Scalar.cmpi .eq c16_i32_1202 c0_i32_1203
  let c1_i32_1204 : BitVec 32 := 1#32
  let v1186 : BitVec 32 := Scalar.select v1185 c1_i32_1204 c16_i32_1202
  let v1187 : BitVec 32 := Scalar.remsi v1184 v1186
  let c0_i32_1206 : BitVec 32 := 0#32
  let v1189 : BitVec 1 := Scalar.cmpi .slt v1187 c0_i32_1206
  let c0_i32_1207 : BitVec 32 := 0#32
  let v1190 : BitVec 1 := Scalar.cmpi .slt v1186 c0_i32_1207
  let v1191 : BitVec 1 := Scalar.xori v1189 v1190
  let c0_i32_1205 : BitVec 32 := 0#32
  let v1188 : BitVec 1 := Scalar.cmpi .ne v1187 c0_i32_1205
  let v1192 : BitVec 1 := Scalar.andi v1191 v1188
  let v1193 : BitVec 32 := Scalar.addi v1187 v1186
  let v1194 : BitVec 32 := Scalar.select v1192 v1193 v1187
  let c1_i32_1216 : BitVec 32 := 1#32
  let v1195 : BitVec 32 := Scalar.muli v1194 c1_i32_1216
  let v1196 : BitVec 32 := Scalar.addi c0_i32_1217 v1195
  v1196.toNat
def k0_dev61 (d0 : Dev nD) : Nat :=
  let c0_i32_1252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1236 : BitVec 32 := 1#32
  let v1220 : BitVec 32 := Scalar.addi v2 c1_i32_1236
  let c16_i32_1237 : BitVec 32 := 16#32
  let c0_i32_1238 : BitVec 32 := 0#32
  let v1221 : BitVec 1 := Scalar.cmpi .eq c16_i32_1237 c0_i32_1238
  let c1_i32_1239 : BitVec 32 := 1#32
  let v1222 : BitVec 32 := Scalar.select v1221 c1_i32_1239 c16_i32_1237
  let v1223 : BitVec 32 := Scalar.remsi v1220 v1222
  let c0_i32_1241 : BitVec 32 := 0#32
  let v1225 : BitVec 1 := Scalar.cmpi .slt v1223 c0_i32_1241
  let c0_i32_1242 : BitVec 32 := 0#32
  let v1226 : BitVec 1 := Scalar.cmpi .slt v1222 c0_i32_1242
  let v1227 : BitVec 1 := Scalar.xori v1225 v1226
  let c0_i32_1240 : BitVec 32 := 0#32
  let v1224 : BitVec 1 := Scalar.cmpi .ne v1223 c0_i32_1240
  let v1228 : BitVec 1 := Scalar.andi v1227 v1224
  let v1229 : BitVec 32 := Scalar.addi v1223 v1222
  let v1230 : BitVec 32 := Scalar.select v1228 v1229 v1223
  let c1_i32_1251 : BitVec 32 := 1#32
  let v1231 : BitVec 32 := Scalar.muli v1230 c1_i32_1251
  let v1232 : BitVec 32 := Scalar.addi c0_i32_1252 v1231
  v1232.toNat
def k0_dev62 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1259 : BitVec 32 := 2#32
  let v1241 : BitVec 32 := Scalar.addi v2 c2_i32_1259
  let c16_i32_1260 : BitVec 32 := 16#32
  let c0_i32_1261 : BitVec 32 := 0#32
  let v1242 : BitVec 1 := Scalar.cmpi .eq c16_i32_1260 c0_i32_1261
  let c1_i32_1262 : BitVec 32 := 1#32
  let v1243 : BitVec 32 := Scalar.select v1242 c1_i32_1262 c16_i32_1260
  let v1244 : BitVec 32 := Scalar.remsi v1241 v1243
  let c0_i32_1264 : BitVec 32 := 0#32
  let v1246 : BitVec 1 := Scalar.cmpi .slt v1244 c0_i32_1264
  let c0_i32_1265 : BitVec 32 := 0#32
  let v1247 : BitVec 1 := Scalar.cmpi .slt v1243 c0_i32_1265
  let v1248 : BitVec 1 := Scalar.xori v1246 v1247
  let c0_i32_1263 : BitVec 32 := 0#32
  let v1245 : BitVec 1 := Scalar.cmpi .ne v1244 c0_i32_1263
  let v1249 : BitVec 1 := Scalar.andi v1248 v1245
  let v1250 : BitVec 32 := Scalar.addi v1244 v1243
  let v1251 : BitVec 32 := Scalar.select v1249 v1250 v1244
  let c1_i32_1274 : BitVec 32 := 1#32
  let v1252 : BitVec 32 := Scalar.muli v1251 c1_i32_1274
  let v1253 : BitVec 32 := Scalar.addi c0_i32_1275 v1252
  v1253.toNat
def k0_dev63 (d0 : Dev nD) : Nat :=
  let c0_i32_1298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1282 : BitVec 32 := 3#32
  let v1262 : BitVec 32 := Scalar.addi v2 c3_i32_1282
  let c16_i32_1283 : BitVec 32 := 16#32
  let c0_i32_1284 : BitVec 32 := 0#32
  let v1263 : BitVec 1 := Scalar.cmpi .eq c16_i32_1283 c0_i32_1284
  let c1_i32_1285 : BitVec 32 := 1#32
  let v1264 : BitVec 32 := Scalar.select v1263 c1_i32_1285 c16_i32_1283
  let v1265 : BitVec 32 := Scalar.remsi v1262 v1264
  let c0_i32_1287 : BitVec 32 := 0#32
  let v1267 : BitVec 1 := Scalar.cmpi .slt v1265 c0_i32_1287
  let c0_i32_1288 : BitVec 32 := 0#32
  let v1268 : BitVec 1 := Scalar.cmpi .slt v1264 c0_i32_1288
  let v1269 : BitVec 1 := Scalar.xori v1267 v1268
  let c0_i32_1286 : BitVec 32 := 0#32
  let v1266 : BitVec 1 := Scalar.cmpi .ne v1265 c0_i32_1286
  let v1270 : BitVec 1 := Scalar.andi v1269 v1266
  let v1271 : BitVec 32 := Scalar.addi v1265 v1264
  let v1272 : BitVec 32 := Scalar.select v1270 v1271 v1265
  let c1_i32_1297 : BitVec 32 := 1#32
  let v1273 : BitVec 32 := Scalar.muli v1272 c1_i32_1297
  let v1274 : BitVec 32 := Scalar.addi c0_i32_1298 v1273
  v1274.toNat
def k0_dev64 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1305 : BitVec 32 := 4#32
  let v1283 : BitVec 32 := Scalar.addi v2 c4_i32_1305
  let c16_i32_1306 : BitVec 32 := 16#32
  let c0_i32_1307 : BitVec 32 := 0#32
  let v1284 : BitVec 1 := Scalar.cmpi .eq c16_i32_1306 c0_i32_1307
  let c1_i32_1308 : BitVec 32 := 1#32
  let v1285 : BitVec 32 := Scalar.select v1284 c1_i32_1308 c16_i32_1306
  let v1286 : BitVec 32 := Scalar.remsi v1283 v1285
  let c0_i32_1310 : BitVec 32 := 0#32
  let v1288 : BitVec 1 := Scalar.cmpi .slt v1286 c0_i32_1310
  let c0_i32_1311 : BitVec 32 := 0#32
  let v1289 : BitVec 1 := Scalar.cmpi .slt v1285 c0_i32_1311
  let v1290 : BitVec 1 := Scalar.xori v1288 v1289
  let c0_i32_1309 : BitVec 32 := 0#32
  let v1287 : BitVec 1 := Scalar.cmpi .ne v1286 c0_i32_1309
  let v1291 : BitVec 1 := Scalar.andi v1290 v1287
  let v1292 : BitVec 32 := Scalar.addi v1286 v1285
  let v1293 : BitVec 32 := Scalar.select v1291 v1292 v1286
  let c1_i32_1320 : BitVec 32 := 1#32
  let v1294 : BitVec 32 := Scalar.muli v1293 c1_i32_1320
  let v1295 : BitVec 32 := Scalar.addi c0_i32_1321 v1294
  v1295.toNat
def k0_dev65 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1328 : BitVec 32 := 5#32
  let v1304 : BitVec 32 := Scalar.addi v2 c5_i32_1328
  let c16_i32_1329 : BitVec 32 := 16#32
  let c0_i32_1330 : BitVec 32 := 0#32
  let v1305 : BitVec 1 := Scalar.cmpi .eq c16_i32_1329 c0_i32_1330
  let c1_i32_1331 : BitVec 32 := 1#32
  let v1306 : BitVec 32 := Scalar.select v1305 c1_i32_1331 c16_i32_1329
  let v1307 : BitVec 32 := Scalar.remsi v1304 v1306
  let c0_i32_1333 : BitVec 32 := 0#32
  let v1309 : BitVec 1 := Scalar.cmpi .slt v1307 c0_i32_1333
  let c0_i32_1334 : BitVec 32 := 0#32
  let v1310 : BitVec 1 := Scalar.cmpi .slt v1306 c0_i32_1334
  let v1311 : BitVec 1 := Scalar.xori v1309 v1310
  let c0_i32_1332 : BitVec 32 := 0#32
  let v1308 : BitVec 1 := Scalar.cmpi .ne v1307 c0_i32_1332
  let v1312 : BitVec 1 := Scalar.andi v1311 v1308
  let v1313 : BitVec 32 := Scalar.addi v1307 v1306
  let v1314 : BitVec 32 := Scalar.select v1312 v1313 v1307
  let c1_i32_1343 : BitVec 32 := 1#32
  let v1315 : BitVec 32 := Scalar.muli v1314 c1_i32_1343
  let v1316 : BitVec 32 := Scalar.addi c0_i32_1344 v1315
  v1316.toNat
def k0_dev66 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1351 : BitVec 32 := 6#32
  let v1325 : BitVec 32 := Scalar.addi v2 c6_i32_1351
  let c16_i32_1352 : BitVec 32 := 16#32
  let c0_i32_1353 : BitVec 32 := 0#32
  let v1326 : BitVec 1 := Scalar.cmpi .eq c16_i32_1352 c0_i32_1353
  let c1_i32_1354 : BitVec 32 := 1#32
  let v1327 : BitVec 32 := Scalar.select v1326 c1_i32_1354 c16_i32_1352
  let v1328 : BitVec 32 := Scalar.remsi v1325 v1327
  let c0_i32_1356 : BitVec 32 := 0#32
  let v1330 : BitVec 1 := Scalar.cmpi .slt v1328 c0_i32_1356
  let c0_i32_1357 : BitVec 32 := 0#32
  let v1331 : BitVec 1 := Scalar.cmpi .slt v1327 c0_i32_1357
  let v1332 : BitVec 1 := Scalar.xori v1330 v1331
  let c0_i32_1355 : BitVec 32 := 0#32
  let v1329 : BitVec 1 := Scalar.cmpi .ne v1328 c0_i32_1355
  let v1333 : BitVec 1 := Scalar.andi v1332 v1329
  let v1334 : BitVec 32 := Scalar.addi v1328 v1327
  let v1335 : BitVec 32 := Scalar.select v1333 v1334 v1328
  let c1_i32_1366 : BitVec 32 := 1#32
  let v1336 : BitVec 32 := Scalar.muli v1335 c1_i32_1366
  let v1337 : BitVec 32 := Scalar.addi c0_i32_1367 v1336
  v1337.toNat
def k0_dev67 (d0 : Dev nD) : Nat :=
  let c0_i32_1390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1374 : BitVec 32 := 7#32
  let v1346 : BitVec 32 := Scalar.addi v2 c7_i32_1374
  let c16_i32_1375 : BitVec 32 := 16#32
  let c0_i32_1376 : BitVec 32 := 0#32
  let v1347 : BitVec 1 := Scalar.cmpi .eq c16_i32_1375 c0_i32_1376
  let c1_i32_1377 : BitVec 32 := 1#32
  let v1348 : BitVec 32 := Scalar.select v1347 c1_i32_1377 c16_i32_1375
  let v1349 : BitVec 32 := Scalar.remsi v1346 v1348
  let c0_i32_1379 : BitVec 32 := 0#32
  let v1351 : BitVec 1 := Scalar.cmpi .slt v1349 c0_i32_1379
  let c0_i32_1380 : BitVec 32 := 0#32
  let v1352 : BitVec 1 := Scalar.cmpi .slt v1348 c0_i32_1380
  let v1353 : BitVec 1 := Scalar.xori v1351 v1352
  let c0_i32_1378 : BitVec 32 := 0#32
  let v1350 : BitVec 1 := Scalar.cmpi .ne v1349 c0_i32_1378
  let v1354 : BitVec 1 := Scalar.andi v1353 v1350
  let v1355 : BitVec 32 := Scalar.addi v1349 v1348
  let v1356 : BitVec 32 := Scalar.select v1354 v1355 v1349
  let c1_i32_1389 : BitVec 32 := 1#32
  let v1357 : BitVec 32 := Scalar.muli v1356 c1_i32_1389
  let v1358 : BitVec 32 := Scalar.addi c0_i32_1390 v1357
  v1358.toNat
def k0_dev68 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1397 : BitVec 32 := 8#32
  let v1367 : BitVec 32 := Scalar.addi v2 c8_i32_1397
  let c16_i32_1398 : BitVec 32 := 16#32
  let c0_i32_1399 : BitVec 32 := 0#32
  let v1368 : BitVec 1 := Scalar.cmpi .eq c16_i32_1398 c0_i32_1399
  let c1_i32_1400 : BitVec 32 := 1#32
  let v1369 : BitVec 32 := Scalar.select v1368 c1_i32_1400 c16_i32_1398
  let v1370 : BitVec 32 := Scalar.remsi v1367 v1369
  let c0_i32_1402 : BitVec 32 := 0#32
  let v1372 : BitVec 1 := Scalar.cmpi .slt v1370 c0_i32_1402
  let c0_i32_1403 : BitVec 32 := 0#32
  let v1373 : BitVec 1 := Scalar.cmpi .slt v1369 c0_i32_1403
  let v1374 : BitVec 1 := Scalar.xori v1372 v1373
  let c0_i32_1401 : BitVec 32 := 0#32
  let v1371 : BitVec 1 := Scalar.cmpi .ne v1370 c0_i32_1401
  let v1375 : BitVec 1 := Scalar.andi v1374 v1371
  let v1376 : BitVec 32 := Scalar.addi v1370 v1369
  let v1377 : BitVec 32 := Scalar.select v1375 v1376 v1370
  let c1_i32_1412 : BitVec 32 := 1#32
  let v1378 : BitVec 32 := Scalar.muli v1377 c1_i32_1412
  let v1379 : BitVec 32 := Scalar.addi c0_i32_1413 v1378
  v1379.toNat
def k0_dev69 (d0 : Dev nD) : Nat :=
  let c0_i32_1436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1420 : BitVec 32 := 9#32
  let v1388 : BitVec 32 := Scalar.addi v2 c9_i32_1420
  let c16_i32_1421 : BitVec 32 := 16#32
  let c0_i32_1422 : BitVec 32 := 0#32
  let v1389 : BitVec 1 := Scalar.cmpi .eq c16_i32_1421 c0_i32_1422
  let c1_i32_1423 : BitVec 32 := 1#32
  let v1390 : BitVec 32 := Scalar.select v1389 c1_i32_1423 c16_i32_1421
  let v1391 : BitVec 32 := Scalar.remsi v1388 v1390
  let c0_i32_1425 : BitVec 32 := 0#32
  let v1393 : BitVec 1 := Scalar.cmpi .slt v1391 c0_i32_1425
  let c0_i32_1426 : BitVec 32 := 0#32
  let v1394 : BitVec 1 := Scalar.cmpi .slt v1390 c0_i32_1426
  let v1395 : BitVec 1 := Scalar.xori v1393 v1394
  let c0_i32_1424 : BitVec 32 := 0#32
  let v1392 : BitVec 1 := Scalar.cmpi .ne v1391 c0_i32_1424
  let v1396 : BitVec 1 := Scalar.andi v1395 v1392
  let v1397 : BitVec 32 := Scalar.addi v1391 v1390
  let v1398 : BitVec 32 := Scalar.select v1396 v1397 v1391
  let c1_i32_1435 : BitVec 32 := 1#32
  let v1399 : BitVec 32 := Scalar.muli v1398 c1_i32_1435
  let v1400 : BitVec 32 := Scalar.addi c0_i32_1436 v1399
  v1400.toNat
def k0_dev70 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1443 : BitVec 32 := 10#32
  let v1409 : BitVec 32 := Scalar.addi v2 c10_i32_1443
  let c16_i32_1444 : BitVec 32 := 16#32
  let c0_i32_1445 : BitVec 32 := 0#32
  let v1410 : BitVec 1 := Scalar.cmpi .eq c16_i32_1444 c0_i32_1445
  let c1_i32_1446 : BitVec 32 := 1#32
  let v1411 : BitVec 32 := Scalar.select v1410 c1_i32_1446 c16_i32_1444
  let v1412 : BitVec 32 := Scalar.remsi v1409 v1411
  let c0_i32_1448 : BitVec 32 := 0#32
  let v1414 : BitVec 1 := Scalar.cmpi .slt v1412 c0_i32_1448
  let c0_i32_1449 : BitVec 32 := 0#32
  let v1415 : BitVec 1 := Scalar.cmpi .slt v1411 c0_i32_1449
  let v1416 : BitVec 1 := Scalar.xori v1414 v1415
  let c0_i32_1447 : BitVec 32 := 0#32
  let v1413 : BitVec 1 := Scalar.cmpi .ne v1412 c0_i32_1447
  let v1417 : BitVec 1 := Scalar.andi v1416 v1413
  let v1418 : BitVec 32 := Scalar.addi v1412 v1411
  let v1419 : BitVec 32 := Scalar.select v1417 v1418 v1412
  let c1_i32_1458 : BitVec 32 := 1#32
  let v1420 : BitVec 32 := Scalar.muli v1419 c1_i32_1458
  let v1421 : BitVec 32 := Scalar.addi c0_i32_1459 v1420
  v1421.toNat
def k0_dev71 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1466 : BitVec 32 := 11#32
  let v1430 : BitVec 32 := Scalar.addi v2 c11_i32_1466
  let c16_i32_1467 : BitVec 32 := 16#32
  let c0_i32_1468 : BitVec 32 := 0#32
  let v1431 : BitVec 1 := Scalar.cmpi .eq c16_i32_1467 c0_i32_1468
  let c1_i32_1469 : BitVec 32 := 1#32
  let v1432 : BitVec 32 := Scalar.select v1431 c1_i32_1469 c16_i32_1467
  let v1433 : BitVec 32 := Scalar.remsi v1430 v1432
  let c0_i32_1471 : BitVec 32 := 0#32
  let v1435 : BitVec 1 := Scalar.cmpi .slt v1433 c0_i32_1471
  let c0_i32_1472 : BitVec 32 := 0#32
  let v1436 : BitVec 1 := Scalar.cmpi .slt v1432 c0_i32_1472
  let v1437 : BitVec 1 := Scalar.xori v1435 v1436
  let c0_i32_1470 : BitVec 32 := 0#32
  let v1434 : BitVec 1 := Scalar.cmpi .ne v1433 c0_i32_1470
  let v1438 : BitVec 1 := Scalar.andi v1437 v1434
  let v1439 : BitVec 32 := Scalar.addi v1433 v1432
  let v1440 : BitVec 32 := Scalar.select v1438 v1439 v1433
  let c1_i32_1481 : BitVec 32 := 1#32
  let v1441 : BitVec 32 := Scalar.muli v1440 c1_i32_1481
  let v1442 : BitVec 32 := Scalar.addi c0_i32_1482 v1441
  v1442.toNat
def k0_dev72 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1489 : BitVec 32 := 12#32
  let v1451 : BitVec 32 := Scalar.addi v2 c12_i32_1489
  let c16_i32_1490 : BitVec 32 := 16#32
  let c0_i32_1491 : BitVec 32 := 0#32
  let v1452 : BitVec 1 := Scalar.cmpi .eq c16_i32_1490 c0_i32_1491
  let c1_i32_1492 : BitVec 32 := 1#32
  let v1453 : BitVec 32 := Scalar.select v1452 c1_i32_1492 c16_i32_1490
  let v1454 : BitVec 32 := Scalar.remsi v1451 v1453
  let c0_i32_1494 : BitVec 32 := 0#32
  let v1456 : BitVec 1 := Scalar.cmpi .slt v1454 c0_i32_1494
  let c0_i32_1495 : BitVec 32 := 0#32
  let v1457 : BitVec 1 := Scalar.cmpi .slt v1453 c0_i32_1495
  let v1458 : BitVec 1 := Scalar.xori v1456 v1457
  let c0_i32_1493 : BitVec 32 := 0#32
  let v1455 : BitVec 1 := Scalar.cmpi .ne v1454 c0_i32_1493
  let v1459 : BitVec 1 := Scalar.andi v1458 v1455
  let v1460 : BitVec 32 := Scalar.addi v1454 v1453
  let v1461 : BitVec 32 := Scalar.select v1459 v1460 v1454
  let c1_i32_1504 : BitVec 32 := 1#32
  let v1462 : BitVec 32 := Scalar.muli v1461 c1_i32_1504
  let v1463 : BitVec 32 := Scalar.addi c0_i32_1505 v1462
  v1463.toNat
def k0_dev73 (d0 : Dev nD) : Nat :=
  let c0_i32_1528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1512 : BitVec 32 := 13#32
  let v1472 : BitVec 32 := Scalar.addi v2 c13_i32_1512
  let c16_i32_1513 : BitVec 32 := 16#32
  let c0_i32_1514 : BitVec 32 := 0#32
  let v1473 : BitVec 1 := Scalar.cmpi .eq c16_i32_1513 c0_i32_1514
  let c1_i32_1515 : BitVec 32 := 1#32
  let v1474 : BitVec 32 := Scalar.select v1473 c1_i32_1515 c16_i32_1513
  let v1475 : BitVec 32 := Scalar.remsi v1472 v1474
  let c0_i32_1517 : BitVec 32 := 0#32
  let v1477 : BitVec 1 := Scalar.cmpi .slt v1475 c0_i32_1517
  let c0_i32_1518 : BitVec 32 := 0#32
  let v1478 : BitVec 1 := Scalar.cmpi .slt v1474 c0_i32_1518
  let v1479 : BitVec 1 := Scalar.xori v1477 v1478
  let c0_i32_1516 : BitVec 32 := 0#32
  let v1476 : BitVec 1 := Scalar.cmpi .ne v1475 c0_i32_1516
  let v1480 : BitVec 1 := Scalar.andi v1479 v1476
  let v1481 : BitVec 32 := Scalar.addi v1475 v1474
  let v1482 : BitVec 32 := Scalar.select v1480 v1481 v1475
  let c1_i32_1527 : BitVec 32 := 1#32
  let v1483 : BitVec 32 := Scalar.muli v1482 c1_i32_1527
  let v1484 : BitVec 32 := Scalar.addi c0_i32_1528 v1483
  v1484.toNat
def k0_dev74 (d0 : Dev nD) : Nat :=
  let c0_i32_1551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1535 : BitVec 32 := 14#32
  let v1493 : BitVec 32 := Scalar.addi v2 c14_i32_1535
  let c16_i32_1536 : BitVec 32 := 16#32
  let c0_i32_1537 : BitVec 32 := 0#32
  let v1494 : BitVec 1 := Scalar.cmpi .eq c16_i32_1536 c0_i32_1537
  let c1_i32_1538 : BitVec 32 := 1#32
  let v1495 : BitVec 32 := Scalar.select v1494 c1_i32_1538 c16_i32_1536
  let v1496 : BitVec 32 := Scalar.remsi v1493 v1495
  let c0_i32_1540 : BitVec 32 := 0#32
  let v1498 : BitVec 1 := Scalar.cmpi .slt v1496 c0_i32_1540
  let c0_i32_1541 : BitVec 32 := 0#32
  let v1499 : BitVec 1 := Scalar.cmpi .slt v1495 c0_i32_1541
  let v1500 : BitVec 1 := Scalar.xori v1498 v1499
  let c0_i32_1539 : BitVec 32 := 0#32
  let v1497 : BitVec 1 := Scalar.cmpi .ne v1496 c0_i32_1539
  let v1501 : BitVec 1 := Scalar.andi v1500 v1497
  let v1502 : BitVec 32 := Scalar.addi v1496 v1495
  let v1503 : BitVec 32 := Scalar.select v1501 v1502 v1496
  let c1_i32_1550 : BitVec 32 := 1#32
  let v1504 : BitVec 32 := Scalar.muli v1503 c1_i32_1550
  let v1505 : BitVec 32 := Scalar.addi c0_i32_1551 v1504
  v1505.toNat
def k0_dev75 (d0 : Dev nD) : Nat :=
  let c0_i32_1574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1558 : BitVec 32 := 15#32
  let v1514 : BitVec 32 := Scalar.addi v2 c15_i32_1558
  let c16_i32_1559 : BitVec 32 := 16#32
  let c0_i32_1560 : BitVec 32 := 0#32
  let v1515 : BitVec 1 := Scalar.cmpi .eq c16_i32_1559 c0_i32_1560
  let c1_i32_1561 : BitVec 32 := 1#32
  let v1516 : BitVec 32 := Scalar.select v1515 c1_i32_1561 c16_i32_1559
  let v1517 : BitVec 32 := Scalar.remsi v1514 v1516
  let c0_i32_1563 : BitVec 32 := 0#32
  let v1519 : BitVec 1 := Scalar.cmpi .slt v1517 c0_i32_1563
  let c0_i32_1564 : BitVec 32 := 0#32
  let v1520 : BitVec 1 := Scalar.cmpi .slt v1516 c0_i32_1564
  let v1521 : BitVec 1 := Scalar.xori v1519 v1520
  let c0_i32_1562 : BitVec 32 := 0#32
  let v1518 : BitVec 1 := Scalar.cmpi .ne v1517 c0_i32_1562
  let v1522 : BitVec 1 := Scalar.andi v1521 v1518
  let v1523 : BitVec 32 := Scalar.addi v1517 v1516
  let v1524 : BitVec 32 := Scalar.select v1522 v1523 v1517
  let c1_i32_1573 : BitVec 32 := 1#32
  let v1525 : BitVec 32 := Scalar.muli v1524 c1_i32_1573
  let v1526 : BitVec 32 := Scalar.addi c0_i32_1574 v1525
  v1526.toNat
def k0_dev76 (d0 : Dev nD) : Nat :=
  let c0_i32_3616_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3607_r0 : BitVec 32 := 1#32
  let v2670_r0 : BitVec 32 := Scalar.addi v2 c1_i32_3607_r0
  let c16_i32_3608_r0 : BitVec 32 := 16#32
  let c0_i32_3609_r0 : BitVec 32 := 0#32
  let v2671_r0 : BitVec 1 := Scalar.cmpi .eq c16_i32_3608_r0 c0_i32_3609_r0
  let c1_i32_3610_r0 : BitVec 32 := 1#32
  let v2672_r0 : BitVec 32 := Scalar.select v2671_r0 c1_i32_3610_r0 c16_i32_3608_r0
  let v2673_r0 : BitVec 32 := Scalar.remsi v2670_r0 v2672_r0
  let c0_i32_3612_r0 : BitVec 32 := 0#32
  let v2675_r0 : BitVec 1 := Scalar.cmpi .slt v2673_r0 c0_i32_3612_r0
  let c0_i32_3613_r0 : BitVec 32 := 0#32
  let v2676_r0 : BitVec 1 := Scalar.cmpi .slt v2672_r0 c0_i32_3613_r0
  let v2677_r0 : BitVec 1 := Scalar.xori v2675_r0 v2676_r0
  let c0_i32_3611_r0 : BitVec 32 := 0#32
  let v2674_r0 : BitVec 1 := Scalar.cmpi .ne v2673_r0 c0_i32_3611_r0
  let v2678_r0 : BitVec 1 := Scalar.andi v2677_r0 v2674_r0
  let v2679_r0 : BitVec 32 := Scalar.addi v2673_r0 v2672_r0
  let v2680_r0 : BitVec 32 := Scalar.select v2678_r0 v2679_r0 v2673_r0
  let c1_i32_3615_r0 : BitVec 32 := 1#32
  let v2681_r0 : BitVec 32 := Scalar.muli v2680_r0 c1_i32_3615_r0
  let v2682_r0 : BitVec 32 := Scalar.addi c0_i32_3616_r0 v2681_r0
  v2682_r0.toNat
def k0_dev77 (d0 : Dev nD) : Nat :=
  let c0_i32_3626_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3617_r0 : BitVec 32 := 2#32
  let v2683_r0 : BitVec 32 := Scalar.addi v2 c2_i32_3617_r0
  let c16_i32_3618_r0 : BitVec 32 := 16#32
  let c0_i32_3619_r0 : BitVec 32 := 0#32
  let v2684_r0 : BitVec 1 := Scalar.cmpi .eq c16_i32_3618_r0 c0_i32_3619_r0
  let c1_i32_3620_r0 : BitVec 32 := 1#32
  let v2685_r0 : BitVec 32 := Scalar.select v2684_r0 c1_i32_3620_r0 c16_i32_3618_r0
  let v2686_r0 : BitVec 32 := Scalar.remsi v2683_r0 v2685_r0
  let c0_i32_3622_r0 : BitVec 32 := 0#32
  let v2688_r0 : BitVec 1 := Scalar.cmpi .slt v2686_r0 c0_i32_3622_r0
  let c0_i32_3623_r0 : BitVec 32 := 0#32
  let v2689_r0 : BitVec 1 := Scalar.cmpi .slt v2685_r0 c0_i32_3623_r0
  let v2690_r0 : BitVec 1 := Scalar.xori v2688_r0 v2689_r0
  let c0_i32_3621_r0 : BitVec 32 := 0#32
  let v2687_r0 : BitVec 1 := Scalar.cmpi .ne v2686_r0 c0_i32_3621_r0
  let v2691_r0 : BitVec 1 := Scalar.andi v2690_r0 v2687_r0
  let v2692_r0 : BitVec 32 := Scalar.addi v2686_r0 v2685_r0
  let v2693_r0 : BitVec 32 := Scalar.select v2691_r0 v2692_r0 v2686_r0
  let c1_i32_3625_r0 : BitVec 32 := 1#32
  let v2694_r0 : BitVec 32 := Scalar.muli v2693_r0 c1_i32_3625_r0
  let v2695_r0 : BitVec 32 := Scalar.addi c0_i32_3626_r0 v2694_r0
  v2695_r0.toNat
def k0_dev78 (d0 : Dev nD) : Nat :=
  let c0_i32_3636_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3627_r0 : BitVec 32 := 3#32
  let v2696_r0 : BitVec 32 := Scalar.addi v2 c3_i32_3627_r0
  let c16_i32_3628_r0 : BitVec 32 := 16#32
  let c0_i32_3629_r0 : BitVec 32 := 0#32
  let v2697_r0 : BitVec 1 := Scalar.cmpi .eq c16_i32_3628_r0 c0_i32_3629_r0
  let c1_i32_3630_r0 : BitVec 32 := 1#32
  let v2698_r0 : BitVec 32 := Scalar.select v2697_r0 c1_i32_3630_r0 c16_i32_3628_r0
  let v2699_r0 : BitVec 32 := Scalar.remsi v2696_r0 v2698_r0
  let c0_i32_3632_r0 : BitVec 32 := 0#32
  let v2701_r0 : BitVec 1 := Scalar.cmpi .slt v2699_r0 c0_i32_3632_r0
  let c0_i32_3633_r0 : BitVec 32 := 0#32
  let v2702_r0 : BitVec 1 := Scalar.cmpi .slt v2698_r0 c0_i32_3633_r0
  let v2703_r0 : BitVec 1 := Scalar.xori v2701_r0 v2702_r0
  let c0_i32_3631_r0 : BitVec 32 := 0#32
  let v2700_r0 : BitVec 1 := Scalar.cmpi .ne v2699_r0 c0_i32_3631_r0
  let v2704_r0 : BitVec 1 := Scalar.andi v2703_r0 v2700_r0
  let v2705_r0 : BitVec 32 := Scalar.addi v2699_r0 v2698_r0
  let v2706_r0 : BitVec 32 := Scalar.select v2704_r0 v2705_r0 v2699_r0
  let c1_i32_3635_r0 : BitVec 32 := 1#32
  let v2707_r0 : BitVec 32 := Scalar.muli v2706_r0 c1_i32_3635_r0
  let v2708_r0 : BitVec 32 := Scalar.addi c0_i32_3636_r0 v2707_r0
  v2708_r0.toNat
def k0_dev79 (d0 : Dev nD) : Nat :=
  let c0_i32_3646_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3637_r0 : BitVec 32 := 4#32
  let v2709_r0 : BitVec 32 := Scalar.addi v2 c4_i32_3637_r0
  let c16_i32_3638_r0 : BitVec 32 := 16#32
  let c0_i32_3639_r0 : BitVec 32 := 0#32
  let v2710_r0 : BitVec 1 := Scalar.cmpi .eq c16_i32_3638_r0 c0_i32_3639_r0
  let c1_i32_3640_r0 : BitVec 32 := 1#32
  let v2711_r0 : BitVec 32 := Scalar.select v2710_r0 c1_i32_3640_r0 c16_i32_3638_r0
  let v2712_r0 : BitVec 32 := Scalar.remsi v2709_r0 v2711_r0
  let c0_i32_3642_r0 : BitVec 32 := 0#32
  let v2714_r0 : BitVec 1 := Scalar.cmpi .slt v2712_r0 c0_i32_3642_r0
  let c0_i32_3643_r0 : BitVec 32 := 0#32
  let v2715_r0 : BitVec 1 := Scalar.cmpi .slt v2711_r0 c0_i32_3643_r0
  let v2716_r0 : BitVec 1 := Scalar.xori v2714_r0 v2715_r0
  let c0_i32_3641_r0 : BitVec 32 := 0#32
  let v2713_r0 : BitVec 1 := Scalar.cmpi .ne v2712_r0 c0_i32_3641_r0
  let v2717_r0 : BitVec 1 := Scalar.andi v2716_r0 v2713_r0
  let v2718_r0 : BitVec 32 := Scalar.addi v2712_r0 v2711_r0
  let v2719_r0 : BitVec 32 := Scalar.select v2717_r0 v2718_r0 v2712_r0
  let c1_i32_3645_r0 : BitVec 32 := 1#32
  let v2720_r0 : BitVec 32 := Scalar.muli v2719_r0 c1_i32_3645_r0
  let v2721_r0 : BitVec 32 := Scalar.addi c0_i32_3646_r0 v2720_r0
  v2721_r0.toNat
def k0_dev80 (d0 : Dev nD) : Nat :=
  let c0_i32_3656_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3647_r0 : BitVec 32 := 5#32
  let v2722_r0 : BitVec 32 := Scalar.addi v2 c5_i32_3647_r0
  let c16_i32_3648_r0 : BitVec 32 := 16#32
  let c0_i32_3649_r0 : BitVec 32 := 0#32
  let v2723_r0 : BitVec 1 := Scalar.cmpi .eq c16_i32_3648_r0 c0_i32_3649_r0
  let c1_i32_3650_r0 : BitVec 32 := 1#32
  let v2724_r0 : BitVec 32 := Scalar.select v2723_r0 c1_i32_3650_r0 c16_i32_3648_r0
  let v2725_r0 : BitVec 32 := Scalar.remsi v2722_r0 v2724_r0
  let c0_i32_3652_r0 : BitVec 32 := 0#32
  let v2727_r0 : BitVec 1 := Scalar.cmpi .slt v2725_r0 c0_i32_3652_r0
  let c0_i32_3653_r0 : BitVec 32 := 0#32
  let v2728_r0 : BitVec 1 := Scalar.cmpi .slt v2724_r0 c0_i32_3653_r0
  let v2729_r0 : BitVec 1 := Scalar.xori v2727_r0 v2728_r0
  let c0_i32_3651_r0 : BitVec 32 := 0#32
  let v2726_r0 : BitVec 1 := Scalar.cmpi .ne v2725_r0 c0_i32_3651_r0
  let v2730_r0 : BitVec 1 := Scalar.andi v2729_r0 v2726_r0
  let v2731_r0 : BitVec 32 := Scalar.addi v2725_r0 v2724_r0
  let v2732_r0 : BitVec 32 := Scalar.select v2730_r0 v2731_r0 v2725_r0
  let c1_i32_3655_r0 : BitVec 32 := 1#32
  let v2733_r0 : BitVec 32 := Scalar.muli v2732_r0 c1_i32_3655_r0
  let v2734_r0 : BitVec 32 := Scalar.addi c0_i32_3656_r0 v2733_r0
  v2734_r0.toNat
def k0_dev81 (d0 : Dev nD) : Nat :=
  let c0_i32_3666_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3657_r0 : BitVec 32 := 6#32
  let v2735_r0 : BitVec 32 := Scalar.addi v2 c6_i32_3657_r0
  let c16_i32_3658_r0 : BitVec 32 := 16#32
  let c0_i32_3659_r0 : BitVec 32 := 0#32
  let v2736_r0 : BitVec 1 := Scalar.cmpi .eq c16_i32_3658_r0 c0_i32_3659_r0
  let c1_i32_3660_r0 : BitVec 32 := 1#32
  let v2737_r0 : BitVec 32 := Scalar.select v2736_r0 c1_i32_3660_r0 c16_i32_3658_r0
  let v2738_r0 : BitVec 32 := Scalar.remsi v2735_r0 v2737_r0
  let c0_i32_3662_r0 : BitVec 32 := 0#32
  let v2740_r0 : BitVec 1 := Scalar.cmpi .slt v2738_r0 c0_i32_3662_r0
  let c0_i32_3663_r0 : BitVec 32 := 0#32
  let v2741_r0 : BitVec 1 := Scalar.cmpi .slt v2737_r0 c0_i32_3663_r0
  let v2742_r0 : BitVec 1 := Scalar.xori v2740_r0 v2741_r0
  let c0_i32_3661_r0 : BitVec 32 := 0#32
  let v2739_r0 : BitVec 1 := Scalar.cmpi .ne v2738_r0 c0_i32_3661_r0
  let v2743_r0 : BitVec 1 := Scalar.andi v2742_r0 v2739_r0
  let v2744_r0 : BitVec 32 := Scalar.addi v2738_r0 v2737_r0
  let v2745_r0 : BitVec 32 := Scalar.select v2743_r0 v2744_r0 v2738_r0
  let c1_i32_3665_r0 : BitVec 32 := 1#32
  let v2746_r0 : BitVec 32 := Scalar.muli v2745_r0 c1_i32_3665_r0
  let v2747_r0 : BitVec 32 := Scalar.addi c0_i32_3666_r0 v2746_r0
  v2747_r0.toNat
def k0_dev82 (d0 : Dev nD) : Nat :=
  let c0_i32_3676_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3667_r0 : BitVec 32 := 7#32
  let v2748_r0 : BitVec 32 := Scalar.addi v2 c7_i32_3667_r0
  let c16_i32_3668_r0 : BitVec 32 := 16#32
  let c0_i32_3669_r0 : BitVec 32 := 0#32
  let v2749_r0 : BitVec 1 := Scalar.cmpi .eq c16_i32_3668_r0 c0_i32_3669_r0
  let c1_i32_3670_r0 : BitVec 32 := 1#32
  let v2750_r0 : BitVec 32 := Scalar.select v2749_r0 c1_i32_3670_r0 c16_i32_3668_r0
  let v2751_r0 : BitVec 32 := Scalar.remsi v2748_r0 v2750_r0
  let c0_i32_3672_r0 : BitVec 32 := 0#32
  let v2753_r0 : BitVec 1 := Scalar.cmpi .slt v2751_r0 c0_i32_3672_r0
  let c0_i32_3673_r0 : BitVec 32 := 0#32
  let v2754_r0 : BitVec 1 := Scalar.cmpi .slt v2750_r0 c0_i32_3673_r0
  let v2755_r0 : BitVec 1 := Scalar.xori v2753_r0 v2754_r0
  let c0_i32_3671_r0 : BitVec 32 := 0#32
  let v2752_r0 : BitVec 1 := Scalar.cmpi .ne v2751_r0 c0_i32_3671_r0
  let v2756_r0 : BitVec 1 := Scalar.andi v2755_r0 v2752_r0
  let v2757_r0 : BitVec 32 := Scalar.addi v2751_r0 v2750_r0
  let v2758_r0 : BitVec 32 := Scalar.select v2756_r0 v2757_r0 v2751_r0
  let c1_i32_3675_r0 : BitVec 32 := 1#32
  let v2759_r0 : BitVec 32 := Scalar.muli v2758_r0 c1_i32_3675_r0
  let v2760_r0 : BitVec 32 := Scalar.addi c0_i32_3676_r0 v2759_r0
  v2760_r0.toNat
def k0_dev83 (d0 : Dev nD) : Nat :=
  let c0_i32_3686_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3677_r0 : BitVec 32 := 8#32
  let v2761_r0 : BitVec 32 := Scalar.addi v2 c8_i32_3677_r0
  let c16_i32_3678_r0 : BitVec 32 := 16#32
  let c0_i32_3679_r0 : BitVec 32 := 0#32
  let v2762_r0 : BitVec 1 := Scalar.cmpi .eq c16_i32_3678_r0 c0_i32_3679_r0
  let c1_i32_3680_r0 : BitVec 32 := 1#32
  let v2763_r0 : BitVec 32 := Scalar.select v2762_r0 c1_i32_3680_r0 c16_i32_3678_r0
  let v2764_r0 : BitVec 32 := Scalar.remsi v2761_r0 v2763_r0
  let c0_i32_3682_r0 : BitVec 32 := 0#32
  let v2766_r0 : BitVec 1 := Scalar.cmpi .slt v2764_r0 c0_i32_3682_r0
  let c0_i32_3683_r0 : BitVec 32 := 0#32
  let v2767_r0 : BitVec 1 := Scalar.cmpi .slt v2763_r0 c0_i32_3683_r0
  let v2768_r0 : BitVec 1 := Scalar.xori v2766_r0 v2767_r0
  let c0_i32_3681_r0 : BitVec 32 := 0#32
  let v2765_r0 : BitVec 1 := Scalar.cmpi .ne v2764_r0 c0_i32_3681_r0
  let v2769_r0 : BitVec 1 := Scalar.andi v2768_r0 v2765_r0
  let v2770_r0 : BitVec 32 := Scalar.addi v2764_r0 v2763_r0
  let v2771_r0 : BitVec 32 := Scalar.select v2769_r0 v2770_r0 v2764_r0
  let c1_i32_3685_r0 : BitVec 32 := 1#32
  let v2772_r0 : BitVec 32 := Scalar.muli v2771_r0 c1_i32_3685_r0
  let v2773_r0 : BitVec 32 := Scalar.addi c0_i32_3686_r0 v2772_r0
  v2773_r0.toNat
def k0_dev84 (d0 : Dev nD) : Nat :=
  let c0_i32_3696_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3687_r0 : BitVec 32 := 9#32
  let v2774_r0 : BitVec 32 := Scalar.addi v2 c9_i32_3687_r0
  let c16_i32_3688_r0 : BitVec 32 := 16#32
  let c0_i32_3689_r0 : BitVec 32 := 0#32
  let v2775_r0 : BitVec 1 := Scalar.cmpi .eq c16_i32_3688_r0 c0_i32_3689_r0
  let c1_i32_3690_r0 : BitVec 32 := 1#32
  let v2776_r0 : BitVec 32 := Scalar.select v2775_r0 c1_i32_3690_r0 c16_i32_3688_r0
  let v2777_r0 : BitVec 32 := Scalar.remsi v2774_r0 v2776_r0
  let c0_i32_3692_r0 : BitVec 32 := 0#32
  let v2779_r0 : BitVec 1 := Scalar.cmpi .slt v2777_r0 c0_i32_3692_r0
  let c0_i32_3693_r0 : BitVec 32 := 0#32
  let v2780_r0 : BitVec 1 := Scalar.cmpi .slt v2776_r0 c0_i32_3693_r0
  let v2781_r0 : BitVec 1 := Scalar.xori v2779_r0 v2780_r0
  let c0_i32_3691_r0 : BitVec 32 := 0#32
  let v2778_r0 : BitVec 1 := Scalar.cmpi .ne v2777_r0 c0_i32_3691_r0
  let v2782_r0 : BitVec 1 := Scalar.andi v2781_r0 v2778_r0
  let v2783_r0 : BitVec 32 := Scalar.addi v2777_r0 v2776_r0
  let v2784_r0 : BitVec 32 := Scalar.select v2782_r0 v2783_r0 v2777_r0
  let c1_i32_3695_r0 : BitVec 32 := 1#32
  let v2785_r0 : BitVec 32 := Scalar.muli v2784_r0 c1_i32_3695_r0
  let v2786_r0 : BitVec 32 := Scalar.addi c0_i32_3696_r0 v2785_r0
  v2786_r0.toNat
def k0_dev85 (d0 : Dev nD) : Nat :=
  let c0_i32_3706_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3697_r0 : BitVec 32 := 10#32
  let v2787_r0 : BitVec 32 := Scalar.addi v2 c10_i32_3697_r0
  let c16_i32_3698_r0 : BitVec 32 := 16#32
  let c0_i32_3699_r0 : BitVec 32 := 0#32
  let v2788_r0 : BitVec 1 := Scalar.cmpi .eq c16_i32_3698_r0 c0_i32_3699_r0
  let c1_i32_3700_r0 : BitVec 32 := 1#32
  let v2789_r0 : BitVec 32 := Scalar.select v2788_r0 c1_i32_3700_r0 c16_i32_3698_r0
  let v2790_r0 : BitVec 32 := Scalar.remsi v2787_r0 v2789_r0
  let c0_i32_3702_r0 : BitVec 32 := 0#32
  let v2792_r0 : BitVec 1 := Scalar.cmpi .slt v2790_r0 c0_i32_3702_r0
  let c0_i32_3703_r0 : BitVec 32 := 0#32
  let v2793_r0 : BitVec 1 := Scalar.cmpi .slt v2789_r0 c0_i32_3703_r0
  let v2794_r0 : BitVec 1 := Scalar.xori v2792_r0 v2793_r0
  let c0_i32_3701_r0 : BitVec 32 := 0#32
  let v2791_r0 : BitVec 1 := Scalar.cmpi .ne v2790_r0 c0_i32_3701_r0
  let v2795_r0 : BitVec 1 := Scalar.andi v2794_r0 v2791_r0
  let v2796_r0 : BitVec 32 := Scalar.addi v2790_r0 v2789_r0
  let v2797_r0 : BitVec 32 := Scalar.select v2795_r0 v2796_r0 v2790_r0
  let c1_i32_3705_r0 : BitVec 32 := 1#32
  let v2798_r0 : BitVec 32 := Scalar.muli v2797_r0 c1_i32_3705_r0
  let v2799_r0 : BitVec 32 := Scalar.addi c0_i32_3706_r0 v2798_r0
  v2799_r0.toNat
def k0_dev86 (d0 : Dev nD) : Nat :=
  let c0_i32_3716_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3707_r0 : BitVec 32 := 11#32
  let v2800_r0 : BitVec 32 := Scalar.addi v2 c11_i32_3707_r0
  let c16_i32_3708_r0 : BitVec 32 := 16#32
  let c0_i32_3709_r0 : BitVec 32 := 0#32
  let v2801_r0 : BitVec 1 := Scalar.cmpi .eq c16_i32_3708_r0 c0_i32_3709_r0
  let c1_i32_3710_r0 : BitVec 32 := 1#32
  let v2802_r0 : BitVec 32 := Scalar.select v2801_r0 c1_i32_3710_r0 c16_i32_3708_r0
  let v2803_r0 : BitVec 32 := Scalar.remsi v2800_r0 v2802_r0
  let c0_i32_3712_r0 : BitVec 32 := 0#32
  let v2805_r0 : BitVec 1 := Scalar.cmpi .slt v2803_r0 c0_i32_3712_r0
  let c0_i32_3713_r0 : BitVec 32 := 0#32
  let v2806_r0 : BitVec 1 := Scalar.cmpi .slt v2802_r0 c0_i32_3713_r0
  let v2807_r0 : BitVec 1 := Scalar.xori v2805_r0 v2806_r0
  let c0_i32_3711_r0 : BitVec 32 := 0#32
  let v2804_r0 : BitVec 1 := Scalar.cmpi .ne v2803_r0 c0_i32_3711_r0
  let v2808_r0 : BitVec 1 := Scalar.andi v2807_r0 v2804_r0
  let v2809_r0 : BitVec 32 := Scalar.addi v2803_r0 v2802_r0
  let v2810_r0 : BitVec 32 := Scalar.select v2808_r0 v2809_r0 v2803_r0
  let c1_i32_3715_r0 : BitVec 32 := 1#32
  let v2811_r0 : BitVec 32 := Scalar.muli v2810_r0 c1_i32_3715_r0
  let v2812_r0 : BitVec 32 := Scalar.addi c0_i32_3716_r0 v2811_r0
  v2812_r0.toNat
def k0_dev87 (d0 : Dev nD) : Nat :=
  let c0_i32_3726_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3717_r0 : BitVec 32 := 12#32
  let v2813_r0 : BitVec 32 := Scalar.addi v2 c12_i32_3717_r0
  let c16_i32_3718_r0 : BitVec 32 := 16#32
  let c0_i32_3719_r0 : BitVec 32 := 0#32
  let v2814_r0 : BitVec 1 := Scalar.cmpi .eq c16_i32_3718_r0 c0_i32_3719_r0
  let c1_i32_3720_r0 : BitVec 32 := 1#32
  let v2815_r0 : BitVec 32 := Scalar.select v2814_r0 c1_i32_3720_r0 c16_i32_3718_r0
  let v2816_r0 : BitVec 32 := Scalar.remsi v2813_r0 v2815_r0
  let c0_i32_3722_r0 : BitVec 32 := 0#32
  let v2818_r0 : BitVec 1 := Scalar.cmpi .slt v2816_r0 c0_i32_3722_r0
  let c0_i32_3723_r0 : BitVec 32 := 0#32
  let v2819_r0 : BitVec 1 := Scalar.cmpi .slt v2815_r0 c0_i32_3723_r0
  let v2820_r0 : BitVec 1 := Scalar.xori v2818_r0 v2819_r0
  let c0_i32_3721_r0 : BitVec 32 := 0#32
  let v2817_r0 : BitVec 1 := Scalar.cmpi .ne v2816_r0 c0_i32_3721_r0
  let v2821_r0 : BitVec 1 := Scalar.andi v2820_r0 v2817_r0
  let v2822_r0 : BitVec 32 := Scalar.addi v2816_r0 v2815_r0
  let v2823_r0 : BitVec 32 := Scalar.select v2821_r0 v2822_r0 v2816_r0
  let c1_i32_3725_r0 : BitVec 32 := 1#32
  let v2824_r0 : BitVec 32 := Scalar.muli v2823_r0 c1_i32_3725_r0
  let v2825_r0 : BitVec 32 := Scalar.addi c0_i32_3726_r0 v2824_r0
  v2825_r0.toNat
def k0_dev88 (d0 : Dev nD) : Nat :=
  let c0_i32_3736_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3727_r0 : BitVec 32 := 13#32
  let v2826_r0 : BitVec 32 := Scalar.addi v2 c13_i32_3727_r0
  let c16_i32_3728_r0 : BitVec 32 := 16#32
  let c0_i32_3729_r0 : BitVec 32 := 0#32
  let v2827_r0 : BitVec 1 := Scalar.cmpi .eq c16_i32_3728_r0 c0_i32_3729_r0
  let c1_i32_3730_r0 : BitVec 32 := 1#32
  let v2828_r0 : BitVec 32 := Scalar.select v2827_r0 c1_i32_3730_r0 c16_i32_3728_r0
  let v2829_r0 : BitVec 32 := Scalar.remsi v2826_r0 v2828_r0
  let c0_i32_3732_r0 : BitVec 32 := 0#32
  let v2831_r0 : BitVec 1 := Scalar.cmpi .slt v2829_r0 c0_i32_3732_r0
  let c0_i32_3733_r0 : BitVec 32 := 0#32
  let v2832_r0 : BitVec 1 := Scalar.cmpi .slt v2828_r0 c0_i32_3733_r0
  let v2833_r0 : BitVec 1 := Scalar.xori v2831_r0 v2832_r0
  let c0_i32_3731_r0 : BitVec 32 := 0#32
  let v2830_r0 : BitVec 1 := Scalar.cmpi .ne v2829_r0 c0_i32_3731_r0
  let v2834_r0 : BitVec 1 := Scalar.andi v2833_r0 v2830_r0
  let v2835_r0 : BitVec 32 := Scalar.addi v2829_r0 v2828_r0
  let v2836_r0 : BitVec 32 := Scalar.select v2834_r0 v2835_r0 v2829_r0
  let c1_i32_3735_r0 : BitVec 32 := 1#32
  let v2837_r0 : BitVec 32 := Scalar.muli v2836_r0 c1_i32_3735_r0
  let v2838_r0 : BitVec 32 := Scalar.addi c0_i32_3736_r0 v2837_r0
  v2838_r0.toNat
def k0_dev89 (d0 : Dev nD) : Nat :=
  let c0_i32_3746_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3737_r0 : BitVec 32 := 14#32
  let v2839_r0 : BitVec 32 := Scalar.addi v2 c14_i32_3737_r0
  let c16_i32_3738_r0 : BitVec 32 := 16#32
  let c0_i32_3739_r0 : BitVec 32 := 0#32
  let v2840_r0 : BitVec 1 := Scalar.cmpi .eq c16_i32_3738_r0 c0_i32_3739_r0
  let c1_i32_3740_r0 : BitVec 32 := 1#32
  let v2841_r0 : BitVec 32 := Scalar.select v2840_r0 c1_i32_3740_r0 c16_i32_3738_r0
  let v2842_r0 : BitVec 32 := Scalar.remsi v2839_r0 v2841_r0
  let c0_i32_3742_r0 : BitVec 32 := 0#32
  let v2844_r0 : BitVec 1 := Scalar.cmpi .slt v2842_r0 c0_i32_3742_r0
  let c0_i32_3743_r0 : BitVec 32 := 0#32
  let v2845_r0 : BitVec 1 := Scalar.cmpi .slt v2841_r0 c0_i32_3743_r0
  let v2846_r0 : BitVec 1 := Scalar.xori v2844_r0 v2845_r0
  let c0_i32_3741_r0 : BitVec 32 := 0#32
  let v2843_r0 : BitVec 1 := Scalar.cmpi .ne v2842_r0 c0_i32_3741_r0
  let v2847_r0 : BitVec 1 := Scalar.andi v2846_r0 v2843_r0
  let v2848_r0 : BitVec 32 := Scalar.addi v2842_r0 v2841_r0
  let v2849_r0 : BitVec 32 := Scalar.select v2847_r0 v2848_r0 v2842_r0
  let c1_i32_3745_r0 : BitVec 32 := 1#32
  let v2850_r0 : BitVec 32 := Scalar.muli v2849_r0 c1_i32_3745_r0
  let v2851_r0 : BitVec 32 := Scalar.addi c0_i32_3746_r0 v2850_r0
  v2851_r0.toNat
def k0_dev90 (d0 : Dev nD) : Nat :=
  let c0_i32_3756_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3747_r0 : BitVec 32 := 15#32
  let v2852_r0 : BitVec 32 := Scalar.addi v2 c15_i32_3747_r0
  let c16_i32_3748_r0 : BitVec 32 := 16#32
  let c0_i32_3749_r0 : BitVec 32 := 0#32
  let v2853_r0 : BitVec 1 := Scalar.cmpi .eq c16_i32_3748_r0 c0_i32_3749_r0
  let c1_i32_3750_r0 : BitVec 32 := 1#32
  let v2854_r0 : BitVec 32 := Scalar.select v2853_r0 c1_i32_3750_r0 c16_i32_3748_r0
  let v2855_r0 : BitVec 32 := Scalar.remsi v2852_r0 v2854_r0
  let c0_i32_3752_r0 : BitVec 32 := 0#32
  let v2857_r0 : BitVec 1 := Scalar.cmpi .slt v2855_r0 c0_i32_3752_r0
  let c0_i32_3753_r0 : BitVec 32 := 0#32
  let v2858_r0 : BitVec 1 := Scalar.cmpi .slt v2854_r0 c0_i32_3753_r0
  let v2859_r0 : BitVec 1 := Scalar.xori v2857_r0 v2858_r0
  let c0_i32_3751_r0 : BitVec 32 := 0#32
  let v2856_r0 : BitVec 1 := Scalar.cmpi .ne v2855_r0 c0_i32_3751_r0
  let v2860_r0 : BitVec 1 := Scalar.andi v2859_r0 v2856_r0
  let v2861_r0 : BitVec 32 := Scalar.addi v2855_r0 v2854_r0
  let v2862_r0 : BitVec 32 := Scalar.select v2860_r0 v2861_r0 v2855_r0
  let c1_i32_3755_r0 : BitVec 32 := 1#32
  let v2863_r0 : BitVec 32 := Scalar.muli v2862_r0 c1_i32_3755_r0
  let v2864_r0 : BitVec 32 := Scalar.addi c0_i32_3756_r0 v2863_r0
  v2864_r0.toNat
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x16384 : Shape := ⟨2, ![4096, 16384]⟩
abbrev S16384 : Shape := ⟨1, ![16384]⟩
abbrev S_ : Shape := ⟨0, ![]⟩
abbrev S4096 : Shape := ⟨1, ![4096]⟩
abbrev S4096x1 : Shape := ⟨2, ![4096, 1]⟩
abbrev S1x16384 : Shape := ⟨2, ![1, 16384]⟩

abbrev nBuf : Space → Nat
  | .hbm => 47
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x16384, .f32⟩
  | .hbm, ⟨17, _⟩ => ⟨S4096x16384, .f32⟩
  | .hbm, ⟨18, _⟩ => ⟨S4096x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x16384, .f32⟩
  | .hbm, ⟨34, _⟩ => ⟨S4096x16384, .f32⟩
  | .hbm, ⟨35, _⟩ => ⟨S1x16384, .f32⟩
  | .hbm, ⟨36, _⟩ => ⟨S4096x16384, .f32⟩
  | .hbm, ⟨37, _⟩ => ⟨S4096x16384, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x16384, .f32⟩
  | .hbm, ⟨43, _⟩ => ⟨S4096x16384, .f32⟩
  | .hbm, ⟨44, _⟩ => ⟨S1x16384, .f32⟩
  | .hbm, ⟨45, _⟩ => ⟨S4096x16384, .f32⟩
  | .hbm, ⟨46, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.RefValue.lean ====
/-
  What the reference computes, entry by entry, over the extended reals.
-/
module

public import proofs.«01_k».proof.Proof.Gen.ReferenceIdeal.Run
public import Idealize.ShloMosaic.Lib.Pointwise

@[expose] public section

set_option maxRecDepth 16384

noncomputable section

namespace Cert.ReferenceIdeal.Norm

open Cert.ReferenceIdeal Cert.ReferenceIdeal.Gen
open Idealize.ShloMosaic Idealize.ShloMosaic.TcCoe Idealize.SL.Sem

/-- The divisor of the variance: the number of columns, less the correction the reference asks for, none. -/
def refCount : FVec Ideal S_ .f32 := subf (constant S_ .f32 0x46800000#32) (sitofp .f32 (constantI S_ 32 0#32))

/-- The reference's column of means. -/
def refMean (X : FVec Ideal S4096x16384 .f32) : FVec Ideal S4096x1 .f32 :=
  Host.divf (broadcastInDim S4096x1 ![0] bcast_S4096_S4096x1_0 (Host.reduceAdd X (constant S_ .f32 0x00000000#32) reducesTo_S4096x16384_S4096_d1 h_S_))
    (broadcastInDim S4096x1 ![] bcast_S_S4096x1 (constant S_ .f32 0x46800000#32))

/-- The reference's array of deviations from the means. -/
def refDev (X : FVec Ideal S4096x16384 .f32) : FVec Ideal S4096x16384 .f32 :=
  subf X (broadcastInDim S4096x16384 ![0, 1] bcast_S4096x1_S4096x16384_0_1 (refMean X))

/-- The reference's column of variances. -/
def refVar (X : FVec Ideal S4096x16384 .f32) : FVec Ideal S4096x1 .f32 :=
  select (broadcastInDim S4096x1 ![] bcast_S_S4096x1 (cmpf .ogt refCount (constant S_ .f32 0x00000000#32)))
    (Host.divf (broadcastInDim S4096x1 ![0] bcast_S4096_S4096x1_0
        (Host.reduceAdd (mulf (refDev X) (refDev X)) (constant S_ .f32 0x00000000#32) reducesTo_S4096x16384_S4096_d1 h_S_))
      (broadcastInDim S4096x1 ![] bcast_S_S4096x1 refCount))
    (broadcastInDim S4096x1 ![] bcast_S_S4096x1 (id (constant S_ .f32 0x7FC00000#32)))

/-- The reference's result. -/
def refOut (X : FVec Ideal S4096x16384 .f32) (G B : FVec Ideal S16384 .f32) : FVec Ideal S4096x16384 .f32 :=
  addf (Host.divf
      (mulf (broadcastInDim S4096x16384 ![0, 1] bcast_S1x16384_S4096x16384_0_1 (broadcastInDim S1x16384 ![1] bcast_S16384_S1x16384_1 G)) (refDev X))
      (broadcastInDim S4096x16384 ![0, 1] bcast_S4096x1_S4096x16384_0_1
        (Host.sqrt (addf (refVar X) (broadcastInDim S4096x1 ![] bcast_S_S4096x1 (constant S_ .f32 0x3727C5AC#32))))))
    (broadcastInDim S4096x16384 ![0, 1] bcast_S1x16384_S4096x16384_0_1 (broadcastInDim S1x16384 ![1] bcast_S16384_S1x16384_1 B))

/-- Every run of the reference ends with `refOut` of its arguments, and the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = refOut (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-- The mean of a row: its sum over the number of columns. -/
theorem refMean_apply (X : FVec Ideal S4096x16384 .f32) (r : Fin 4096) :
    refMean X (ix2 r 0) = Ideal.div (∑ J : Fin 16384, X (ix2 r J)) (Ideal.ofBits .f32 0x46800000#32) := by
  pointwise [refMean]

/-- The deviation of an entry from the mean of its row. -/
theorem refDev_apply (X : FVec Ideal S4096x16384 .f32) (r : Fin 4096) (J : Fin 16384) :
    refDev X (ix2 r J) = X (ix2 r J) - refMean X (ix2 r 0) := by
  pointwise [refDev]

/-- The divisor of the variance is the number of columns. -/
theorem refCount_apply : refCount ix0 = Ideal.ofBits .f32 0x46800000#32 := by
  pointwise [refCount]
  show _ - (((0#32 : BitVec 32).toInt : ℝ) : EReal) = _
  simp

/-- The variance of a row: the sum of the squared deviations over the number of columns, the count being positive. -/
theorem refVar_apply (hN : 0 < Ideal.ofBits .f32 0x46800000#32) (X : FVec Ideal S4096x16384 .f32) (r : Fin 4096) :
    refVar X (ix2 r 0)
      = Ideal.div (∑ J : Fin 16384, refDev X (ix2 r J) * refDev X (ix2 r J)) (Ideal.ofBits .f32 0x46800000#32) := by
  pointwise [refVar, refCount_apply]
  exact if_pos hN

/-- One entry of the reference's result. -/
theorem refOut_apply (X : FVec Ideal S4096x16384 .f32) (G B : FVec Ideal S16384 .f32) (r : Fin 4096) (J : Fin 16384) :
    refOut X G B (ix2 r J)
      = Ideal.div (G (ix1 J) * refDev X (ix2 r J)) (Ideal.sqrt (refVar X (ix2 r 0) + Ideal.ofBits .f32 0x3727C5AC#32))
          + B (ix1 J) := by
  pointwise [refOut]

end Cert.ReferenceIdeal.Norm

end
-- ==== Proof.Program.lean ====
/-
  The kernel body written with loops: the same operations in the same order, the unrolled repetitions over row groups,
  peers and chunks as recursions over lists.  `body_eq` says the printed body is this one.
-/
module

public import proofs.«01_k».proof.Proof.Gen.KernelIdeal.Skeleton
public import proofs.«01_k».proof.Proof.Gen.KernelIdeal.Points

@[expose] public section

set_option maxRecDepth 16384

noncomputable section

namespace Cert.KernelIdeal.Norm

open Cert.KernelIdeal.Gen
open Idealize.ShloMosaic Idealize.ShloMosaic.TcCoe
open Idealize.SL Idealize.SL.Sem

variable {F : FTy → Type} [FloatOps F]

/-- The programs of this kernel's body. -/
abbrev PR (F : FTy → Type) [FloatOps F] := Prog (TpuEff nD τ sig (Elt F) Λ₀ .tc) PUnit

/-! ## Where things lie -/

theorem rows_inb (g : Fin 4) : ∀ a, (![1024 * g.val, 0] : Fin 2 → Nat) a + S1024x1024.size a ≤ S4096x1024.size a := by
  revert g; decide

theorem half_inb (t : Fin 8) : ∀ a, (![512 * t.val, 0] : Fin 2 → Nat) a + S512x1024.size a ≤ S4096x1024.size a := by
  revert t; decide

theorem slot_inb (g : Fin 4) (k : Fin 16) :
    ∀ a, (![g.val, k.val, 0, 0, 0] : Fin 5 → Nat) a + S1x1x2x8x128.size a ≤ S4x16x2x8x128.size a := by
  revert g k; decide

theorem group_inb (g : Fin 4) :
    ∀ a, (![g.val, 0, 0, 0, 0] : Fin 5 → Nat) a + S1x16x2x8x128.size a ≤ S4x16x2x8x128.size a := by
  revert g; decide

theorem stage_inb (s : Fin 2) : ∀ a, (![s.val, 0, 0] : Fin 3 → Nat) a + S1x512x1024.size a ≤ S2x512x1024.size a := by
  revert s; decide

theorem sem2_inb (g : Fin 4) (k : Fin 16) : ∀ a, (![g.val, k.val] : Fin 2 → Nat) a + S1x1.size a ≤ S4x16.size a := by
  revert g k; decide

theorem sem4_inb (g : Fin 4) : ∀ a, (![g.val] : Fin 1 → Nat) a + S1.size a ≤ S4.size a := by
  revert g; decide

theorem semO_inb (s : Fin 2) : ∀ a, (![s.val] : Fin 1 → Nat) a + S1.size a ≤ S2.size a := by
  revert s; decide

/-- The 1024 rows of group `g`. -/
abbrev rowsR (g : Fin 4) : Rect S4096x1024 := Rect.unit (s := S4096x1024) ![1024 * g.val, 0] S1024x1024.size (rows_inb g)
/-- The 512 rows of chunk `t`. -/
abbrev halfR (t : Fin 8) : Rect S4096x1024 := Rect.unit (s := S4096x1024) ![512 * t.val, 0] S512x1024.size (half_inb t)
/-- The slot of the statistics of group `g` that the device at distance `k` sends. -/
abbrev slotR (g : Fin 4) (k : Fin 16) : Rect S4x16x2x8x128 :=
  Rect.unit (s := S4x16x2x8x128) ![g.val, k.val, 0, 0, 0] S1x1x2x8x128.size (slot_inb g k)
/-- All sixteen slots of group `g`. -/
abbrev groupR (g : Fin 4) : Rect S4x16x2x8x128 :=
  Rect.unit (s := S4x16x2x8x128) ![g.val, 0, 0, 0, 0] S1x16x2x8x128.size (group_inb g)
/-- The output staging buffer `s`. -/
abbrev stageR (s : Fin 2) : Rect S2x512x1024 := Rect.unit (s := S2x512x1024) ![s.val, 0, 0] S1x512x1024.size (stage_inb s)

/-- The input's rows of group `g`. -/
def srcM (g : Fin 4) : Memref sig .tc .hbm S1024x1024 .f32 := (Memref.whole main_arg0).slice (rowsR g) (fun _ => rfl)
/-- The copy of the input's rows of group `g` in the kernel's memory. -/
def xM (g : Fin 4) : Memref sig .tc .vmem S1024x1024 .f32 := (Memref.whole cc0_scratch0).slice (rowsR g) (fun _ => rfl)
/-- One slot of statistics. -/
def slotM (g : Fin 4) (k : Fin 16) : Memref sig .tc .vmem S2x8x128 .f32 :=
  ((Memref.whole cc0_scratch1).slice (slotR g k) (fun _ => rfl)).squeeze S2x8x128 squeezes_S1x1x2x8x128_S2x8x128
/-- One output staging buffer. -/
def stageM (s : Fin 2) : Memref sig .tc .vmem S512x1024 .f32 :=
  ((Memref.whole cc0_scratch2).slice (stageR s) (fun _ => rfl)).squeeze S512x1024 squeezes_S1x512x1024_S512x1024
/-- The result's rows of chunk `t`. -/
def outM (t : Fin 8) : Memref sig .tc .hbm S512x1024 .f32 := (Memref.whole main_v1).slice (halfR t) (fun _ => rfl)

/-- The semaphore of the copy in of group `g`. -/
def inSem (g : Fin 4) : DmaSem sig :=
  ((cc0_scratch3.slice (Rect.unit (s := S4) ![g.val] S1.size (sem4_inb g))).squeeze S_ squeezes_S1_S_).sem
/-- The semaphore of the departure of group `g` to the device at distance `k`. -/
def sendSem (g : Fin 4) (k : Fin 16) : DmaSem sig :=
  ((cc0_scratch4.slice (Rect.unit (s := S4x16) ![g.val, k.val] S1x1.size (sem2_inb g k))).squeeze S_ squeezes_S1x1_S_).sem
/-- The semaphore of the arrival of group `g` from the device at distance `k`. -/
def recvSem (g : Fin 4) (k : Fin 16) : DmaSem sig :=
  ((cc0_scratch5.slice (Rect.unit (s := S4x16) ![g.val, k.val] S1x1.size (sem2_inb g k))).squeeze S_ squeezes_S1x1_S_).sem
/-- The semaphore of the copies out of staging buffer `s`. -/
def outSem (s : Fin 2) : DmaSem sig :=
  ((cc0_scratch6.slice (Rect.unit (s := S2) ![s.val] S1.size (semO_inb s))).squeeze S_ squeezes_S1_S_).sem
/-- The semaphore every device signals to its peers before it sends. -/
def barSem : Sem sig := (SemArray.scalar (sig.barrier 0 rfl) : Sems sig S_).sem
/-- The semaphore every device signals to its peers at the end. -/
def finSem : Sem sig := cc0_scoped0.sem

/-- The device at distance `k` round the mesh, as the kernel computes it. -/
def devW (k : ℕ) (d0 : Dev nD) : ℕ :=
  let v1 : BitVec 32 := Scalar.divsi (Dev.word d0) 1#32
  let v2 : BitVec 32 := Scalar.remsi v1 16#32
  let v20 : BitVec 32 := Scalar.addi v2 (BitVec.ofNat 32 k)
  let v21 : BitVec 1 := Scalar.cmpi .eq 16#32 0#32
  let v22 : BitVec 32 := Scalar.select v21 1#32 16#32
  let v23 : BitVec 32 := Scalar.remsi v20 v22
  let v25 : BitVec 1 := Scalar.cmpi .slt v23 0#32
  let v26 : BitVec 1 := Scalar.cmpi .slt v22 0#32
  let v27 : BitVec 1 := Scalar.xori v25 v26
  let v24 : BitVec 1 := Scalar.cmpi .ne v23 0#32
  let v28 : BitVec 1 := Scalar.andi v27 v24
  let v29 : BitVec 32 := Scalar.addi v23 v22
  let v30 : BitVec 32 := Scalar.select v28 v29 v23
  let v31 : BitVec 32 := Scalar.muli v30 1#32
  (Scalar.addi 0#32 v31).toNat

theorem devW_eq : ∀ (k : Fin 16) (d0 : Dev nD), devW k.val d0 = (d0.val + k.val) % 16 := by decide +kernel

theorem devW_lt (k : Fin 16) (d0 : Dev nD) : devW k.val d0 < nD := by
  rw [devW_eq]; exact Nat.mod_lt _ (by decide)

/-- The peer at distance `k`, as a device. -/
def dst (k : Fin 16) (d0 : Dev nD) : Dev nD := ⟨devW k.val d0, devW_lt k d0⟩

/-! ## The steps -/

/-- The statistics of 1024 rows: their sums and their sums of squares, in the slot's layout. -/
def stat (X : Vec F S1024x1024 .f32) : FVec F S1x1x2x8x128 .f32 := k0_pay1 X

/-- The normalised rows of a chunk, the chunk `h` of the two of a group, from scale, shift, the group's statistics and the
    chunk's rows. -/
def chunkVal (h : Fin 2) (γ β : FVec F S1x1x1024 .f32) (G : Vec F S1x16x2x8x128 .f32) (X : Vec F S512x1024 .f32) :
    FVec F S1x512x1024 .f32 :=
  match h with
  | 0 => k0_pay25 γ β G X
  | 1 => k0_pay26 γ β (k0_pay23 G) (k0_pay24 G) X

/-- The copies in. -/
def copiesIn (gs : List (Fin 4)) (K : PR F) : PR F :=
  gs.foldr (fun g K => .op (.enqueueDma (srcM g) (.here (xM g)) (.dma (inSem g)) (View.wordExact_bits rfl) (View.wordExact_bits rfl)
    ⟨Or.inl rfl, trivial⟩) fun _ => K) K

/-- One unit to the semaphore `sem` of each peer. -/
def signals (sem : Sem sig) (d0 : Dev nD) (ks : List (Fin 16)) (K : PR F) : PR F :=
  ks.foldr (fun k K => .op (.semSignal (Dev.tc (dst k d0)) sem (1#32).toInt) fun _ => K) K

/-- The statistics of group `g` sent to each peer. -/
def sends (d0 : Dev nD) (g : Fin 4) (ks : List (Fin 16)) (K : PR F) : PR F :=
  ks.foldr (fun k K => .op (.enqueueDma (slotM g 0) (.remote (Dev.tc (dst k d0)) (slotM g k) (.dma (sendSem g k))) (.dma (recvSem g k))
    ((View.wordExact_bits rfl).reshape _ _) ((View.wordExact_bits rfl).reshape _ _) ⟨⟨rfl, Or.inl rfl⟩, trivial⟩) fun _ => K) K

/-- Wait for group `g`'s rows, put their statistics in the device's own slot, send them to each peer. -/
def group (d0 : Dev nD) (ks : List (Fin 16)) (g : Fin 4) (K : PR F) : PR F :=
  .op (.waitDma2 (inSem g) (srcM g) (xM g) (View.wordExact_bits rfl) (View.wordExact_bits rfl)) fun _ =>
  .op (.load (Memref.whole cc0_scratch0) (rowsR g).toLoadRect (View.loadsAt_vmem h_S1024x1024)) fun X =>
  .op (.load (Memref.whole cc0_scratch1) (slotR g 0).toLoadRect (View.loadsAt_vmem h_S1x1x2x8x128)) fun _ =>
  .op (.store (Memref.whole cc0_scratch1) (slotR g 0) (stat X) Finset.univ (View.stores_vmem_bits_univ h_S1x1x2x8x128 rfl)
    (.inl rfl)) fun _ =>
  sends d0 g ks K

/-- Wait until each send of group `g` has left and each peer's statistics have come. -/
def waits (g : Fin 4) (ks : List (Fin 16)) (K : PR F) : PR F :=
  ks.foldr (fun k K =>
    .op (.waitDma2 (sendSem g k) (slotM g k) (slotM g 0) ((View.wordExact_bits rfl).reshape _ _) ((View.wordExact_bits rfl).reshape _ _))
      fun _ =>
    .op (.waitDma2 (recvSem g k) (slotM g 0) (slotM g k) ((View.wordExact_bits rfl).reshape _ _) ((View.wordExact_bits rfl).reshape _ _))
      fun _ => K) K

/-- Load a chunk's rows, normalise them into the staging buffer, start the copy out. -/
def chunk (γ β : FVec F S1x1x1024 .f32) (G : Vec F S1x16x2x8x128 .f32) (t : Fin 8) (h : Fin 2) (K : PR F) : PR F :=
  .op (.load (Memref.whole cc0_scratch0) (halfR t).toLoadRect (View.loadsAt_vmem h_S512x1024)) fun X =>
  .op (.load (Memref.whole cc0_scratch2) (stageR h).toLoadRect (View.loadsAt_vmem h_S1x512x1024)) fun _ =>
  .op (.store (Memref.whole cc0_scratch2) (stageR h) (chunkVal h γ β G X) Finset.univ (View.stores_vmem_bits_univ h_S1x512x1024 rfl)
    (.inl rfl)) fun _ =>
  .op (.enqueueDma (stageM h) (.here (outM t)) (.dma (outSem h)) ((View.wordExact_bits rfl).reshape _ _) (View.wordExact_bits rfl)
    ⟨Or.inl rfl, trivial⟩) fun _ => K

/-- Wait for the copy out of chunk `t` from staging buffer `h`. -/
def waitOut (t : Fin 8) (h : Fin 2) (K : PR F) : PR F :=
  .op (.waitDma2 (outSem h) (stageM h) (outM t) ((View.wordExact_bits rfl).reshape _ _) (View.wordExact_bits rfl)) fun _ => K

/-- The chunk number of the chunk `h` of group `g`. -/
abbrev chunkNo (g : Fin 4) (h : Fin 2) : Fin 8 := ⟨2 * g.val + h.val, by omega⟩

/-- The two chunks of a group, with `W t h` before each. -/
def chunks (γ β : FVec F S1x1x1024 .f32) (G : Vec F S1x16x2x8x128 .f32) (W : Fin 2 → PR F → PR F) (g : Fin 4) (K : PR F) : PR F :=
  W 0 (chunk γ β G (chunkNo g 0) 0 (W 1 (chunk γ β G (chunkNo g 1) 1 K)))

/-- What a group does once its statistics may be read. -/
def finish (γ β : FVec F S1x1x1024 .f32) (ks : List (Fin 16)) (W : Fin 2 → PR F → PR F) (g : Fin 4) (K : PR F) : PR F :=
  waits g ks <|
  .op (.load (Memref.whole cc0_scratch1) (groupR g).toLoadRect (View.loadsAt_vmem h_S1x16x2x8x128)) fun G =>
  chunks γ β G W g K

/-- The peers' distances. -/
abbrev ks15 : List (Fin 16) := [1, 2, 3, 4, 5, 6, 7, 8, 9, 10, 11, 12, 13, 14, 15]

/-- The body. -/
def body (arg1 arg2 : Memref sig .tc .vmem S1024 .f32) : PR F :=
  .op .deviceId fun d0 =>
  copiesIn [0, 1, 2, 3] <|
  signals barSem d0 ks15 <|
  .op (.semWait barSem (15#32).toInt) fun _ =>
  group d0 ks15 0 <| group d0 ks15 1 <| group d0 ks15 2 <| group d0 ks15 3 <|
  .op (.load arg1 (Rect.unit (s := S1024) ![0] S1024.size inb_S1024_S1024_0).toLoadRect (View.loadsAt_vmem h_S1024))
    fun γ =>
  .op (.load arg2 (Rect.unit (s := S1024) ![0] S1024.size inb_S1024_S1024_0).toLoadRect (View.loadsAt_vmem h_S1024))
    fun β =>
  finish (k0_pay6 γ) (k0_pay7 β) ks15 (fun _ K => K) 0 <|
  finish (k0_pay6 γ) (k0_pay7 β) ks15 (fun h => waitOut (chunkNo 0 h) h) 1 <|
  finish (k0_pay6 γ) (k0_pay7 β) ks15 (fun h => waitOut (chunkNo 1 h) h) 2 <|
  finish (k0_pay6 γ) (k0_pay7 β) ks15 (fun h => waitOut (chunkNo 2 h) h) 3 <|
  waitOut (chunkNo 3 0) 0 <| waitOut (chunkNo 3 1) 1 <|
  signals finSem d0 ks15 <|
  .op (.semWait finSem (15#32).toInt) fun _ => .ret ⟨⟩

end Cert.KernelIdeal.Norm

end
-- ==== Proof.ProgramEq.lean ====
/-
  The printed body is the looped one.
-/
module

public import proofs.«01_k».proof.Proof.Program

@[expose] public section

set_option maxRecDepth 65536

noncomputable section

namespace Cert.KernelIdeal.Norm

open Cert.KernelIdeal.Gen
open Idealize.ShloMosaic Idealize.ShloMosaic.TcCoe
open Idealize.SL Idealize.SL.Sem

variable {F : FTy → Type} [FloatOps F]

set_option maxHeartbeats 0 in
/-- The printed body, as the pipeline calls it, is the looped one. -/
theorem body_eq (t : Fin cfg0.N) : bodyAt0 (F := F) t = body (win0_0.stage (cfg0.slots t 0)) (win0_1.stage (cfg0.slots t 1)) := by
  unfold bodyAt0
  rfl

end Cert.KernelIdeal.Norm

end
-- ==== Proof.Schedule.lean ====
/-
  The exchange of the statistics as rounds of cells: who pays which cell what, what comes with each payment, what a device
  owes when it starts, and the levels that order the waits.
-/
module

public import proofs.«01_k».proof.Proof.ProgramEq
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## The ghost state -/

abbrev UB := URounds (GSem nD τ sig) (Fin 16)
abbrev UU := UR sig nD τ × (UB × Counters)
local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh as a circle -/

theorem fwd_lt (c : Dev nD) (k : Fin 16) : (c.val + k.val) % 16 < nD := Nat.mod_lt _ (by decide)
/-- The device at distance `k` from `c`. -/
def fwd (c : Dev nD) (k : Fin 16) : Dev nD := ⟨(c.val + k.val) % 16, fwd_lt c k⟩
theorem dst_eq (k : Fin 16) (c : Dev nD) : dst k c = fwd c k := Fin.ext (devW_eq k c)
theorem fwd_back : ∀ (c : Dev nD) (k : Fin 16), fwd (fwd c k) (-k) = c := by decide +kernel
theorem back_fwd : ∀ (c : Dev nD) (k : Fin 16), fwd (fwd c (-k)) k = c := by decide +kernel
theorem fwd_zero : ∀ c : Dev nD, fwd c (-0) = c := by decide
/-- Going distance `k` is a permutation of the devices. -/
def turn (k : Fin 16) : Dev nD ≃ Dev nD := ⟨fun c => fwd c k, fun c => fwd c (-k), fun c => fwd_back c k, fun c => back_fwd c k⟩

/-- The distances of the peers, as a set. -/
def far : Finset (Fin 16) := ks15.toFinset
theorem mem_far : ∀ k : Fin 16, k ∈ far ↔ k ≠ 0 := by decide
theorem ks15_nodup : ks15.Nodup := by decide
theorem ks15_ne : ∀ k ∈ ks15, k ≠ 0 := by decide
theorem neg_mem_far : ∀ k ∈ far, -k ∈ far := by decide

/-! ## The cells -/

/-- Which of the exchange's semaphores a semaphore is. -/
inductive Kd where
  | bar | fin | send (g : Fin 4) (k : Fin 16) | recv (g : Fin 4) (k : Fin 16) | other
  deriving DecidableEq

def kd (s : SemLoc sig) : Kd :=
  match s with
  | .reg q => if q = barSem then .bar else if q = finSem then .fin else .other
  | .dma q =>
    if h : 6 ≤ q.val ∧ q.val < 70 then .send ⟨(q.val - 6) / 16, by omega⟩ ⟨(q.val - 6) % 16, by omega⟩
    else if h : 70 ≤ q.val ∧ q.val < 134 then .recv ⟨(q.val - 70) / 16, by omega⟩ ⟨(q.val - 70) % 16, by omega⟩
    else .other

theorem kd_bar : kd (.reg barSem) = .bar := by decide
theorem kd_fin : kd (.reg finSem) = .fin := by decide
theorem kd_send : ∀ g k, kd (.dma (sendSem g k)) = .send g k := by decide +kernel
theorem kd_recv : ∀ g k, kd (.dma (recvSem g k)) = .recv g k := by decide +kernel
theorem kd_in : ∀ g, kd (.dma (inSem g)) = .other := by decide +kernel
theorem kd_out : ∀ s, kd (.dma (outSem s)) = .other := by decide +kernel

abbrev barCell (c : Dev nD) : GSem nD τ sig := ((c : Thread nD τ), .reg barSem)
abbrev finCell (c : Dev nD) : GSem nD τ sig := ((c : Thread nD τ), .reg finSem)
abbrev sendCell (c : Dev nD) (g : Fin 4) (k : Fin 16) : GSem nD τ sig := ((c : Thread nD τ), .dma (sendSem g k))
abbrev recvCell (c : Dev nD) (g : Fin 4) (k : Fin 16) : GSem nD τ sig := ((c : Thread nD τ), .dma (recvSem g k))

/-- The credit of one slot. -/
def N : ℕ := (slotM 0 0).view.dmaCredit
theorem N_pos : 0 < N := View.dmaCredit_pos _ (by decide)
theorem amount_slot (g : Fin 4) (k : Fin 16) (sm : DmaSem sig) : (slotM g k).view.amount (.dma sm) = N := rfl

/-! ## Contents -/

/-- The copy of device `c`'s input. -/
def xF (c : Dev nD) : (cc0_scratch0 : Ref sig .tc).ty.Contents (Elt F) := m ((c : Thread nD τ).loc main_arg0)

/-- Device `c`'s rows of group `g`. -/
def grpX (c : Dev nD) (g : Fin 4) : Vec F S1024x1024 .f32 :=
  ((Memref.whole cc0_scratch0).access (rowsR g)).read (Elt F) (xF m c)

/-- The statistics of device `c`'s rows of group `g`. -/
def statF (c : Dev nD) (g : Fin 4) : FVec F S1x1x2x8x128 .f32 := stat (grpX m c g)

/-- The index within a slot of an index of the buffer of statistics. -/
def inSlot (i : S4x16x2x8x128.Idx) : S1x1x2x8x128.Idx := fun a =>
  match a with
  | ⟨0, _⟩ => ⟨0, Nat.one_pos⟩
  | ⟨1, _⟩ => ⟨0, Nat.one_pos⟩
  | ⟨2, _⟩ => i 2
  | ⟨3, _⟩ => i 3
  | ⟨4, _⟩ => i 4

/-- The buffer of statistics once everything has arrived: in slot `k` of group `g` the statistics of the device at distance
    `-k`. -/
def commF (c : Dev nD) : (cc0_scratch1 : Ref sig .tc).ty.Contents (Elt F) :=
  fun (i : S4x16x2x8x128.Idx) => statF m (fwd c (-(show Fin 16 from i 1))) (show Fin 4 from i 0) (inSlot i)

theorem slot_emb (g : Fin 4) (k : Fin 16) (y : S1x1x2x8x128.Idx) :
    ((slotR g k).emb y 0 : Fin 4) = g ∧ ((slotR g k).emb y 1 : Fin 16) = k ∧ inSlot ((slotR g k).emb y) = y := by
  have y0 : (y 0).val < 1 := (y 0).isLt
  have y1 : (y 1).val < 1 := (y 1).isLt
  refine ⟨Fin.ext (by simp; omega), Fin.ext (by simp; omega), funext fun a => Fin.ext ?_⟩
  match a with
  | ⟨0, _⟩ => show 0 = (y 0).val; omega
  | ⟨1, _⟩ => show 0 = (y 1).val; omega
  | ⟨2, _⟩ => show ((slotR g k).emb y 2).val = (y 2).val; simp
  | ⟨3, _⟩ => show ((slotR g k).emb y 3).val = (y 3).val; simp
  | ⟨4, _⟩ => show ((slotR g k).emb y 4).val = (y 4).val; simp

theorem statF_congr (c : Dev nD) {k k' : Fin 16} {g g' : Fin 4} {y y' : S1x1x2x8x128.Idx} (hk : k = k') (hg : g = g') (hy : y = y') :
    statF m (fwd c (-k)) g y = statF m (fwd c (-k')) g' y' := by subst hk hg hy; rfl

theorem read_slot_access (c : Dev nD) (g : Fin 4) (k : Fin 16) :
    ((Memref.whole cc0_scratch1).access (slotR g k)).read (Elt F) (commF m c) = statF m (fwd c (-k)) g :=
  funext fun y => statF_congr m c (slot_emb g k y).2.1 (slot_emb g k y).1 (slot_emb g k y).2.2

theorem read_slot (c : Dev nD) (g : Fin 4) (k : Fin 16) :
    (slotM g k).view.read (Elt F) (commF m c)
      = fun x => statF m (fwd c (-k)) g (Shape.reshapeEquiv squeezes_S1x1x2x8x128_S2x8x128.numel_eq x) := by
  funext x
  exact congrFun (read_slot_access m c g k) (Shape.reshapeEquiv squeezes_S1x1x2x8x128_S2x8x128.numel_eq x)

/-- A slot sent holds, at its destination, what the destination's buffer is to hold there. -/
theorem read_sent (c : Dev nD) (g : Fin 4) (k : Fin 16) :
    (slotM g 0).view.read (Elt F) (commF m c) = (slotM g k).view.read (Elt F) (commF m (fwd c k)) := by
  rw [read_slot, read_slot, fwd_zero, fwd_back]

/-- Scale and shift as the windows hold them. -/
def gamF (c : Dev nD) : Vec F S1024 .f32 := (win0_0.blk t0_0).view.read (Elt F) (m ((c : Thread nD τ).loc main_arg1))
def betF (c : Dev nD) : Vec F S1024 .f32 := (win0_1.blk t0_0).view.read (Elt F) (m ((c : Thread nD τ).loc main_arg2))

/-- The sixteen devices' statistics of group `g`, in the order device `c` holds them. -/
def groupG (c : Dev nD) (g : Fin 4) : Vec F S1x16x2x8x128 .f32 :=
  ((Memref.whole cc0_scratch1).access (groupR g)).read (Elt F) (commF m c)

/-- Device `c`'s rows of chunk `t`. -/
def chunkX (c : Dev nD) (t : Fin 8) : Vec F S512x1024 .f32 :=
  ((Memref.whole cc0_scratch0).access (halfR t)).read (Elt F) (xF m c)

/-- The normalised rows of chunk `h` of group `g`. -/
def chunkW (c : Dev nD) (g : Fin 4) (h : Fin 2) : FVec F S1x512x1024 .f32 :=
  chunkVal h (k0_pay6 (gamF m c)) (k0_pay7 (betF m c)) (groupG m c g) (chunkX m c (chunkNo g h))

/-- The group and half of a row, and the index within the chunk. -/
def rowGrp (i : S4096x1024.Idx) : Fin 4 := ⟨(i 0).val / 1024, by have h : (i 0).val < 4096 := (i 0).isLt; omega⟩
def rowHalf (i : S4096x1024.Idx) : Fin 2 := ⟨(i 0).val / 512 % 2, Nat.mod_lt _ (by decide)⟩
def inChunk (i : S4096x1024.Idx) : S512x1024.Idx := fun a =>
  match a with
  | ⟨0, _⟩ => ⟨(i 0).val % 512, Nat.mod_lt _ (by decide)⟩
  | ⟨1, _⟩ => i 1

/-- The result. -/
def outF (c : Dev nD) : (main_v1 : Ref sig .tc).ty.Contents (Elt F) :=
  fun (i : S4096x1024.Idx) =>
    chunkW m c (rowGrp i) (rowHalf i) (Shape.reshapeEquiv squeezes_S1x512x1024_S512x1024.numel_eq (inChunk i))

theorem chunk_emb (g : Fin 4) (h : Fin 2) (y : S512x1024.Idx) :
    rowGrp ((halfR (chunkNo g h)).emb y) = g ∧ rowHalf ((halfR (chunkNo g h)).emb y) = h ∧ inChunk ((halfR (chunkNo g h)).emb y) = y := by
  have y0 : (y 0).val < 512 := (y 0).isLt
  have hg := g.isLt
  have hh := h.isLt
  have e0 : ((halfR (chunkNo g h)).emb y 0).val = 512 * (2 * g.val + h.val) + (y 0).val := by simp
  refine ⟨Fin.ext ?_, Fin.ext ?_, funext fun a => Fin.ext ?_⟩
  · show ((halfR (chunkNo g h)).emb y 0).val / 1024 = _; omega
  · show ((halfR (chunkNo g h)).emb y 0).val / 512 % 2 = _; omega
  · match a with
    | ⟨0, _⟩ => show ((halfR (chunkNo g h)).emb y 0).val % 512 = (y 0).val; omega
    | ⟨1, _⟩ => show ((halfR (chunkNo g h)).emb y 1).val = (y 1).val; simp

theorem chunkW_congr (c : Dev nD) {g g' : Fin 4} {h h' : Fin 2} {y y' : S512x1024.Idx} (hg : g = g') (hh : h = h') (hy : y = y') :
    chunkW m c g h (Shape.reshapeEquiv squeezes_S1x512x1024_S512x1024.numel_eq y)
      = chunkW m c g' h' (Shape.reshapeEquiv squeezes_S1x512x1024_S512x1024.numel_eq y') := by subst hg hh hy; rfl

theorem read_out (c : Dev nD) (g : Fin 4) (h : Fin 2) :
    (outM (chunkNo g h)).view.read (Elt F) (outF m c)
      = fun x => chunkW m c g h (Shape.reshapeEquiv squeezes_S1x512x1024_S512x1024.numel_eq x) :=
  funext fun y => chunkW_congr m c (chunk_emb g h y).1 (chunk_emb g h y).2.1 (chunk_emb g h y).2.2

/-! ## The pieces of memory -/

def srcP (c : Dev nD) (g : Fin 4) : sProp 𝕄 :=
  ((c : Thread nD τ).loc main_arg0) ↦[(rowsR g).set]{fullShare} m ((c : Thread nD τ).loc main_arg0)
def xP (c : Dev nD) (g : Fin 4) (f : Buf (Elt F) ((c : Thread nD τ).loc cc0_scratch0)) : sProp 𝕄 :=
  ((c : Thread nD τ).loc cc0_scratch0) ↦[(rowsR g).set]{fullShare} f
def slotP (c : Dev nD) (g : Fin 4) (k : Fin 16) (q : PosShare TreeShare) (f : Buf (Elt F) ((c : Thread nD τ).loc cc0_scratch1)) : sProp 𝕄 :=
  ((c : Thread nD τ).loc cc0_scratch1) ↦[(slotR g k).set]{q} f
def stageP (c : Dev nD) (s : Fin 2) (f : Buf (Elt F) ((c : Thread nD τ).loc cc0_scratch2)) : sProp 𝕄 :=
  ((c : Thread nD τ).loc cc0_scratch2) ↦[(stageR s).set]{fullShare} f
def outP (c : Dev nD) (t : Fin 8) (f : Buf (Elt F) ((c : Thread nD τ).loc main_v1)) : sProp 𝕄 :=
  ((c : Thread nD τ).loc main_v1) ↦[(halfR t).set]{fullShare} f

theorem srcM_set (g : Fin 4) : (srcM g).view.set = (rowsR g).set := View.set_slice_whole _ _
theorem xM_set (g : Fin 4) : (xM g).view.set = (rowsR g).set := View.set_slice_whole _ _
theorem slotM_set (g : Fin 4) (k : Fin 16) : (slotM g k).view.set = (slotR g k).set :=
  (View.set_reshape _ _).trans (View.set_slice_whole _ _)
theorem stageM_set (s : Fin 2) : (stageM s).view.set = (stageR s).set := (View.set_reshape _ _).trans (View.set_slice_whole _ _)
theorem outM_set (t : Fin 8) : (outM t).view.set = (halfR t).set := View.set_slice_whole _ _

theorem srcP_eq (c : Dev nD) (g : Fin 4) :
    srcP m c g = ((srcM g).view.loc (c : Thread nD τ) ↦[(srcM g).view.set]{fullShare} m ((c : Thread nD τ).loc main_arg0) : sProp 𝕄) := by
  rw [srcM_set]; rfl
theorem xP_eq (c : Dev nD) (g : Fin 4) (f) :
    xP c g f = ((xM g).view.loc (c : Thread nD τ) ↦[(xM g).view.set]{fullShare} f : sProp 𝕄) := by rw [xM_set]; rfl
theorem slotP_eq (c : Dev nD) (g : Fin 4) (k : Fin 16) (q : PosShare TreeShare) (f) :
    slotP c g k q f = ((slotM g k).view.loc (c : Thread nD τ) ↦[(slotM g k).view.set]{q} f : sProp 𝕄) := by rw [slotM_set]; rfl
theorem stageP_eq (c : Dev nD) (s : Fin 2) (f) :
    stageP c s f = ((stageM s).view.loc (c : Thread nD τ) ↦[(stageM s).view.set]{fullShare} f : sProp 𝕄) := by rw [stageM_set]; rfl
theorem outP_eq (c : Dev nD) (t : Fin 8) (f) :
    outP c t f = ((outM t).view.loc (c : Thread nD τ) ↦[(outM t).view.set]{fullShare} f : sProp 𝕄) := by rw [outM_set]; rfl

instance slotP_storable (c : Dev nD) (g k q f) : BI.Storable (upEmb : UEmb _ 𝕄) (slotP (F := F) c g k q f) := by
  unfold slotP; infer_instance

/-! ## The schedule -/

/-- What comes with the unit that the device at distance `-k` pays `c`'s barrier cell: that device's slots for what `c`
    sends it. -/
def barPay (c : Dev nD) (k : Fin 16) : sProp 𝕄 :=
  bigSep Finset.univ fun g : Fin 4 => iprop(∃ f, slotP (fwd c (-k)) g (-k) fullShare f)
/-- What a departure gives back: the share lent of the device's own slot. -/
def sendPay (c : Dev nD) (g : Fin 4) (k : Fin 16) : sProp 𝕄 := slotP c g 0 (Transfers.shareTok fullShare 16 k) (commF m c)
/-- What an arrival brings: the slot, filled. -/
def recvPay (c : Dev nD) (g : Fin 4) (k : Fin 16) : sProp 𝕄 := slotP c g k fullShare (commF m c)

theorem barPay_fwd (c : Dev nD) (k : Fin 16) :
    (barPay (fwd c k) k : sProp 𝕄) = bigSep Finset.univ fun g : Fin 4 => iprop(∃ f, slotP c g (-k) fullShare f) := by
  unfold barPay; rw [fwd_back]

instance barPay_storable (c : Dev nD) (k) : BI.Storable (upEmb : UEmb _ 𝕄) (barPay (F := F) c k) := by unfold barPay; infer_instance
instance sendPay_storable (c : Dev nD) (g k) : BI.Storable (upEmb : UEmb _ 𝕄) (sendPay (F := F) m c g k) := by unfold sendPay; infer_instance
instance recvPay_storable (c : Dev nD) (g k) : BI.Storable (upEmb : UEmb _ 𝕄) (recvPay (F := F) m c g k) := by unfold recvPay; infer_instance

/-- The duties of a cell's one round, by the kind of its semaphore. -/
def dutiesK : Kd → Finset (Fin 16)
  | .bar => far
  | .fin => far
  | .send _ k => if k = 0 then ∅ else {0}
  | .recv _ k => if k = 0 then ∅ else {0}
  | .other => ∅
def amountK : Kd → ℕ
  | .bar => 1
  | .fin => 1
  | _ => N
def payK (c : Dev nD) (d : Fin 16) : Kd → sProp 𝕄
  | .bar => barPay c d
  | .send g k => sendPay m c g k
  | .recv g k => recvPay m c g k
  | _ => iprop(emp)

instance payK_storable (c : Dev nD) (d : Fin 16) (κ : Kd) : BI.Storable (upEmb : UEmb _ 𝕄) (payK (F := F) m c d κ) := by
  unfold payK; split <;> infer_instance

/-- One round: a unit from each peer at a device's barrier cell and at its final cell, a slot's credit at each of its
    departure and arrival cells. -/
def Rd : Rounds.Schedule (GSem nD τ sig) (Fin 16) 𝕄 where
  duties g r := if r = 0 ∧ g.1.2 = .tc then dutiesK (kd g.2) else ∅
  unitless _ := False
  amount g _ _ := amountK (kd g.2)
  payload g _ d := payK m g.1.1 d (kd g.2)
  amount_pos g _ _ _ := by
    show 0 < amountK (kd g.2)
    unfold amountK; split <;> first | exact Nat.one_pos | exact N_pos

instance Rd_payload_storable (g : GSem nD τ sig) (r : ℕ) (d : Fin 16) :
    BI.Storable (upEmb : UEmb _ 𝕄) ((Rd (F := F) m).payload g r d) := by
  show BI.Storable upEmb (payK m g.1.1 d (kd g.2)); infer_instance

theorem duties_eq (c : Dev nD) (s : SemLoc sig) : (Rd (F := F) m).duties ((c : Thread nD τ), s) 0 = dutiesK (kd s) := by
  dsimp only [Rd]; exact if_pos ⟨rfl, rfl⟩
theorem duties_later (g : GSem nD τ sig) : ∀ r, 1 ≤ r → (Rd (F := F) m).duties g r = ∅ :=
  fun r hr => if_neg fun h => by omega
theorem duties_self (c : Dev nD) (s : SemLoc sig) (h : dutiesK (kd s) = ∅) : ∀ r, 0 ≤ r → (Rd (F := F) m).duties ((c : Thread nD τ), s) r = ∅ :=
  fun r _ => by
    dsimp only [Rd]; rw [h]; exact ite_self _
theorem amount_eq (g : GSem nD τ sig) (d : Fin 16) : (Rd (F := F) m).amount g 0 d = amountK (kd g.2) := rfl
theorem payload_eq (c : Dev nD) (s : SemLoc sig) (d : Fin 16) : (Rd (F := F) m).payload ((c : Thread nD τ), s) 0 d = payK m c d (kd s) := rfl
theorem expect_eq (c : Dev nD) (s : SemLoc sig) :
    (Rd (F := F) m).expect ((c : Thread nD τ), s) 0 = (dutiesK (kd s)).card * amountK (kd s) := by
  unfold Schedule.expect Schedule.amountOf
  rw [duties_eq, Finset.sum_congr rfl fun d _ => amount_eq m _ d, Finset.sum_const, smul_eq_mul]
theorem rest_eq (c : Dev nD) (s : SemLoc sig) :
    bigSep ((Rd (F := F) m).duties ((c : Thread nD τ), s) 0 \ ∅) (fun d => (Rd (F := F) m).payload ((c : Thread nD τ), s) 0 d)
      = bigSep (dutiesK (kd s)) fun d => payK m c d (kd s) := by
  rw [Finset.sdiff_empty, duties_eq]; rfl

/-! ## Levels -/

def lvK : Kd → ℕ
  | .bar => 1
  | .recv _ _ => 2
  | .fin => 3
  | _ => 0
def L (g : GSem nD τ sig) : Finset Unit := if g.1.2 = .tc then {()} else ∅
/-- Barrier cells at 1, arrivals at 2, final cells at 3, everything else at 0. -/
def lv (g : GSem nD τ sig) (_ : Unit) : ℕ := lvK (kd g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed to a device's cell of a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_tally {n : ℕ} {c : Dev nD} {s : SemLoc sig} {a : ℕ} (h : n < lvK (kd s)) : Above n (tallyAt ((c : Thread nD τ), s) () a) := fun g u hp => by
  rw [tallyAt_apply] at hp
  by_cases he : g = ((c : Thread nD τ), s) ∧ u = ()
  · rw [he.1]; exact ⟨rfl, h⟩
  · rw [if_neg he] at hp; exact absurd hp (Nat.lt_irrefl 0)

/-- A device may wait on a cell of its own while it owes only cells of higher levels. -/
theorem mayWait (c : Dev nD) (s : SemLoc sig) (O : CellTallies nD τ sig Unit) (h : Above (lvK (kd s)) O) :
    (levAts L lv : sProp 𝕄) ⊢ MayWait (c : Thread nD τ) s () O :=
  MayOwe.of_cut (L := L) (lev := lv) (lvK (kd s)) (fun p hp => by rw [Finset.mem_singleton.mp hp, L_tc]; exact Finset.mem_singleton_self _)
    (fun g u hg => by show u ∈ L g; unfold L; rw [if_pos (h g u hg).1]; exact Finset.mem_singleton_self _)
    (fun p hp => by rw [Finset.mem_singleton.mp hp]; exact Nat.le_refl _)
    (fun g u hg => (h g u hg).2)

/-- `n` owed to the cell `f k` of the peer at distance `k`, for each `k` of a list; the head is the last summand. -/
def owedL (f : Fin 16 → SemLoc sig) (n : ℕ) (c : Dev nD) (ks : List (Fin 16)) : CellTallies nD τ sig Unit :=
  ks.foldr (fun k O => O + tallyAt ((fwd c k : Thread nD τ), f k) () n) 0

theorem above_owedL {l : ℕ} {f : Fin 16 → SemLoc sig} (n : ℕ) (c : Dev nD) (ks : List (Fin 16)) (h : ∀ k, l < lvK (kd (f k))) :
    Above l (owedL f n c ks) := by
  induction ks with
  | nil => exact above_zero l
  | cons k ks ih => exact above_add ih (above_tally (h k))

/-- What a device owes its peers' final cells; what it owes for the groups from `g` on; what it owes at the start. -/
abbrev owedFin (c : Dev nD) (ks : List (Fin 16)) : CellTallies nD τ sig Unit := owedL (fun _ => .reg finSem) 1 c ks
abbrev owedRecv (c : Dev nD) (g : Fin 4) (ks : List (Fin 16)) : CellTallies nD τ sig Unit := owedL (fun k => .dma (recvSem g k)) N c ks
abbrev owedBar (c : Dev nD) (ks : List (Fin 16)) : CellTallies nD τ sig Unit := owedL (fun _ => .reg barSem) 1 c ks
def owed3 (c : Dev nD) : CellTallies nD τ sig Unit := owedFin c ks15 + owedRecv c 3 ks15
def owed2 (c : Dev nD) : CellTallies nD τ sig Unit := owed3 c + owedRecv c 2 ks15
def owed1 (c : Dev nD) : CellTallies nD τ sig Unit := owed2 c + owedRecv c 1 ks15
def owed0 (c : Dev nD) : CellTallies nD τ sig Unit := owed1 c + owedRecv c 0 ks15
def O₀ (c : Dev nD) : CellTallies nD τ sig Unit := owed0 c + owedBar c ks15

theorem above_fin {n : ℕ} (hn : n < 3) (c : Dev nD) : Above n (owedFin c ks15) := above_owedL _ _ _ fun k => by rw [kd_fin]; exact hn
theorem above_recv {n : ℕ} (hn : n < 2) (c : Dev nD) (g : Fin 4) : Above n (owedRecv c g ks15) := above_owedL _ _ _ fun k => by rw [kd_recv]; exact hn
theorem above_owed3 {n : ℕ} (hn : n < 2) (c : Dev nD) : Above n (owed3 c) := above_add (above_fin (by omega) c) (above_recv hn c 3)
theorem above_owed2 {n : ℕ} (hn : n < 2) (c : Dev nD) : Above n (owed2 c) := above_add (above_owed3 hn c) (above_recv hn c 2)
theorem above_owed1 {n : ℕ} (hn : n < 2) (c : Dev nD) : Above n (owed1 c) := above_add (above_owed2 hn c) (above_recv hn c 1)
theorem above_owed0 {n : ℕ} (hn : n < 2) (c : Dev nD) : Above n (owed0 c) := above_add (above_owed1 hn c) (above_recv hn c 0)
theorem above_O₀ (c : Dev nD) : Above 0 (O₀ c) :=
  above_add (above_owed0 (by decide) c) (above_owedL _ _ _ fun k => by rw [kd_bar]; exact Nat.one_pos)

end Cert.KernelIdeal.Norm

end
-- ==== Proof.Steps.lean ====
/-
  The steps of the body, one rule for each: what a device holds before the step and what it holds after.
-/
module

public import proofs.«01_k».proof.Proof.Schedule

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

/-! ## Resources along a list -/

/-- The separating conjunction of `Φ` along a list. -/
def sepL {α : Type} (l : List α) (Φ : α → sProp 𝕄) : sProp 𝕄 := l.foldr (fun a P => iprop(Φ a ∗ P)) iprop(emp)

theorem sepL_cons {α : Type} (a : α) (l : List α) (Φ : α → sProp 𝕄) : sepL (a :: l) Φ = iprop(Φ a ∗ sepL l Φ) := rfl
theorem sepL_nil {α : Type} (Φ : α → sProp 𝕄) : sepL [] Φ = iprop(emp) := rfl

theorem sepL_eq {α : Type} [DecidableEq α] (l : List α) (hl : l.Nodup) (Φ : α → sProp 𝕄) : bigSep l.toFinset Φ = sepL l Φ := by
  induction l with
  | nil => rw [List.toFinset_nil, bigSep_empty]; rfl
  | cons a l ih =>
    rw [List.toFinset_cons, bigSep_insert (by rw [List.mem_toFinset]; exact (List.nodup_cons.mp hl).1), ih (List.nodup_cons.mp hl).2]
    rfl

/-- The same, over the peers' distances. -/
theorem far_eq (Φ : Fin 16 → sProp 𝕄) : bigSep far Φ = sepL ks15 Φ := sepL_eq ks15 ks15_nodup Φ

theorem univ_far : (Finset.univ : Finset (Fin 16)) = insert 0 far := by decide
theorem univ_eq (Φ : Fin 16 → sProp 𝕄) : bigSep Finset.univ Φ = iprop(Φ 0 ∗ sepL ks15 Φ) := by
  rw [univ_far, bigSep_insert (by decide), far_eq]; rfl

theorem sepL_mono {α : Type} (l : List α) {Φ Ψ : α → sProp 𝕄} (h : ∀ a ∈ l, Φ a ⊢ Ψ a) : sepL l Φ ⊢ sepL l Ψ := by
  induction l with
  | nil => exact Entails.refl _
  | cons a l ih => exact BI.sep_mono (h a List.mem_cons_self) (ih fun b hb => h b (List.mem_cons_of_mem _ hb))

theorem sepL_zip {α : Type} (l : List α) (Φ Ψ : α → sProp 𝕄) :
    iprop(sepL l Φ ∗ sepL l Ψ) ⊢ sepL l (fun a => iprop(Φ a ∗ Ψ a)) := by
  induction l with
  | nil =>
    iintro -
    rw [sepL_nil]; iempintro
  | cons a l ih =>
    rw [sepL_cons, sepL_cons, sepL_cons]
    iintro ⟨⟨H1, H2⟩, H3, H4⟩
    isplitl [H1 H3]
    · isplitl [H1] <;> iassumption
    iapply ih
    isplitl [H2] <;> iassumption

theorem sepL_unzip {α : Type} (l : List α) (Φ Ψ : α → sProp 𝕄) :
    sepL l (fun a => iprop(Φ a ∗ Ψ a)) ⊢ iprop(sepL l Φ ∗ sepL l Ψ) := by
  induction l with
  | nil =>
    iintro -
    rw [sepL_nil, sepL_nil]
    isplitl <;> iempintro
  | cons a l ih =>
    rw [sepL_cons, sepL_cons, sepL_cons]
    iintro ⟨⟨H1, H2⟩, H3⟩
    ihave H3 := ih $$ H3
    icases H3 with ⟨H3, H4⟩
    isplitl [H1 H3]
    · isplitl [H1] <;> iassumption
    isplitl [H2] <;> iassumption

/-! ## What a device holds -/

/-- The invariant of a cell and that its round is open. -/
def CellR (c : Dev nD) (s : SemLoc sig) : sProp 𝕄 :=
  iprop((∃ κ, cellInv ER (Rd m) κ ((c : Thread nD τ), s)) ∗ reached ER ((c : Thread nD τ), s) 0)

instance CellR_persistent (c : Dev nD) (s : SemLoc sig) : BI.Persistent (CellR (F := F) m c s) := by unfold CellR; infer_instance

/-- What a device owes, whatever waits it has made. -/
def owe (c : Dev nD) (O : CellTallies nD τ sig Unit) : sProp 𝕄 := iprop(∃ W, owes (c : Thread nD τ) O W)

abbrev 𝒱₀ : Variants := Variants.none

/-- The weakest precondition of a program of the body on device `c`. -/
abbrev WP (c : Dev nD) (p : PR F) (Q : PUnit → sProp 𝕄) : sProp 𝕄 :=
  wp frame (wpE (defs₀ (F := F)) 𝒱₀ (c : Thread nD τ) none) Set.univ p Q

/-- What a device needs to pay its unit to the cell `sem` of the peer at distance `k`. -/
def SigR (c : Dev nD) (sem : Sem sig) (k : Fin 16) : sProp 𝕄 :=
  iprop(CellR m (fwd c k) (.reg sem) ∗ dutyTok ER ((fwd c k : Thread nD τ), .reg sem) 0 k ∗ payK m (fwd c k) k (kd (.reg sem)))

theorem wp_signals (c : Dev nD) (sem : Sem sig) (hd : dutiesK (kd (.reg sem)) = far) (ha : amountK (kd (.reg sem)) = 1)
    (R : CellTallies nD τ sig Unit) (Kt : PR F) (Q : PUnit → sProp 𝕄) (ks : List (Fin 16)) (hks : ∀ k ∈ ks, k ≠ 0) :
    iprop(sepL ks (SigR m c sem) ∗ owe c (R + owedL (fun _ => .reg sem) 1 c ks))
      ⊢ iprop((owe c R -∗ WP c Kt Q) -∗ WP c (signals sem c ks Kt) Q) := by
  induction ks with
  | nil =>
    show iprop(emp ∗ owe c (R + 0)) ⊢ _
    rw [add_zero]
    iintro ⟨-, HO⟩ Hk
    iapply Hk; iexact HO
  | cons k ks ih =>
    have hk : k ∈ far := (mem_far k).mpr (hks k List.mem_cons_self)
    show iprop((SigR m c sem k ∗ sepL ks (SigR m c sem)) ∗ owe c (R + (owedL (fun _ => .reg sem) 1 c ks + tallyAt ((fwd c k : Thread nD τ), .reg sem) () 1)))
      ⊢ iprop((owe c R -∗ WP c Kt Q) -∗ WP c (.op (.semSignal (Dev.tc (dst k c)) sem (1#32).toInt) fun _ => signals sem c ks Kt) Q)
    rw [dst_eq]
    unfold SigR CellR owe
    iintro ⟨⟨⟨⟨⟨%κ, #HI⟩, #Hr⟩, Ht, Hp⟩, Hs⟩, ⟨%W, HO⟩⟩ Hk
    iapply (Rounds.wp_signal 𝒱₀ ER (Rd m) (c : Thread nD τ) none (dst := (fwd c k : Thread nD τ)) (κ := κ)
      (d := k) (by rw [duties_eq, hd]; exact hk) ((amount_eq m _ k).trans (ha.trans (by decide))) ()
      (R + owedL (fun _ => .reg sem) 1 c ks) (add_assoc _ _ _).symm) $$ [HO Ht Hp]
    · isplitr; · iexact HI
      isplitl [HO]; · iexact HO
      isplitl [Ht]; · iexact Ht
      isplitl [Hp]; · rw [payload_eq]; iexact Hp
      iexact Hr
    iintro HO
    iapply (ih fun k' h => hks k' (List.mem_cons_of_mem _ h)) $$ [Hs HO]
    · isplitl [Hs]; · iexact Hs
      unfold owe; iexists W; iexact HO
    iexact Hk

/-- The wait for all of a cell's round, and the cell closed. -/
theorem wp_waitCell (c : Dev nD) (s : SemLoc sig) {w : TpuEff nD τ sig (Elt F) Λ₀ .tc PUnit} (n : ℕ)
    (hw : ∀ K : PUnit → sProp 𝕄, wpE (defs₀ (F := F)) 𝒱₀ (c : Thread nD τ) none Set.univ w K = waitSpec (c : Thread nD τ) Set.univ s n K)
    (hn : n = (dutiesK (kd s)).card * amountK (kd s)) (O : CellTallies nD τ sig Unit) (hO : Above (lvK (kd s)) O)
    (k : PUnit → PR F) (Q : PUnit → sProp 𝕄) :
    iprop(CellR m c s ∗ cred (tallyAt ((c : Thread nD τ), s) () n) ∗ atPos ER ((c : Thread nD τ), s) 0 ∅ 0 ∗ levAts L lv ∗ owe c O)
      ⊢ iprop((owe c O ∗ semVal ((c : Thread nD τ), s) 0 ∗ bigSep (dutiesK (kd s)) (fun d => payK m c d (kd s)) -∗ WP c (k ⟨⟩) Q)
        -∗ WP c (.op w k) Q) := by
  unfold CellR owe
  iintro ⟨⟨⟨%κ, #HI⟩, -⟩, Hc, Hat, #Hlev, ⟨%W, HO⟩⟩ Hk
  iapply (Rounds.wp_wait_rest_token 𝒱₀ ER (Rd m) (c : Thread nD τ) none (κ := κ) (sm := s) (k' := n)
      hw (Set.mem_univ _) () (O := O) (W := W) (R := 0) (m := 0) (T := ∅)
      (by rw [Nat.zero_add, expect_eq]; exact hn)) $$ [Hc HO Hat]
  · isplitr; · iexact HI
    isplitl [Hc]; · iexact Hc
    isplitl [HO]; · iexact HO
    isplitr; · iapply (mayWait c s O hO); iexact Hlev
    iexact Hat
  iintro ⟨HO, Hat, -, Hpay⟩
  ihave Hp := (Entails.of_eq (rest_eq m c s)) $$ Hpay
  imod (Rounds.cell_close ER (Rd m) (Set.mem_univ κ) (fun h => h) (R := 0 + 1) (duties_later m ((c : Thread nD τ), s))) $$ [Hat] with Hz
  · isplitr; · iexact HI
    iexact Hat
  iapply Hk
  isplitl [HO]; · iexists _; iexact HO
  isplitl [Hz]; · iexact Hz
  iexact Hp

/-! ## Copies -/

/-- What is written through a view, on the view's elements, is anything that reads as it. -/
theorem write_pts (c : Dev nD) {sp : Space} {S : Shape} {e : EltTy} (v : View sig .tc sp S e) (q : PosShare TreeShare)
    (f g : Buf (Elt F) (v.loc (c : Thread nD τ))) (w : S.Idx → Elt F e) (h : w = v.read (Elt F) g) :
    (v.loc (c : Thread nD τ) ↦[v.set]{q} v.write (Elt F) f w Finset.univ : sProp 𝕄) = (v.loc (c : Thread nD τ) ↦[v.set]{q} g) :=
  pointsTo_congr fun i hi => by
    obtain ⟨x, -, rfl⟩ := Finset.mem_map.mp hi
    rw [View.write_emb_of_mem _ _ (Finset.mem_univ x), h, View.read_apply, cast_cast, cast_eq]

/-- A copy in on its way. -/
def InFl (c : Dev nD) (g : Fin 4) : sProp 𝕄 :=
  Flight EC (c : Thread nD τ) (.dma (inSem g)) () (xM g).view.dmaCredit iprop(xP c g (xF m c) ∗ srcP m c g)

/-- A copy out on its way: it will leave the chunk's rows in the result and give the staging buffer back. -/
def OutFl (c : Dev nD) (g : Fin 4) (h : Fin 2) : sProp 𝕄 :=
  Flight EC (c : Thread nD τ) (.dma (outSem h)) () (outM (chunkNo g h)).view.dmaCredit
    iprop(outP c (chunkNo g h) (outF m c) ∗ ∃ f, stageP c h f)

theorem wp_copiesIn (c : Dev nD) (Kt : PR F) (Q : PUnit → sProp 𝕄) (gs : List (Fin 4)) :
    sepL gs (fun g => iprop(srcP m c g ∗ (∃ f, xP c g f) ∗ semVal ((c : Thread nD τ), .dma (inSem g)) 0))
      ⊢ iprop((sepL gs (InFl m c) -∗ WP c Kt Q) -∗ WP c (copiesIn gs Kt) Q) := by
  induction gs generalizing Q with
  | nil =>
    rw [sepL_nil, sepL_nil]
    iintro - Hk
    iapply Hk; iempintro
  | cons g gs ih =>
    rw [sepL_cons, sepL_cons]
    show _ ⊢ iprop(_ -∗ WP c (.op (.enqueueDma (srcM g) (.here (xM g)) (.dma (inSem g)) (View.wordExact_bits rfl) (View.wordExact_bits rfl)
      ⟨Or.inl rfl, trivial⟩) fun _ => copiesIn gs Kt) Q)
    iintro ⟨⟨Hs, ⟨%f, Hx⟩, Hv⟩, Hrest⟩ Hk
    ihave Hs := (Entails.of_eq (srcP_eq m c g)) $$ Hs
    ihave Hx := (Entails.of_eq (xP_eq c g f)) $$ Hx
    iapply (wp_dmaLocal EC 𝒱₀ (c : Thread nD τ) none (src := srcM g) (dst := xM g) (sm := .dma (inSem g)) (Sd := (xM g).view.set) (fd := f)
      () (xM g).view.dmaCredit rfl (View.dmaCredit_pos _ (by decide)) (Finset.Subset.refl _)) $$ [Hs Hx Hv]
    · isplitl [Hs]; · iexact Hs
      isplitl [Hx]; · iexact Hx
      iexact Hv
    iintro Hf
    iapply ih $$ [Hrest]
    · iexact Hrest
    iintro Hfs
    iapply Hk
    isplitl [Hf]
    · unfold InFl
      iapply (Flight_mono ?_) $$ Hf
      rw [xP_eq, srcP_eq]
      exact sep_mono_left (Entails.of_eq (write_pts c (xM g).view fullShare f (xF m c) _ rfl))
    · iexact Hfs

/-! ## The sends of a group -/

/-- What a device needs to send group `g` to the peer at distance `k`, but for the share of its own slot. -/
def SendR (c : Dev nD) (g : Fin 4) (k : Fin 16) : sProp 𝕄 :=
  iprop(CellR m c (.dma (sendSem g k)) ∗ CellR m (fwd c k) (.dma (recvSem g k)) ∗ (∃ f, slotP (fwd c k) g k fullShare f)
    ∗ dutyTok ER (sendCell c g k) 0 0 ∗ dutyTok ER (recvCell (fwd c k) g k) 0 0)

/-- What a departure leaves: the credit of its own cell. -/
def SentR (c : Dev nD) (g : Fin 4) (k : Fin 16) : sProp 𝕄 := cred (tallyAt (sendCell c g k) () N)

theorem duties_dma (k : Fin 16) (hk : k ≠ 0) (g : Fin 4) :
    dutiesK (.send g k) = {0} ∧ dutiesK (.recv g k) = {0} := ⟨if_neg hk, if_neg hk⟩

theorem mem_send (c : Dev nD) (g : Fin 4) (k : Fin 16) (hk : k ≠ 0) : 0 ∈ (Rd (F := F) m).duties (sendCell c g k) 0 := by
  rw [duties_eq, kd_send, (duties_dma k hk g).1]; exact Finset.mem_singleton_self _
theorem mem_recv (c : Dev nD) (g : Fin 4) (k : Fin 16) (hk : k ≠ 0) : 0 ∈ (Rd (F := F) m).duties (recvCell c g k) 0 := by
  rw [duties_eq, kd_recv, (duties_dma k hk g).2]; exact Finset.mem_singleton_self _
theorem amount_send (c : Dev nD) (g : Fin 4) (k : Fin 16) : (Rd (F := F) m).amount (sendCell c g k) 0 0 = N := by
  rw [amount_eq, kd_send]; rfl
theorem amount_recv (c : Dev nD) (g : Fin 4) (k : Fin 16) : (Rd (F := F) m).amount (recvCell c g k) 0 0 = N := by
  rw [amount_eq, kd_recv]; rfl
theorem payload_send (c : Dev nD) (g : Fin 4) (k : Fin 16) : (Rd (F := F) m).payload (sendCell c g k) 0 0
    = ((slotM g 0).view.loc (c : Thread nD τ) ↦[(slotM g 0).view.set]{Transfers.shareTok fullShare 16 k} commF m c) := by
  rw [payload_eq, kd_send, ← slotP_eq]; rfl
theorem payload_recv (c : Dev nD) (g : Fin 4) (k : Fin 16) : (Rd (F := F) m).payload (recvCell c g k) 0 0
    = ((slotM g k).view.loc (c : Thread nD τ) ↦[(slotM g k).view.set]{fullShare} commF m c) := by
  rw [payload_eq, kd_recv, ← slotP_eq]; rfl

theorem wp_send1 (c : Dev nD) (g : Fin 4) (k : Fin 16) (hk : k ≠ 0) (κ₁ κ₂ : ℕ) (f : Buf (Elt F) ((fwd c k : Thread nD τ).loc cc0_scratch1))
    (R : CellTallies nD τ sig Unit) (W : Waits sig Unit)
    {hsc : (slotM g k : Memref sig (Dev.tc (fwd c k) : Thread nD τ).2.kind .vmem S2x8x128 .f32).view.ref.isScScratch = false}
    {hsrc : (slotM g 0).view.WordExact} {hdst : (slotM g k).view.WordExact}
    {hsem : DmaTarget.Typed .vmem (.dma (recvSem g k)) (.remote (Dev.tc (fwd c k) : Thread nD τ) (slotM g k) (.dma (sendSem g k)) hsc)}
    {Q : PUnit → sProp 𝕄} {p : PUnit → PR F} :
    iprop(cellInv ER (Rd m) κ₁ (sendCell c g k) ∗ cellInv ER (Rd m) κ₂ (recvCell (fwd c k) g k)
        ∗ ((slotM g 0).view.loc (c : Thread nD τ) ↦[(slotM g 0).view.set]{Transfers.shareTok fullShare 16 k} commF m c)
        ∗ ((slotM g k).view.loc (fwd c k : Thread nD τ) ↦[(slotM g k).view.set]{fullShare} f)
        ∗ owes (c : Thread nD τ) (R + tallyAt (recvCell (fwd c k) g k) () N) W
        ∗ dutyTok ER (sendCell c g k) 0 0 ∗ reached ER (sendCell c g k) 0
        ∗ dutyTok ER (recvCell (fwd c k) g k) 0 0 ∗ reached ER (recvCell (fwd c k) g k) 0)
      ⊢ iprop(((cred (tallyAt (sendCell c g k) () N) ∗ owes (c : Thread nD τ) R W) -∗ WP c (p ⟨⟩) Q)
          -∗ WP c (.op (.enqueueDma (slotM g 0) (.remote (Dev.tc (fwd c k) : Thread nD τ) (slotM g k) (.dma (sendSem g k)) hsc) (.dma (recvSem g k))
              hsrc hdst hsem) p) Q) := by
  have h := write_pts (F := F) (fwd c k) (slotM g k).view fullShare f (commF m (fwd c k)) ((slotM g 0).view.read (Elt F) (commF m c)) (read_sent m c g k)
  exact Rounds.wp_send_pointsTo 𝒱₀ ER (Rd m) (c : Thread nD τ) none (c' := (fwd c k : Thread nD τ)) (src := slotM g 0) (dst := slotM g k)
    (r₁ := 0) (r₂ := 0) (d₁ := 0) (d₂ := 0) (κ₁ := κ₁) (κ₂ := κ₂) (fs := commF m c) (fd := f) (q := Transfers.shareTok fullShare 16 k)
    (mem_send m c g k hk) (mem_recv m (fwd c k) g k hk)
    () () N (amount_slot g k _) (amount_send m c g k) (amount_recv m (fwd c k) g k)
    R (W := W) rfl (Entails.of_eq (payload_send m c g k).symm) (Entails.of_eq (h.trans (payload_recv m (fwd c k) g k).symm))

theorem wp_sends (c : Dev nD) (g : Fin 4) (R : CellTallies nD τ sig Unit) (Kt : PR F) (Q : PUnit → sProp 𝕄)
    (ks : List (Fin 16)) (hks : ∀ k ∈ ks, k ≠ 0) :
    iprop(sepL ks (fun k => iprop(SendR m c g k ∗ sendPay m c g k)) ∗ owe c (R + owedRecv c g ks))
      ⊢ iprop((sepL ks (SentR c g) ∗ owe c R -∗ WP c Kt Q) -∗ WP c (sends c g ks Kt) Q) := by
  induction ks generalizing Q with
  | nil =>
    show iprop(emp ∗ owe c (R + 0)) ⊢ _
    rw [add_zero, sepL_nil]
    iintro ⟨-, HO⟩ Hk
    iapply Hk
    isplitr; · iempintro
    iexact HO
  | cons k ks ih =>
    have hk : k ≠ 0 := hks k List.mem_cons_self
    rw [sepL_cons, sepL_cons]
    show iprop(_ ∗ owe c (R + (owedRecv c g ks + tallyAt ((fwd c k : Thread nD τ), .dma (recvSem g k)) () N)))
      ⊢ iprop(_ -∗ WP c (.op (.enqueueDma (slotM g 0) (.remote (Dev.tc (dst k c)) (slotM g k) (.dma (sendSem g k))) (.dma (recvSem g k))
        ((View.wordExact_bits rfl).reshape _ _) ((View.wordExact_bits rfl).reshape _ _) ⟨⟨rfl, Or.inl rfl⟩, trivial⟩) fun _ => sends c g ks Kt) Q)
    rw [dst_eq]
    unfold SendR CellR owe sendPay
    iintro ⟨⟨⟨⟨⟨⟨%κ₁, #HI⟩, #Hr⟩, ⟨⟨%κ₂, #HI'⟩, #Hr'⟩, ⟨%f, Hd⟩, Ht, Ht'⟩, Hs⟩, Hrest⟩, ⟨%W, HO⟩⟩ Hk
    ihave Hs := (Entails.of_eq (slotP_eq c g 0 _ (commF m c))) $$ Hs
    ihave Hd := (Entails.of_eq (slotP_eq (fwd c k) g k _ f)) $$ Hd
    iapply (wp_send1 m c g k hk κ₁ κ₂ f (R + owedRecv c g ks) W) $$ [Hs Hd HO Ht Ht']
    · isplitr; · iexact HI
      isplitr; · iexact HI'
      isplitl [Hs]; · iexact Hs
      isplitl [Hd]; · iexact Hd
      isplitl [HO]; · rw [add_assoc]; iexact HO
      isplitl [Ht]; · iexact Ht
      isplitr; · iexact Hr
      isplitl [Ht']; · iexact Ht'
      iexact Hr'
    iintro ⟨Hc, HO⟩
    iapply (ih _ fun k' h => hks k' (List.mem_cons_of_mem _ h)) $$ [Hrest HO]
    · unfold SendR CellR owe sendPay
      isplitl [Hrest]; · iexact Hrest
      iexists W; iexact HO
    iintro ⟨Hcs, HO⟩
    iapply Hk
    isplitl [Hc Hcs]
    · isplitl [Hc]; · unfold SentR; iexact Hc
      iexact Hcs
    unfold owe
    iexact HO

/-! ## A group's statistics -/

/-- The device's own slot, dealt: what remains, and a share per peer. -/
theorem own_split (c : Dev nD) (g : Fin 4) :
    (slotP c g 0 fullShare (commF m c) : sProp 𝕄)
      ⊣⊢ iprop((slotP c g 0 (Transfers.shareDrop fullShare 16) (commF m c) ∗ sendPay m c g 0) ∗ sepL ks15 (sendPay m c g)) := by
  have h := univ_eq (sendPay m c g)
  have h' := Transfers.pointsTo_toks (ℓ := (c : Thread nD τ).loc cc0_scratch1) (S := (slotR g 0).set) (f := commF m c) fullShare 16
    (Ix := Unit) (Name := ℕ) (U := UU) (Lvl := ℕ)
  have h'' : iprop((((c : Thread nD τ).loc cc0_scratch1) ↦[(slotR g 0).set]{Transfers.shareDrop fullShare 16} commF m c)
      ∗ bigSep Finset.univ fun k : Fin 16 => ((c : Thread nD τ).loc cc0_scratch1) ↦[(slotR g 0).set]{Transfers.shareTok fullShare 16 k} commF m c)
      = (iprop(slotP c g 0 (Transfers.shareDrop fullShare 16) (commF m c) ∗ bigSep Finset.univ (sendPay m c g)) : sProp 𝕄) := rfl
  rw [h'', h] at h'
  exact ⟨h'.1.trans sep_assoc.2, sep_assoc.1.trans h'.2⟩

theorem wp_group (c : Dev nD) (g : Fin 4) (R : CellTallies nD τ sig Unit) (hR : Above 0 (R + owedRecv c g ks15)) (Kt : PR F) (Q : PUnit → sProp 𝕄) :
    iprop(InFl m c g ∗ (∃ f, slotP c g 0 fullShare f) ∗ sepL ks15 (SendR m c g) ∗ levAts L lv ∗ owe c (R + owedRecv c g ks15))
      ⊢ iprop(((xP c g (xF m c) ∗ srcP m c g ∗ semVal ((c : Thread nD τ), .dma (inSem g)) 0)
          ∗ (slotP c g 0 (Transfers.shareDrop fullShare 16) (commF m c) ∗ sendPay m c g 0)
          ∗ sepL ks15 (SentR c g) ∗ owe c R -∗ WP c Kt Q)
        -∗ WP c (group c ks15 g Kt) Q) := by
  unfold group InFl owe
  iintro ⟨Hf, ⟨%f, Hs⟩, Hsend, #Hlev, ⟨%W, HO⟩⟩ Hk
  iapply (wp_waitLocalO EC 𝒱₀ (c : Thread nD τ) none () rfl) $$ [Hf HO]
  · isplitl [Hf]; · iexact Hf
    isplitl [HO]; · iexact HO
    iapply (mayWait c (.dma (inSem g)) _ (by rw [kd_in]; exact hR)); iexact Hlev
  iintro ⟨⟨Hx, Hsrc⟩, Hv, HO⟩
  unfold xP
  iapply (wp_load_rect 𝒱₀ (c : Thread nD τ) none Set.univ (m := Memref.whole cc0_scratch0) (r := rowsR g) (S := (rowsR g).set)
    (View.set_slice_whole _ _).subset) $$ Hx
  iintro Hx
  unfold slotP
  iapply (wp_load_rect 𝒱₀ (c : Thread nD τ) none Set.univ (m := Memref.whole cc0_scratch1) (r := slotR g 0) (S := (slotR g 0).set)
    (View.set_slice_whole _ _).subset) $$ Hs
  iintro Hs
  iapply (wp_store 𝒱₀ (c : Thread nD τ) none Set.univ (m := Memref.whole cc0_scratch1) (r := slotR g 0) (Mk := Finset.univ) (S := (slotR g 0).set)
    (View.set_slice_whole _ _).subset) $$ Hs
  iintro Hs
  ihave Hs := (show _ ⊢ slotP c g 0 fullShare (commF m c) from by
    have h := write_pts c ((Memref.whole cc0_scratch1).access (slotR g 0)) fullShare f (commF m c) (statF m c g)
      (by rw [read_slot_access, fwd_zero])
    rw [View.set_slice_whole] at h
    exact Entails.of_eq h) $$ Hs
  ihave Hs := (own_split m c g).1 $$ Hs
  icases Hs with ⟨Hown, Hsh⟩
  iapply (wp_sends m c g R Kt Q ks15 ks15_ne) $$ [Hsend Hsh HO]
  · isplitl [Hsend Hsh]
    · iapply sepL_zip
      isplitl [Hsend] <;> iassumption
    unfold owe; iexists _; iexact HO
  iintro ⟨Hc, HO⟩
  iapply Hk
  unfold owe
  isplitl [Hx Hsrc Hv]
  · isplitl [Hx]; · iexact Hx
    isplitl [Hsrc] <;> iassumption
  isplitl [Hown]; · iexact Hown
  isplitl [Hc] <;> iassumption

end Cert.KernelIdeal.Norm

end
-- ==== Proof.Finish.lean ====
/-
  The second half of the body, step by step: the waits for a group's statistics, the normalised chunks, the copies out.
-/
module

public import proofs.«01_k».proof.Proof.Steps

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

/-! ## The waits of a group -/

/-- What a device needs to wait for the departure to, and the arrival from, a peer. -/
def WaitR (c : Dev nD) (g : Fin 4) (k : Fin 16) : sProp 𝕄 :=
  iprop(CellR m c (.dma (sendSem g k)) ∗ CellR m c (.dma (recvSem g k))
    ∗ atPos ER (sendCell c g k) 0 ∅ 0 ∗ atPos ER (recvCell c g k) 0 ∅ 0 ∗ cred (tallyAt (recvCell c g k) () N))

/-- What it has then. -/
def DoneR (c : Dev nD) (g : Fin 4) (k : Fin 16) : sProp 𝕄 :=
  iprop((sendPay m c g k ∗ recvPay m c g k) ∗ semVal (sendCell c g k) 0 ∗ semVal (recvCell c g k) 0)

theorem rest_send (c : Dev nD) (g : Fin 4) (k : Fin 16) (hk : k ≠ 0) :
    bigSep (dutiesK (kd (.dma (sendSem g k)))) (fun d => payK m c d (kd (.dma (sendSem g k)))) = sendPay m c g k := by
  rw [kd_send, (duties_dma k hk g).1, bigSep_singleton]; rfl
theorem rest_recv (c : Dev nD) (g : Fin 4) (k : Fin 16) (hk : k ≠ 0) :
    bigSep (dutiesK (kd (.dma (recvSem g k)))) (fun d => payK m c d (kd (.dma (recvSem g k)))) = recvPay m c g k := by
  rw [kd_recv, (duties_dma k hk g).2, bigSep_singleton]; rfl

theorem wp_waits (c : Dev nD) (g : Fin 4) (O : CellTallies nD τ sig Unit) (hO : Above 2 O) (Kt : PR F) (Q : PUnit → sProp 𝕄)
    (ks : List (Fin 16)) (hks : ∀ k ∈ ks, k ≠ 0) :
    iprop(sepL ks (fun k => iprop(WaitR m c g k ∗ SentR c g k)) ∗ levAts L lv ∗ owe c O)
      ⊢ iprop((sepL ks (DoneR m c g) ∗ owe c O -∗ WP c Kt Q) -∗ WP c (waits g ks Kt) Q) := by
  induction ks generalizing Q with
  | nil =>
    rw [sepL_nil, sepL_nil]
    iintro ⟨-, -, HO⟩ Hk
    iapply Hk
    isplitr; · iempintro
    iexact HO
  | cons k ks ih =>
    have hk : k ≠ 0 := hks k List.mem_cons_self
    rw [sepL_cons, sepL_cons]
    show _ ⊢ iprop(_ -∗ WP c (.op (.waitDma2 (sendSem g k) (slotM g k) (slotM g 0) ((View.wordExact_bits rfl).reshape _ _) ((View.wordExact_bits rfl).reshape _ _))
      fun _ => .op (.waitDma2 (recvSem g k) (slotM g 0) (slotM g k) ((View.wordExact_bits rfl).reshape _ _) ((View.wordExact_bits rfl).reshape _ _))
      fun _ => waits g ks Kt) Q)
    unfold WaitR SentR
    iintro ⟨⟨⟨⟨#Hs, #Hr, Has, Har, Hcr⟩, Hcs⟩, Hrest⟩, #Hlev, HO⟩ Hk
    iapply (wp_waitCell m c (.dma (sendSem g k)) (w := .waitDma2 (sendSem g k) (slotM g k) (slotM g 0) ((View.wordExact_bits rfl).reshape _ _) ((View.wordExact_bits rfl).reshape _ _)) N (wpE_waitDma2_eq 𝒱₀ (c : Thread nD τ) none Set.univ)
      (by rw [kd_send, (duties_dma k hk g).1]; exact (Nat.one_mul N).symm) O (by rw [kd_send]; exact fun g u h => ⟨(hO g u h).1, by have := (hO g u h).2; show 0 < _; omega⟩))
      $$ [Hcs Has HO]
    · isplitr; · iexact Hs
      isplitl [Hcs]; · iexact Hcs
      isplitl [Has]; · iexact Has
      isplitr; · iexact Hlev
      iexact HO
    iintro ⟨HO, Hzs, Hps⟩
    iapply (wp_waitCell m c (.dma (recvSem g k)) (w := .waitDma2 (recvSem g k) (slotM g 0) (slotM g k) ((View.wordExact_bits rfl).reshape _ _) ((View.wordExact_bits rfl).reshape _ _)) N (wpE_waitDma2_eq 𝒱₀ (c : Thread nD τ) none Set.univ)
      (by rw [kd_recv, (duties_dma k hk g).2]; exact (Nat.one_mul N).symm) O (by rw [kd_recv]; exact hO))
      $$ [Hcr Har HO]
    · isplitr; · iexact Hr
      isplitl [Hcr]; · iexact Hcr
      isplitl [Har]; · iexact Har
      isplitr; · iexact Hlev
      iexact HO
    iintro ⟨HO, Hzr, Hpr⟩
    iapply (ih _ fun k' h => hks k' (List.mem_cons_of_mem _ h)) $$ [Hrest HO]
    · unfold WaitR SentR
      isplitl [Hrest]; · iexact Hrest
      isplitr; · iexact Hlev
      iexact HO
    iintro ⟨Hd, HO⟩
    iapply Hk
    ihave Hps := (Entails.of_eq (rest_send m c g k hk)) $$ Hps
    ihave Hpr := (Entails.of_eq (rest_recv m c g k hk)) $$ Hpr
    isplitr [HO]
    · isplitr [Hd]
      · unfold DoneR
        isplitl [Hps Hpr]
        · isplitl [Hps] <;> iassumption
        isplitl [Hzs] <;> iassumption
      iexact Hd
    iexact HO

/-! ## A chunk -/

/-- The copy of the input, whole. -/
def xAll (c : Dev nD) : sProp 𝕄 := ((c : Thread nD τ).loc cc0_scratch0) ↦{fullShare} xF m c
/-- The statistics of group `g`, whole. -/
def groupP (c : Dev nD) (g : Fin 4) : sProp 𝕄 := ((c : Thread nD τ).loc cc0_scratch1) ↦[(groupR g).set]{fullShare} commF m c
/-- A staging buffer free to be filled. -/
def Stg (c : Dev nD) (h : Fin 2) : sProp 𝕄 := iprop((∃ f, stageP c h f) ∗ semVal ((c : Thread nD τ), .dma (outSem h)) 0)

theorem read_stage (h : Fin 2) (f : (cc0_scratch2 : Ref sig .tc).ty.Contents (Elt F)) (w : FVec F S1x512x1024 .f32) :
    (stageM h).view.read (Elt F) (((Memref.whole cc0_scratch2).access (stageR h)).write (Elt F) f w Finset.univ)
      = fun x => w (Shape.reshapeEquiv squeezes_S1x512x1024_S512x1024.numel_eq x) := by
  funext x
  exact congrFun (View.read_write_univ (v := (Memref.whole cc0_scratch2).access (stageR h)) f w)
    (Shape.reshapeEquiv squeezes_S1x512x1024_S512x1024.numel_eq x)

theorem wp_chunk (c : Dev nD) (g : Fin 4) (h : Fin 2) (Kt : PR F) (Q : PUnit → sProp 𝕄) :
    iprop(xAll m c ∗ Stg c h ∗ ∃ f, outP c (chunkNo g h) f)
      ⊢ iprop((xAll m c ∗ OutFl m c g h -∗ WP c Kt Q)
        -∗ WP c (chunk (k0_pay6 (gamF m c)) (k0_pay7 (betF m c)) (groupG m c g) (chunkNo g h) h Kt) Q) := by
  unfold chunk Stg xAll
  iintro ⟨Hx, ⟨⟨%f, Hs⟩, Hv⟩, ⟨%fo, Ho⟩⟩ Hk
  iapply (wp_load_rect 𝒱₀ (c : Thread nD τ) none Set.univ (m := Memref.whole cc0_scratch0) (r := halfR (chunkNo g h)) (Finset.subset_univ _)) $$ Hx
  iintro Hx
  unfold stageP
  iapply (wp_load_rect 𝒱₀ (c : Thread nD τ) none Set.univ (m := Memref.whole cc0_scratch2) (r := stageR h) (S := (stageR h).set)
    (View.set_slice_whole _ _).subset) $$ Hs
  iintro Hs
  iapply (wp_store 𝒱₀ (c : Thread nD τ) none Set.univ (m := Memref.whole cc0_scratch2) (r := stageR h) (Mk := Finset.univ) (S := (stageR h).set)
    (View.set_slice_whole _ _).subset) $$ Hs
  iintro Hs
  ihave Hs := (show ((c : Thread nD τ).loc cc0_scratch2 ↦[(stageR h).set]{fullShare} ((Memref.whole cc0_scratch2).access (stageR h)).write (Elt F) f
      (chunkVal h (k0_pay6 (gamF m c)) (k0_pay7 (betF m c)) (groupG m c g)
        (((Memref.whole cc0_scratch0).access (halfR (chunkNo g h))).read (Elt F) (xF m c))) Finset.univ : sProp 𝕄) ⊢ _ from
    Entails.of_eq (stageP_eq c h (((Memref.whole cc0_scratch2).access (stageR h)).write (Elt F) f (chunkW m c g h) Finset.univ))) $$ Hs
  ihave Ho := (Entails.of_eq (outP_eq c (chunkNo g h) fo)) $$ Ho
  iapply (wp_dmaLocal EC 𝒱₀ (c : Thread nD τ) none (src := stageM h) (dst := outM (chunkNo g h)) (sm := .dma (outSem h)) (Sd := (outM (chunkNo g h)).view.set) (fd := fo)
      () (outM (chunkNo g h)).view.dmaCredit rfl (View.dmaCredit_pos _ (by decide)) (Finset.Subset.refl _)) $$ [Hs Ho Hv]
  · isplitl [Hs]; · iexact Hs
    isplitl [Ho]; · iexact Ho
    iexact Hv
  iintro Hf
  iapply Hk
  isplitl [Hx]; · iexact Hx
  unfold OutFl
  iapply (Flight_mono ?_) $$ Hf
  rw [outP_eq]
  have hw := write_pts (F := F) c (outM (chunkNo g h)).view fullShare fo (outF m c)
    ((stageM h).view.read (Elt F) (((Memref.whole cc0_scratch2).access (stageR h)).write (Elt F) f (chunkW m c g h) Finset.univ))
    ((read_stage h f (chunkW m c g h)).trans (read_out m c g h).symm)
  refine (sep_mono_left (Entails.of_eq hw)).trans (sep_mono_right ?_)
  iintro H
  iexists _
  iapply (Entails.of_eq (stageP_eq c h (((Memref.whole cc0_scratch2).access (stageR h)).write (Elt F) f (chunkW m c g h) Finset.univ)).symm)
  iexact H

theorem wp_waitOut (c : Dev nD) (g : Fin 4) (h : Fin 2) (O : CellTallies nD τ sig Unit) (hO : Above 0 O) (Kt : PR F) (Q : PUnit → sProp 𝕄) :
    iprop(OutFl m c g h ∗ levAts L lv ∗ owe c O)
      ⊢ iprop((Stg c h ∗ outP c (chunkNo g h) (outF m c) ∗ owe c O -∗ WP c Kt Q) -∗ WP c (waitOut (chunkNo g h) h Kt) Q) := by
  unfold waitOut OutFl owe Stg
  iintro ⟨Hf, #Hlev, ⟨%W, HO⟩⟩ Hk
  iapply (wp_waitLocalO EC 𝒱₀ (c : Thread nD τ) none (srcw := stageM h) (dstw := outM (chunkNo g h)) (hsrc := (View.wordExact_bits rfl).reshape _ _) (hdst := View.wordExact_bits rfl) () rfl) $$ [Hf HO]
  · isplitl [Hf]; · iexact Hf
    isplitl [HO]; · iexact HO
    iapply (mayWait c (.dma (outSem h)) _ (by rw [kd_out]; exact hO)); iexact Hlev
  iintro ⟨⟨Ho, Hs⟩, Hv, HO⟩
  iapply Hk
  isplitl [Hs Hv]
  · isplitl [Hs] <;> iassumption
  isplitl [Ho]; · iexact Ho
  iexists _; iexact HO

/-! ## A group's statistics, together -/

theorem slots_disjoint (g : Fin 4) : ∀ k ∈ (Finset.univ : Finset (Fin 16)), ∀ k' ∈ (Finset.univ : Finset (Fin 16)), k ≠ k' →
    Disjoint (slotR g k).set (slotR g k').set := fun k _ k' _ hne =>
  Rect.unit_disjoint 1 (by
    have : k.val ≠ k'.val := fun h => hne (Fin.ext h)
    show k.val + 1 ≤ k'.val ∨ k'.val + 1 ≤ k.val
    omega)

theorem slots_cover (g : Fin 4) : (Finset.univ : Finset (Fin 16)).biUnion (fun k => (slotR g k).set) = (groupR g).set := by
  ext (i : S4x16x2x8x128.Idx)
  rw [Finset.mem_biUnion]
  constructor
  · rintro ⟨k, -, h⟩
    rw [Rect.mem_set_unit] at h ⊢
    intro a
    have ha := h a
    match a with
    | ⟨0, _⟩ => exact ha
    | ⟨1, _⟩ => exact ⟨Nat.zero_le _, by have h1 : (i 1).val < 16 := (i 1).isLt; show (i 1).val < 0 + 16; omega⟩
    | ⟨2, _⟩ => exact ha
    | ⟨3, _⟩ => exact ha
    | ⟨4, _⟩ => exact ha
  · intro h
    refine ⟨(show Fin 16 from i 1), Finset.mem_univ _, ?_⟩
    rw [Rect.mem_set_unit] at h ⊢
    intro a
    have ha := h a
    match a with
    | ⟨0, _⟩ => exact ha
    | ⟨1, _⟩ => exact ⟨Nat.le_refl _, Nat.lt_succ_self _⟩
    | ⟨2, _⟩ => exact ha
    | ⟨3, _⟩ => exact ha
    | ⟨4, _⟩ => exact ha

theorem groupP_eq (c : Dev nD) (g : Fin 4) : (groupP m c g : sProp 𝕄) = bigSep Finset.univ fun k : Fin 16 => slotP c g k fullShare (commF m c) := by
  unfold groupP; rw [← slots_cover]
  exact pointsTo_biUnion _ _ (slots_disjoint g)

theorem group_join (c : Dev nD) (g : Fin 4) :
    iprop((slotP c g 0 (Transfers.shareDrop fullShare 16) (commF m c) ∗ sendPay m c g 0) ∗ sepL ks15 (fun k => iprop(sendPay m c g k ∗ recvPay m c g k)))
      ⊢ groupP m c g := by
  iintro ⟨Hown, Hs⟩
  ihave Hs := (sepL_unzip ks15 (sendPay m c g) (recvPay m c g)) $$ Hs
  icases Hs with ⟨Hs, Hr⟩
  iapply (Entails.of_eq ((groupP_eq m c g).trans (univ_eq _)).symm)
  isplitl [Hown Hs]
  · iapply (own_split m c g).2
    isplitl [Hown] <;> iassumption
  iexact Hr

/-! ## The second half of a group -/

theorem wp_finish (c : Dev nD) (g : Fin 4) (W : Fin 2 → PR F → PR F) (A B : Fin 2 → sProp 𝕄) (O : CellTallies nD τ sig Unit) (hO : Above 2 O)
    (hW : ∀ h (Kt : PR F) (Q : PUnit → sProp 𝕄), iprop(A h ∗ levAts L lv ∗ owe c O) ⊢ iprop((Stg c h ∗ B h ∗ owe c O -∗ WP c Kt Q) -∗ WP c (W h Kt) Q))
    (Kt : PR F) (Q : PUnit → sProp 𝕄) :
    iprop((sepL ks15 (WaitR m c g) ∗ sepL ks15 (SentR c g) ∗ (slotP c g 0 (Transfers.shareDrop fullShare 16) (commF m c) ∗ sendPay m c g 0))
        ∗ xAll m c ∗ (A 0 ∗ A 1) ∗ ((∃ f, outP c (chunkNo g 0) f) ∗ (∃ f, outP c (chunkNo g 1) f)) ∗ levAts L lv ∗ owe c O)
      ⊢ iprop((groupP m c g ∗ sepL ks15 (fun k => iprop(semVal (sendCell c g k) 0 ∗ semVal (recvCell c g k) 0))
          ∗ xAll m c ∗ (B 0 ∗ B 1) ∗ (OutFl m c g 0 ∗ OutFl m c g 1) ∗ owe c O -∗ WP c Kt Q)
        -∗ WP c (finish (k0_pay6 (gamF m c)) (k0_pay7 (betF m c)) ks15 W g Kt) Q) := by
  unfold finish chunks
  iintro ⟨⟨Hw, Hs, Hown⟩, Hx, ⟨HA0, HA1⟩, ⟨Ho0, Ho1⟩, #Hlev, HO⟩ Hk
  iapply (wp_waits m c g O hO _ Q ks15 ks15_ne) $$ [Hw Hs HO]
  · isplitl [Hw Hs]
    · iapply sepL_zip
      isplitl [Hw] <;> iassumption
    isplitr; · iexact Hlev
    iexact HO
  iintro ⟨Hd, HO⟩
  unfold DoneR
  ihave Hd := (sepL_unzip ks15 _ _) $$ Hd
  icases Hd with ⟨Hd, Hz⟩
  ihave Hg := (group_join m c g) $$ [Hown Hd]
  · isplitl [Hown] <;> iassumption
  unfold groupP
  iapply (wp_load_rect 𝒱₀ (c : Thread nD τ) none Set.univ (m := Memref.whole cc0_scratch1) (r := groupR g) (S := (groupR g).set)
    (View.set_slice_whole _ _).subset) $$ Hg
  iintro Hg
  iapply (hW 0 _ Q) $$ [HA0 HO]
  · isplitl [HA0]; · iexact HA0
    isplitr; · iexact Hlev
    iexact HO
  iintro ⟨HS0, HB0, HO⟩
  iapply (wp_chunk m c g 0 _ Q) $$ [Hx HS0 Ho0]
  · isplitl [Hx]; · iexact Hx
    isplitl [HS0] <;> iassumption
  iintro ⟨Hx, Hf0⟩
  iapply (hW 1 _ Q) $$ [HA1 HO]
  · isplitl [HA1]; · iexact HA1
    isplitr; · iexact Hlev
    iexact HO
  iintro ⟨HS1, HB1, HO⟩
  iapply (wp_chunk m c g 1 _ Q) $$ [Hx HS1 Ho1]
  · isplitl [Hx]; · iexact Hx
    isplitl [HS1] <;> iassumption
  iintro ⟨Hx, Hf1⟩
  iapply Hk
  isplitl [Hg]; · iexact Hg
  isplitl [Hz]; · iexact Hz
  isplitl [Hx]; · iexact Hx
  isplitl [HB0 HB1]
  · isplitl [HB0] <;> iassumption
  isplitl [Hf0 Hf1]
  · isplitl [Hf0] <;> iassumption
  iexact HO

end Cert.KernelIdeal.Norm

end
-- ==== Proof.Pieces.lean ====
/-
  The buffers taken apart into the pieces the steps work on, and put together again.
-/
module

public import proofs.«01_k».proof.Proof.Finish

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

/-! ## Rows and chunks -/

theorem fin4_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rows_disjoint : ∀ g ∈ (Finset.univ : Finset (Fin 4)), ∀ g' ∈ (Finset.univ : Finset (Fin 4)), g ≠ g' →
    Disjoint (rowsR g).set (rowsR g').set := fun g _ g' _ hne =>
  Rect.unit_disjoint 0 (by
    have : g.val ≠ g'.val := fun h => hne (Fin.ext h)
    show 1024 * g.val + 1024 ≤ 1024 * g'.val ∨ 1024 * g'.val + 1024 ≤ 1024 * g.val
    omega)

theorem rows_cover : (Finset.univ : Finset (Fin 4)).biUnion (fun g => (rowsR g).set) = Finset.univ := by
  ext (i : S4096x1024.Idx)
  refine iff_of_true ?_ (Finset.mem_univ _)
  rw [Finset.mem_biUnion]
  have h0 : (i 0).val < 4096 := (i 0).isLt
  have h1 : (i 1).val < 1024 := (i 1).isLt
  refine ⟨rowGrp i, Finset.mem_univ _, Rect.mem_set_unit.mpr fun a => ?_⟩
  match a with
  | ⟨0, _⟩ => show 1024 * ((i 0).val / 1024) ≤ (i 0).val ∧ (i 0).val < 1024 * ((i 0).val / 1024) + 1024; omega
  | ⟨1, _⟩ => show 0 ≤ (i 1).val ∧ (i 1).val < 0 + 1024; omega

theorem halves_disjoint : ∀ t ∈ (Finset.univ : Finset (Fin 4 × Fin 2)), ∀ t' ∈ (Finset.univ : Finset (Fin 4 × Fin 2)), t ≠ t' →
    Disjoint (halfR (chunkNo t.1 t.2)).set (halfR (chunkNo t'.1 t'.2)).set := fun t _ t' _ hne =>
  Rect.unit_disjoint 0 (by
    have h2 := t.2.isLt
    have h2' := t'.2.isLt
    have : 2 * t.1.val + t.2.val ≠ 2 * t'.1.val + t'.2.val := fun h =>
      hne (Prod.ext (Fin.ext (by omega)) (Fin.ext (by omega)))
    show 512 * (2 * t.1.val + t.2.val) + 512 ≤ 512 * (2 * t'.1.val + t'.2.val) ∨ 512 * (2 * t'.1.val + t'.2.val) + 512 ≤ 512 * (2 * t.1.val + t.2.val)
    omega)

theorem halves_cover : (Finset.univ : Finset (Fin 4 × Fin 2)).biUnion (fun t => (halfR (chunkNo t.1 t.2)).set) = Finset.univ := by
  ext (i : S4096x1024.Idx)
  refine iff_of_true ?_ (Finset.mem_univ _)
  rw [Finset.mem_biUnion]
  have h0 : (i 0).val < 4096 := (i 0).isLt
  have h1 : (i 1).val < 1024 := (i 1).isLt
  refine ⟨(rowGrp i, rowHalf i), Finset.mem_univ _, Rect.mem_set_unit.mpr fun a => ?_⟩
  match a with
  | ⟨0, _⟩ =>
    show 512 * (2 * ((i 0).val / 1024) + (i 0).val / 512 % 2) ≤ (i 0).val ∧ (i 0).val < 512 * (2 * ((i 0).val / 1024) + (i 0).val / 512 % 2) + 512
    omega
  | ⟨1, _⟩ => show 0 ≤ (i 1).val ∧ (i 1).val < 0 + 1024; omega

/-! ## The input, its copy, the result -/

theorem src_eq (c : Dev nD) : (((c : Thread nD τ).loc main_arg0) ↦{fullShare} m ((c : Thread nD τ).loc main_arg0) : sProp 𝕄) = bigSep Finset.univ (srcP m c) := by
  rw [← rows_cover]
  exact pointsTo_biUnion _ _ rows_disjoint

theorem x_eq (c : Dev nD) (f : Buf (Elt F) ((c : Thread nD τ).loc cc0_scratch0)) :
    (((c : Thread nD τ).loc cc0_scratch0) ↦{fullShare} f : sProp 𝕄) = bigSep Finset.univ fun g => xP c g f := by
  rw [← rows_cover]
  exact pointsTo_biUnion _ _ rows_disjoint

theorem out_eq (c : Dev nD) (f : Buf (Elt F) ((c : Thread nD τ).loc main_v1)) :
    (((c : Thread nD τ).loc main_v1) ↦{fullShare} f : sProp 𝕄)
      = bigSep Finset.univ fun g : Fin 4 => iprop(outP c (chunkNo g 0) f ∗ outP c (chunkNo g 1) f) := by
  have h : (((c : Thread nD τ).loc main_v1) ↦{fullShare} f : sProp 𝕄)
      = bigSep Finset.univ fun t : Fin 4 × Fin 2 => outP c (chunkNo t.1 t.2) f := by
    rw [← halves_cover]
    exact pointsTo_biUnion _ _ halves_disjoint
  rw [h, bigSep_univ_prod]
  exact bigSep_congr fun g _ => bigSep_univ_eq_bigSepL [0, 1] (by decide) (by decide) _

/-! ## The statistics -/

theorem groups_disjoint : ∀ g ∈ (Finset.univ : Finset (Fin 4)), ∀ g' ∈ (Finset.univ : Finset (Fin 4)), g ≠ g' →
    Disjoint (groupR g).set (groupR g').set := fun g _ g' _ hne =>
  Rect.unit_disjoint 0 (by
    have : g.val ≠ g'.val := fun h => hne (Fin.ext h)
    show g.val + 1 ≤ g'.val ∨ g'.val + 1 ≤ g.val
    omega)

theorem groups_cover : (Finset.univ : Finset (Fin 4)).biUnion (fun g => (groupR g).set) = Finset.univ := by
  ext (i : S4x16x2x8x128.Idx)
  refine iff_of_true ?_ (Finset.mem_univ _)
  rw [Finset.mem_biUnion]
  refine ⟨(show Fin 4 from i 0), Finset.mem_univ _, Rect.mem_set_unit.mpr fun a => ?_⟩
  match a with
  | ⟨0, _⟩ => exact ⟨Nat.le_refl _, Nat.lt_succ_self _⟩
  | ⟨1, _⟩ => exact ⟨Nat.zero_le _, by have h : (i 1).val < 16 := (i 1).isLt; show (i 1).val < 0 + 16; omega⟩
  | ⟨2, _⟩ => exact ⟨Nat.zero_le _, by have h : (i 2).val < 2 := (i 2).isLt; show (i 2).val < 0 + 2; omega⟩
  | ⟨3, _⟩ => exact ⟨Nat.zero_le _, by have h : (i 3).val < 8 := (i 3).isLt; show (i 3).val < 0 + 8; omega⟩
  | ⟨4, _⟩ => exact ⟨Nat.zero_le _, by have h : (i 4).val < 128 := (i 4).isLt; show (i 4).val < 0 + 128; omega⟩

theorem comm_eq (c : Dev nD) (f : Buf (Elt F) ((c : Thread nD τ).loc cc0_scratch1)) :
    (((c : Thread nD τ).loc cc0_scratch1) ↦{fullShare} f : sProp 𝕄)
      = bigSep Finset.univ fun g : Fin 4 => ((c : Thread nD τ).loc cc0_scratch1) ↦[(groupR g).set]{fullShare} f := by
  rw [← groups_cover]
  exact pointsTo_biUnion _ _ groups_disjoint

theorem comm_slots (c : Dev nD) (f : Buf (Elt F) ((c : Thread nD τ).loc cc0_scratch1)) :
    (((c : Thread nD τ).loc cc0_scratch1) ↦{fullShare} f : sProp 𝕄)
      = bigSep Finset.univ fun g : Fin 4 => bigSep Finset.univ fun k : Fin 16 => slotP c g k fullShare f := by
  rw [comm_eq]
  refine bigSep_congr fun g _ => ?_
  rw [← slots_cover]
  exact pointsTo_biUnion _ _ (slots_disjoint g)

theorem comm_back (c : Dev nD) : bigSep Finset.univ (groupP m c) ⊢ (((c : Thread nD τ).loc cc0_scratch1) ↦{fullShare} commF m c : sProp 𝕄) :=
  Entails.of_eq (comm_eq c (commF m c)).symm

/-! ## The staging buffers -/

theorem stages_disjoint : ∀ s ∈ (Finset.univ : Finset (Fin 2)), ∀ s' ∈ (Finset.univ : Finset (Fin 2)), s ≠ s' →
    Disjoint (stageR s).set (stageR s').set := fun s _ s' _ hne =>
  Rect.unit_disjoint 0 (by
    have : s.val ≠ s'.val := fun h => hne (Fin.ext h)
    show s.val + 1 ≤ s'.val ∨ s'.val + 1 ≤ s.val
    omega)

theorem stages_cover : (Finset.univ : Finset (Fin 2)).biUnion (fun s => (stageR s).set) = Finset.univ := by
  ext (i : S2x512x1024.Idx)
  refine iff_of_true ?_ (Finset.mem_univ _)
  rw [Finset.mem_biUnion]
  refine ⟨(show Fin 2 from i 0), Finset.mem_univ _, Rect.mem_set_unit.mpr fun a => ?_⟩
  match a with
  | ⟨0, _⟩ => exact ⟨Nat.le_refl _, Nat.lt_succ_self _⟩
  | ⟨1, _⟩ => exact ⟨Nat.zero_le _, by have h : (i 1).val < 512 := (i 1).isLt; show (i 1).val < 0 + 512; omega⟩
  | ⟨2, _⟩ => exact ⟨Nat.zero_le _, by have h : (i 2).val < 1024 := (i 2).isLt; show (i 2).val < 0 + 1024; omega⟩

theorem stage_split (c : Dev nD) :
    iprop(∃ f, ((c : Thread nD τ).loc cc0_scratch2) ↦{fullShare} f) ⊢ (iprop((∃ f, stageP c 0 f) ∗ (∃ f, stageP c 1 f)) : sProp 𝕄) := by
  iintro ⟨%f, H⟩
  ihave H := (show (((c : Thread nD τ).loc cc0_scratch2) ↦{fullShare} f : sProp 𝕄) ⊢ iprop(stageP c 0 f ∗ stageP c 1 f) from Entails.of_eq (by
    rw [← stages_cover, pointsTo_biUnion _ _ stages_disjoint]
    exact bigSep_univ_eq_bigSepL [0, 1] (by decide) (by decide) _)) $$ H
  icases H with ⟨H0, H1⟩
  isplitl [H0]; · iexists f; iexact H0
  iexists f; iexact H1

theorem stage_join (c : Dev nD) :
    (iprop((∃ f, stageP c 0 f) ∗ (∃ f, stageP c 1 f)) : sProp 𝕄) ⊢ iprop(∃ f, ((c : Thread nD τ).loc cc0_scratch2) ↦{fullShare} f) := by
  iintro ⟨⟨%f, H0⟩, ⟨%f', H1⟩⟩
  have h := pointsTo_biUnion_join (Ix := Unit) (Name := ℕ) (U := UU) (Lvl := ℕ) (q := fullShare) (ℓ := (c : Thread nD τ).loc cc0_scratch2) Finset.univ (fun s => (stageR s).set)
    (fun s => if s = 0 then f else f') f stages_disjoint
  rw [stages_cover, bigSep_univ_eq_bigSepL [0, 1] (by decide) (by decide)] at h
  have h' : (iprop(stageP c 0 f ∗ stageP c 1 f') : sProp 𝕄) ⊢ _ := h
  ihave H := h' $$ [H0 H1]
  · isplitl [H0] <;> iassumption
  icases H with ⟨%g, -, H⟩
  iexists g; iexact H

/-! ## The landing slots handed over -/

/-- The distances the other way round. -/
def negE : Fin 16 ↪ Fin 16 := ⟨fun k => -k, by decide⟩

theorem neg_far : far.map negE = far := by decide

/-- What the units at a device's barrier cell bring: the peers' slots, by group and by distance. -/
theorem bar_slots (c : Dev nD) :
    bigSep far (barPay c) = (bigSep Finset.univ fun g : Fin 4 => sepL ks15 fun k => iprop(∃ f, slotP (fwd c k) g k fullShare f) : sProp 𝕄) := by
  have h (g : Fin 4) : (sepL ks15 fun k => iprop(∃ f, slotP (fwd c k) g k fullShare f) : sProp 𝕄)
      = bigSep far fun k => iprop(∃ f, slotP (fwd c (-k)) g (-k) fullShare f) := by
    rw [← far_eq]; conv_lhs => rw [← neg_far, bigSep_map]
    rfl
  simp only [h]
  unfold barPay
  simp only [fin4_eq, bigSep_sep']

end Cert.KernelIdeal.Norm

end
-- ==== Proof.Body.lean ====
/-
  The whole body: from what a device starts with, through its copies, signals, sends, waits and chunks, to what it ends with.
-/
module

public import proofs.«01_k».proof.Proof.Pieces

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

/-! ## Up to the departures -/

/-- What a device pays for the departure of a group's statistics to the peer at distance `k`. -/
def PreSend (c : Dev nD) (g : Fin 4) (k : Fin 16) : sProp 𝕄 :=
  iprop(CellR m c (.dma (sendSem g k)) ∗ CellR m (fwd c k) (.dma (recvSem g k)) ∗ dutyTok ER (sendCell c g k) 0 0 ∗ dutyTok ER (recvCell (fwd c k) g k) 0 0)

/-- What a device holds for a group of rows before its statistics are made. -/
def PreR (c : Dev nD) (g : Fin 4) : sProp 𝕄 := iprop((∃ f, slotP c g 0 fullShare f) ∗ sepL ks15 (PreSend m c g))

/-- What it holds once they have left. -/
def MidR (c : Dev nD) (g : Fin 4) : sProp 𝕄 :=
  iprop((xP c g (xF m c) ∗ srcP m c g ∗ semVal ((c : Thread nD τ), .dma (inSem g)) 0)
    ∗ (slotP c g 0 (Transfers.shareDrop fullShare 16) (commF m c) ∗ sendPay m c g 0) ∗ sepL ks15 (SentR c g))

/-- What it holds for a group of rows at the end. -/
def EndR (c : Dev nD) (g : Fin 4) : sProp 𝕄 :=
  iprop(srcP m c g ∗ semVal ((c : Thread nD τ), .dma (inSem g)) 0 ∗ groupP m c g
    ∗ sepL ks15 (fun k => iprop(semVal (sendCell c g k) 0 ∗ semVal (recvCell c g k) 0))
    ∗ outP c (chunkNo g 0) (outF m c) ∗ outP c (chunkNo g 1) (outF m c))

/-- What a device needs to wait for its fifteen units at one of its counters. -/
def UnitsR (c : Dev nD) (s : SemLoc sig) : sProp 𝕄 :=
  iprop(CellR m c s ∗ cred (tallyAt ((c : Thread nD τ), s) () 15) ∗ atPos ER ((c : Thread nD τ), s) 0 ∅ 0)

theorem send_join (c : Dev nD) (g : Fin 4) :
    iprop(sepL ks15 (PreSend m c g) ∗ sepL ks15 fun k => iprop(∃ f, slotP (fwd c k) g k fullShare f)) ⊢ sepL ks15 (SendR m c g) := by
  refine (sepL_zip ks15 _ _).trans (sepL_mono ks15 fun k _ => ?_)
  unfold PreSend SendR
  iintro ⟨⟨#H1, #H2, H3, H4⟩, H5⟩
  isplitr; · iexact H1
  isplitr; · iexact H2
  isplitl [H5]; · iexact H5
  isplitl [H3] <;> iassumption

/-- The copies in, the barrier, and the four departures. -/
theorem wp_front (c : Dev nD) (Kt : PR F) (Q : PUnit → sProp 𝕄) :
    iprop(sepL [0, 1, 2, 3] (fun g => iprop(srcP m c g ∗ (∃ f, xP c g f) ∗ semVal ((c : Thread nD τ), .dma (inSem g)) 0))
        ∗ sepL ks15 (SigR m c barSem) ∗ UnitsR m c (.reg barSem) ∗ bigSep Finset.univ (PreR m c) ∗ levAts L lv ∗ owe c (O₀ c))
      ⊢ iprop((bigSep Finset.univ (MidR m c) ∗ semVal (barCell c) 0 ∗ owe c (owedFin c ks15) -∗ WP c Kt Q)
        -∗ WP c (copiesIn [0, 1, 2, 3] <| signals barSem c ks15 <| .op (.semWait barSem (15#32).toInt) fun _ =>
            group c ks15 0 <| group c ks15 1 <| group c ks15 2 <| group c ks15 3 Kt) Q) := by
  rw [fin4_eq, fin4_eq]
  unfold UnitsR
  iintro ⟨Hin, Hsig, ⟨#Hcell, Hcr, Hat⟩, ⟨H0, H1, H2, H3⟩, #Hlev, HO⟩ Hk
  iapply (wp_copiesIn m c _ Q [0, 1, 2, 3]) $$ Hin
  iintro Hf
  ihave Hf := (show sepL [0, 1, 2, 3] (InFl m c) ⊢ iprop(InFl m c 0 ∗ InFl m c 1 ∗ InFl m c 2 ∗ InFl m c 3 ∗ emp) from Entails.refl _) $$ Hf
  icases Hf with ⟨Hf0, Hf1, Hf2, Hf3, -⟩
  unfold O₀
  iapply (wp_signals m c barSem (by rw [kd_bar]; rfl) (by rw [kd_bar]; rfl) (owed0 c) _ Q ks15 ks15_ne) $$ [Hsig HO]
  · isplitl [Hsig]; · iexact Hsig
    iexact HO
  iintro HO
  iapply (wp_waitCell m c (.reg barSem) (w := .semWait barSem (15#32).toInt) 15 (wpE_semWait_eq 𝒱₀ (c : Thread nD τ) none Set.univ)
    (by rw [kd_bar]; decide) (owed0 c) (by rw [kd_bar]; exact above_owed0 (by decide) c) _ Q) $$ [Hcr Hat HO]
  · isplitr; · iexact Hcell
    isplitl [Hcr]; · iexact Hcr
    isplitl [Hat]; · iexact Hat
    isplitr; · iexact Hlev
    iexact HO
  iintro ⟨HO, Hz, Hpay⟩
  ihave Hpay := (show bigSep (dutiesK (kd (.reg barSem))) (fun d => payK m c d (kd (.reg barSem))) ⊢ bigSep far (barPay c) from
    Entails.of_eq (by rw [kd_bar]; rfl)) $$ Hpay
  ihave Hpay := (Entails.of_eq ((bar_slots (F := F) c).trans (fin4_eq _))) $$ Hpay
  icases Hpay with ⟨Hp0, Hp1, Hp2, Hp3⟩
  unfold PreR owed0
  icases H0 with ⟨Hs0, Hq0⟩
  icases H1 with ⟨Hs1, Hq1⟩
  icases H2 with ⟨Hs2, Hq2⟩
  icases H3 with ⟨Hs3, Hq3⟩
  ihave Hq0 := (send_join m c 0) $$ [Hq0 Hp0]
  · isplitl [Hq0] <;> iassumption
  ihave Hq1 := (send_join m c 1) $$ [Hq1 Hp1]
  · isplitl [Hq1] <;> iassumption
  ihave Hq2 := (send_join m c 2) $$ [Hq2 Hp2]
  · isplitl [Hq2] <;> iassumption
  ihave Hq3 := (send_join m c 3) $$ [Hq3 Hp3]
  · isplitl [Hq3] <;> iassumption
  iapply (wp_group m c 0 (owed1 c) (above_owed0 (by decide) c) _ Q) $$ [Hf0 Hs0 Hq0 HO]
  · isplitl [Hf0]; · iexact Hf0
    isplitl [Hs0]; · iexact Hs0
    isplitl [Hq0]; · iexact Hq0
    isplitr; · iexact Hlev
    iexact HO
  iintro ⟨Ha0, Hb0, Hc0, HO⟩
  unfold owed1
  iapply (wp_group m c 1 (owed2 c) (above_owed1 (by decide) c) _ Q) $$ [Hf1 Hs1 Hq1 HO]
  · isplitl [Hf1]; · iexact Hf1
    isplitl [Hs1]; · iexact Hs1
    isplitl [Hq1]; · iexact Hq1
    isplitr; · iexact Hlev
    iexact HO
  iintro ⟨Ha1, Hb1, Hc1, HO⟩
  unfold owed2
  iapply (wp_group m c 2 (owed3 c) (above_owed2 (by decide) c) _ Q) $$ [Hf2 Hs2 Hq2 HO]
  · isplitl [Hf2]; · iexact Hf2
    isplitl [Hs2]; · iexact Hs2
    isplitl [Hq2]; · iexact Hq2
    isplitr; · iexact Hlev
    iexact HO
  iintro ⟨Ha2, Hb2, Hc2, HO⟩
  unfold owed3
  iapply (wp_group m c 3 (owedFin c ks15) (above_owed3 (by decide) c) _ Q) $$ [Hf3 Hs3 Hq3 HO]
  · isplitl [Hf3]; · iexact Hf3
    isplitl [Hs3]; · iexact Hs3
    isplitl [Hq3]; · iexact Hq3
    isplitr; · iexact Hlev
    iexact HO
  iintro ⟨Ha3, Hb3, Hc3, HO⟩
  iapply Hk
  isplitr [Hz HO]
  · unfold MidR
    isplitl [Ha0 Hb0 Hc0]
    · isplitl [Ha0]; · iexact Ha0
      isplitl [Hb0] <;> iassumption
    isplitl [Ha1 Hb1 Hc1]
    · isplitl [Ha1]; · iexact Ha1
      isplitl [Hb1] <;> iassumption
    isplitl [Ha2 Hb2 Hc2]
    · isplitl [Ha2]; · iexact Ha2
      isplitl [Hb2] <;> iassumption
    isplitl [Ha3]; · iexact Ha3
    isplitl [Hb3] <;> iassumption
  isplitl [Hz] <;> iassumption

/-! ## From the waits to the end -/

/-- Nothing to wait for before the first chunks. -/
theorem wp_noWait (c : Dev nD) (h : Fin 2) (O : CellTallies nD τ sig Unit) (Kt : PR F) (Q : PUnit → sProp 𝕄) :
    iprop(Stg c h ∗ levAts L lv ∗ owe c O) ⊢ iprop((Stg c h ∗ emp ∗ owe c O -∗ WP c Kt Q) -∗ WP c ((fun (_ : Fin 2) (K : PR F) => K) h Kt) Q) := by
  iintro ⟨HS, -, HO⟩ Hk
  iapply Hk
  isplitl [HS]; · iexact HS
  isplitr; · iempintro
  iexact HO

/-- The chunks of the four groups, the last copies out and the closing exchange of units. -/
theorem wp_back (c : Dev nD) (Q : PUnit → sProp 𝕄) :
    iprop(bigSep Finset.univ (MidR m c) ∗ bigSep Finset.univ (fun g => sepL ks15 (WaitR m c g))
        ∗ bigSep Finset.univ (fun g : Fin 4 => iprop((∃ f, outP c (chunkNo g 0) f) ∗ (∃ f, outP c (chunkNo g 1) f)))
        ∗ (Stg c 0 ∗ Stg c 1) ∗ sepL ks15 (SigR m c finSem) ∗ UnitsR m c (.reg finSem) ∗ levAts L lv ∗ owe c (owedFin c ks15))
      ⊢ iprop((bigSep Finset.univ (EndR m c) ∗ xAll m c ∗ (Stg c 0 ∗ Stg c 1) ∗ semVal (finCell c) 0 ∗ owe c 0 -∗ Q ⟨⟩)
        -∗ WP c (finish (k0_pay6 (gamF m c)) (k0_pay7 (betF m c)) ks15 (fun _ K => K) 0 <|
            finish (k0_pay6 (gamF m c)) (k0_pay7 (betF m c)) ks15 (fun h => waitOut (chunkNo 0 h) h) 1 <|
            finish (k0_pay6 (gamF m c)) (k0_pay7 (betF m c)) ks15 (fun h => waitOut (chunkNo 1 h) h) 2 <|
            finish (k0_pay6 (gamF m c)) (k0_pay7 (betF m c)) ks15 (fun h => waitOut (chunkNo 2 h) h) 3 <|
            waitOut (chunkNo 3 0) 0 <| waitOut (chunkNo 3 1) 1 <|
            signals finSem c ks15 <| .op (.semWait finSem (15#32).toInt) fun _ => .ret ⟨⟩) Q) := by
  rw [fin4_eq, fin4_eq, fin4_eq, fin4_eq]
  unfold UnitsR MidR
  iintro ⟨⟨⟨⟨Hx0, Hi0, Hv0⟩, Ho0, Hc0⟩, ⟨⟨Hx1, Hi1, Hv1⟩, Ho1, Hc1⟩, ⟨⟨Hx2, Hi2, Hv2⟩, Ho2, Hc2⟩, ⟨⟨Hx3, Hi3, Hv3⟩, Ho3, Hc3⟩⟩,
    ⟨Hw0, Hw1, Hw2, Hw3⟩, ⟨Hr0, Hr1, Hr2, Hr3⟩, HS, Hsig, ⟨#Hcell, Hcr, Hat⟩, #Hlev, HO⟩ Hk
  ihave Hx := (show iprop(xP c 0 (xF m c) ∗ xP c 1 (xF m c) ∗ xP c 2 (xF m c) ∗ xP c 3 (xF m c)) ⊢ xAll m c from
    Entails.of_eq ((x_eq c (xF m c)).trans (fin4_eq _)).symm) $$ [Hx0 Hx1 Hx2 Hx3]
  · isplitl [Hx0]; · iexact Hx0
    isplitl [Hx1]; · iexact Hx1
    isplitl [Hx2] <;> iassumption
  iapply (wp_finish m c 0 (fun _ K => K) (Stg c) (fun _ => iprop(emp)) (owedFin c ks15) (above_fin (by decide) c)
    (fun h Kt Q => wp_noWait c h _ Kt Q) _ Q) $$ [Hw0 Hc0 Ho0 Hx HS Hr0 HO]
  · isplitl [Hw0 Hc0 Ho0]
    · isplitl [Hw0]; · iexact Hw0
      isplitl [Hc0] <;> iassumption
    isplitl [Hx]; · iexact Hx
    isplitl [HS]; · iexact HS
    isplitl [Hr0]; · iexact Hr0
    isplitr; · iexact Hlev
    iexact HO
  iintro ⟨Hg0, Hz0, Hx, -, HF, HO⟩
  iapply (wp_finish m c 1 (fun h => waitOut (chunkNo 0 h) h) (OutFl m c 0) (fun h => outP c (chunkNo 0 h) (outF m c)) (owedFin c ks15) (above_fin (by decide) c)
    (fun h Kt Q => wp_waitOut m c 0 h _ (above_fin (by decide) c) Kt Q) _ Q) $$ [Hw1 Hc1 Ho1 Hx HF Hr1 HO]
  · isplitl [Hw1 Hc1 Ho1]
    · isplitl [Hw1]; · iexact Hw1
      isplitl [Hc1] <;> iassumption
    isplitl [Hx]; · iexact Hx
    isplitl [HF]; · iexact HF
    isplitl [Hr1]; · iexact Hr1
    isplitr; · iexact Hlev
    iexact HO
  iintro ⟨Hg1, Hz1, Hx, Hr0, HF, HO⟩
  iapply (wp_finish m c 2 (fun h => waitOut (chunkNo 1 h) h) (OutFl m c 1) (fun h => outP c (chunkNo 1 h) (outF m c)) (owedFin c ks15) (above_fin (by decide) c)
    (fun h Kt Q => wp_waitOut m c 1 h _ (above_fin (by decide) c) Kt Q) _ Q) $$ [Hw2 Hc2 Ho2 Hx HF Hr2 HO]
  · isplitl [Hw2 Hc2 Ho2]
    · isplitl [Hw2]; · iexact Hw2
      isplitl [Hc2] <;> iassumption
    isplitl [Hx]; · iexact Hx
    isplitl [HF]; · iexact HF
    isplitl [Hr2]; · iexact Hr2
    isplitr; · iexact Hlev
    iexact HO
  iintro ⟨Hg2, Hz2, Hx, Hr1, HF, HO⟩
  iapply (wp_finish m c 3 (fun h => waitOut (chunkNo 2 h) h) (OutFl m c 2) (fun h => outP c (chunkNo 2 h) (outF m c)) (owedFin c ks15) (above_fin (by decide) c)
    (fun h Kt Q => wp_waitOut m c 2 h _ (above_fin (by decide) c) Kt Q) _ Q) $$ [Hw3 Hc3 Ho3 Hx HF Hr3 HO]
  · isplitl [Hw3 Hc3 Ho3]
    · isplitl [Hw3]; · iexact Hw3
      isplitl [Hc3] <;> iassumption
    isplitl [Hx]; · iexact Hx
    isplitl [HF]; · iexact HF
    isplitl [Hr3]; · iexact Hr3
    isplitr; · iexact Hlev
    iexact HO
  iintro ⟨Hg3, Hz3, Hx, Hr2, ⟨HF0, HF1⟩, HO⟩
  iapply (wp_waitOut m c 3 0 _ (above_fin (by decide) c) _ Q) $$ [HF0 HO]
  · isplitl [HF0]; · iexact HF0
    isplitr; · iexact Hlev
    iexact HO
  iintro ⟨HS0, Hr30, HO⟩
  iapply (wp_waitOut m c 3 1 _ (above_fin (by decide) c) _ Q) $$ [HF1 HO]
  · isplitl [HF1]; · iexact HF1
    isplitr; · iexact Hlev
    iexact HO
  iintro ⟨HS1, Hr31, HO⟩
  ihave HO := (show owe (F := F) c (owedFin c ks15) ⊢ owe c (0 + owedFin c ks15) from Entails.of_eq (by rw [zero_add])) $$ HO
  iapply (wp_signals m c finSem (by rw [kd_fin]; rfl) (by rw [kd_fin]; rfl) 0 _ Q ks15 ks15_ne) $$ [Hsig HO]
  · isplitl [Hsig]; · iexact Hsig
    iexact HO
  iintro HO
  iapply (wp_waitCell m c (.reg finSem) (w := .semWait finSem (15#32).toInt) 15 (wpE_semWait_eq 𝒱₀ (c : Thread nD τ) none Set.univ)
    (by rw [kd_fin]; decide) 0 (above_zero _) _ Q) $$ [Hcr Hat HO]
  · isplitr; · iexact Hcell
    isplitl [Hcr]; · iexact Hcr
    isplitl [Hat]; · iexact Hat
    isplitr; · iexact Hlev
    iexact HO
  iintro ⟨HO, Hz, -⟩
  unfold WP; rw [wp_ret]; imodintro
  iapply Hk
  isplitr [Hx HS0 HS1 Hz HO]
  · unfold EndR
    icases Hr0 with ⟨Hr00, Hr01⟩
    icases Hr1 with ⟨Hr10, Hr11⟩
    icases Hr2 with ⟨Hr20, Hr21⟩
    isplitl [Hi0 Hv0 Hg0 Hz0 Hr00 Hr01]
    · isplitl [Hi0]; · iexact Hi0
      isplitl [Hv0]; · iexact Hv0
      isplitl [Hg0]; · iexact Hg0
      isplitl [Hz0]; · iexact Hz0
      isplitl [Hr00] <;> iassumption
    isplitl [Hi1 Hv1 Hg1 Hz1 Hr10 Hr11]
    · isplitl [Hi1]; · iexact Hi1
      isplitl [Hv1]; · iexact Hv1
      isplitl [Hg1]; · iexact Hg1
      isplitl [Hz1]; · iexact Hz1
      isplitl [Hr10] <;> iassumption
    isplitl [Hi2 Hv2 Hg2 Hz2 Hr20 Hr21]
    · isplitl [Hi2]; · iexact Hi2
      isplitl [Hv2]; · iexact Hv2
      isplitl [Hg2]; · iexact Hg2
      isplitl [Hz2]; · iexact Hz2
      isplitl [Hr20] <;> iassumption
    isplitl [Hi3]; · iexact Hi3
    isplitl [Hv3]; · iexact Hv3
    isplitl [Hg3]; · iexact Hg3
    isplitl [Hz3]; · iexact Hz3
    isplitl [Hr30] <;> iassumption
  isplitl [Hx]; · iexact Hx
  isplitl [HS0 HS1]
  · isplitl [HS0] <;> iassumption
  isplitl [Hz] <;> iassumption

end Cert.KernelIdeal.Norm

end
-- ==== Proof.Cells.lean ====
/-
  The protocol's cells at the launch: the counters and tokens dealt, the tokens handed to the devices that pay, the credit owed to each.
-/
module

public import proofs.«01_k».proof.Proof.Body

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

/-- A device's cells: its barrier, its closing exchange, its departures, its arrivals. -/
abbrev CI : Type := Unit ⊕ Unit ⊕ (Fin 4 × Fin 16) ⊕ (Fin 4 × Fin 16)

/-- The counter of a cell. -/
def csem : CI → SemLoc sig
  | .inl _ => .reg barSem
  | .inr (.inl _) => .reg finSem
  | .inr (.inr (.inl x)) => .dma (sendSem x.1 x.2)
  | .inr (.inr (.inr x)) => .dma (recvSem x.1 x.2)

/-- The cell of a kind of counter. -/
def ofKd : Kd → CI
  | .bar => .inl ()
  | .fin => .inr (.inl ())
  | .send g k => .inr (.inr (.inl (g, k)))
  | .recv g k => .inr (.inr (.inr (g, k)))
  | .other => .inl ()

theorem ofKd_csem : ∀ i, ofKd (kd (csem i)) = i
  | .inl _ => by rw [csem, kd_bar]; rfl
  | .inr (.inl _) => by rw [csem, kd_fin]; rfl
  | .inr (.inr (.inl x)) => by rw [csem, kd_send]; rfl
  | .inr (.inr (.inr x)) => by rw [csem, kd_recv]; rfl

theorem csem_injective : Function.Injective csem := fun a b h => by rw [← ofKd_csem a, h, ofKd_csem]

theorem unit_eq (Φ : Unit → sProp 𝕄) : bigSep Finset.univ Φ = Φ () := by
  rw [bigSep_univ_eq_bigSepL [()] (by decide) (by decide)]; rfl

theorem ci_eq (Φ : CI → sProp 𝕄) : bigSep Finset.univ Φ = iprop(Φ (.inl ()) ∗ Φ (.inr (.inl ()))
    ∗ (bigSep Finset.univ fun g : Fin 4 => bigSep Finset.univ fun k : Fin 16 => Φ (.inr (.inr (.inl (g, k)))))
    ∗ (bigSep Finset.univ fun g : Fin 4 => bigSep Finset.univ fun k : Fin 16 => Φ (.inr (.inr (.inr (g, k)))))) := by
  rw [BI.bigSep_univ_sum, BI.bigSep_univ_sum, BI.bigSep_univ_sum, unit_eq, unit_eq, bigSep_univ_prod, bigSep_univ_prod]
  rfl

/-- A cell of the mesh. -/
def gcell (x : Dev nD × CI) : GSem nD τ sig := ((x.1 : Thread nD τ), csem x.2)

theorem gcell_injective : Function.Injective gcell := fun a b h =>
  Prod.ext (congrArg (fun g : GSem nD τ sig => g.1.1) h) (csem_injective (congrArg Prod.snd h))

def ringCells : Finset (GSem nD τ sig) := Finset.univ.map ⟨gcell, gcell_injective⟩

/-! ## The duty tokens -/

/-- A device's duty tokens: one for each unit at its barrier and at its closing exchange, one for each departure and arrival. -/
abbrev TI : Type := Fin 16 ⊕ Fin 16 ⊕ (Fin 4 × Fin 16) ⊕ (Fin 4 × Fin 16)

def tokSem : TI → SemLoc sig
  | .inl _ => .reg barSem
  | .inr (.inl _) => .reg finSem
  | .inr (.inr (.inl x)) => .dma (sendSem x.1 x.2)
  | .inr (.inr (.inr x)) => .dma (recvSem x.1 x.2)

def tokDuty : TI → Fin 16
  | .inl k => k
  | .inr (.inl k) => k
  | _ => 0

def ofDuty (d : Fin 16) : Kd → TI
  | .bar => .inl d
  | .fin => .inr (.inl d)
  | .send g k => .inr (.inr (.inl (g, k)))
  | .recv g k => .inr (.inr (.inr (g, k)))
  | .other => .inl 0

theorem ofDuty_tok : ∀ i, ofDuty (tokDuty i) (kd (tokSem i)) = i
  | .inl _ => by rw [tokSem, kd_bar]; rfl
  | .inr (.inl _) => by rw [tokSem, kd_fin]; rfl
  | .inr (.inr (.inl x)) => by rw [tokSem, kd_send]; rfl
  | .inr (.inr (.inr x)) => by rw [tokSem, kd_recv]; rfl

def tokOf (x : Dev nD × TI) : GSem nD τ sig × ℕ × Fin 16 := (((x.1 : Thread nD τ), tokSem x.2), 0, tokDuty x.2)

theorem tokOf_injective : Function.Injective tokOf := fun a b h =>
  Prod.ext (congrArg (fun t : GSem nD τ sig × ℕ × Fin 16 => t.1.1.1) h) (by
    have h1 : tokSem a.2 = tokSem b.2 := congrArg (fun t : GSem nD τ sig × ℕ × Fin 16 => t.1.2) h
    have h2 : tokDuty a.2 = tokDuty b.2 := congrArg (fun t : GSem nD τ sig × ℕ × Fin 16 => t.2.2) h
    rw [← ofDuty_tok a.2, h1, h2, ofDuty_tok])

def ringToks : Finset (GSem nD τ sig × ℕ × Fin 16) := Finset.univ.map ⟨tokOf, tokOf_injective⟩

/-- The token of a duty. -/
def tok (x : Dev nD × TI) : sProp 𝕄 := dutyTok ER ((x.1 : Thread nD τ), tokSem x.2) 0 (tokDuty x.2)

theorem ti_eq (Φ : TI → sProp 𝕄) : bigSep Finset.univ Φ = iprop((bigSep Finset.univ fun k => Φ (.inl k)) ∗ (bigSep Finset.univ fun k => Φ (.inr (.inl k)))
    ∗ (bigSep Finset.univ fun g : Fin 4 => bigSep Finset.univ fun k : Fin 16 => Φ (.inr (.inr (.inl (g, k)))))
    ∗ (bigSep Finset.univ fun g : Fin 4 => bigSep Finset.univ fun k : Fin 16 => Φ (.inr (.inr (.inr (g, k)))))) := by
  rw [BI.bigSep_univ_sum, BI.bigSep_univ_sum, BI.bigSep_univ_sum, bigSep_univ_prod, bigSep_univ_prod]
  rfl

/-- The tokens a device pays with: for its units at the peers, its own departures, its arrivals at the peers. -/
def payTok (x : Dev nD × TI) : sProp 𝕄 :=
  match x.2 with
  | .inl k => tok (fwd x.1 k, .inl k)
  | .inr (.inl k) => tok (fwd x.1 k, .inr (.inl k))
  | .inr (.inr (.inl y)) => tok (x.1, .inr (.inr (.inl y)))
  | .inr (.inr (.inr y)) => tok (fwd x.1 y.2, .inr (.inr (.inr y)))

/-- How far a duty is from the device that pays it. -/
def hop : TI → Fin 16
  | .inl k => k
  | .inr (.inl k) => k
  | .inr (.inr (.inl _)) => 0
  | .inr (.inr (.inr y)) => y.2

/-- Every duty's device, from the device that pays. -/
def hopE : Dev nD × TI ≃ Dev nD × TI where
  toFun x := (fwd x.1 (hop x.2), x.2)
  invFun x := (fwd x.1 (-(hop x.2)), x.2)
  left_inv x := Prod.ext (fwd_back _ _) rfl
  right_inv x := Prod.ext (back_fwd _ _) rfl

theorem hop_tok (x : Dev nD × TI) : tok (F := F) (hopE x) = payTok x := by
  obtain ⟨c, k | k | y | y⟩ := x
  · rfl
  · rfl
  · show tok (fwd c 0, _) = tok (c, _)
    rw [(show fwd c 0 = fwd c (-0) from congrArg (fwd c) (by decide)).trans (fwd_zero c)]
  · rfl

theorem toks_around : (bigSep Finset.univ fun c : Dev nD => bigSep Finset.univ fun i : TI => tok (F := F) (c, i))
    = bigSep Finset.univ fun c : Dev nD => bigSep Finset.univ fun i : TI => payTok (c, i) := by
  rw [← bigSep_univ_prod, ← bigSep_univ_prod, bigSep_univ_equiv hopE]
  exact bigSep_congr fun x _ => hop_tok x

/-! ## Dealing them -/

def u₀ : UU := (initOf (Pipeline.cells cfgs cellOf_inj) (Pipeline.launchToks cfgs cellOf_inj), (initOf ringCells ringToks, 1))

theorem own_deal (a : UR sig nD τ) (b : UB) : (ownU ((a, (b, 1)) : UU) : sProp 𝕄) ⊢ iprop(BI.own (EP a) ∗ BI.own (ER b)) := by
  have h := ownU_pair (nD := nD) (τ := τ) (sig := sig) (Ix := Unit) (Val := Elt F) (Name := ℕ) (Lvl := ℕ) a ((b, 1) : UB × Counters)
  exact h

/-- What the launch deals a device. -/
def G (c : Dev nD) : sProp 𝕄 :=
  iprop((bigSep Finset.univ fun i : CI => roundState ER (Rd m) (gcell (c, i)) 0)
    ∗ (bigSep Finset.univ fun i : CI => iprop(atPos ER (gcell (c, i)) 0 ∅ 0 ∗ reached ER (gcell (c, i)) 0)) ∗ bigSep Finset.univ fun i : TI => tok (c, i))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (gcell (c, i)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun i : TI => tok (c, i) := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores the launch hands over -/

/-- The kernel's own semaphores: the closing exchange, the departures, the arrivals, the copies in, the copies out. -/
abbrev OI : Type := Unit ⊕ (Fin 4 × Fin 16) ⊕ (Fin 4 × Fin 16) ⊕ Fin 4 ⊕ Fin 2

def osem : OI → SemLoc sig
  | .inl _ => .reg finSem
  | .inr (.inl x) => .dma (sendSem x.1 x.2)
  | .inr (.inr (.inl x)) => .dma (recvSem x.1 x.2)
  | .inr (.inr (.inr (.inl g))) => .dma (inSem g)
  | .inr (.inr (.inr (.inr s))) => .dma (outSem s)

/-- A semaphore's place in the kernel's list. -/
def ofSem (s : SemLoc sig) : OI :=
  match kd s with
  | .fin => .inl ()
  | .send g k => .inr (.inl (g, k))
  | .recv g k => .inr (.inr (.inl (g, k)))
  | _ => match s with
    | .reg _ => .inl ()
    | .dma q => if q.val < 6 then .inr (.inr (.inr (.inl (Fin.ofNat 4 (q.val - 2))))) else .inr (.inr (.inr (.inr (Fin.ofNat 2 (q.val - 134)))))

theorem ofSem_osem : ∀ i, ofSem (osem i) = i
  | .inl _ => by unfold ofSem osem; rw [kd_fin]
  | .inr (.inl x) => by unfold ofSem osem; rw [kd_send]
  | .inr (.inr (.inl x)) => by unfold ofSem osem; rw [kd_recv]
  | .inr (.inr (.inr (.inl g))) => by revert g; decide +kernel
  | .inr (.inr (.inr (.inr s))) => by revert s; decide +kernel

theorem own_scoped : ∀ i, (osem i).isScoped .tc = true := by decide +kernel

theorem own_disj : ∀ i (w : Fin 2) s, osem i ≠ .dma ((cfg0.spec w).sem s) := by decide +kernel

theorem ownSemFacts : Pipeline.OwnSemFacts cfg0.spec osem :=
  ⟨own_scoped, fun a b h => by rw [← ofSem_osem a, h, ofSem_osem], own_disj⟩

theorem ownSems0_eq (c : Dev nD) : (Pipeline.ownSems0 (Ix := Unit) (Name := ℕ) (U := UU) (Lvl := ℕ) (Val := Elt F) (τ := τ) osem c : sProp 𝕄)
    = iprop(semVal (finCell c) 0
      ∗ (bigSep Finset.univ fun g : Fin 4 => bigSep Finset.univ fun k : Fin 16 => semVal (sendCell c g k) 0)
      ∗ (bigSep Finset.univ fun g : Fin 4 => bigSep Finset.univ fun k : Fin 16 => semVal (recvCell c g k) 0)
      ∗ (bigSep Finset.univ fun g : Fin 4 => semVal ((c : Thread nD τ), .dma (inSem g)) 0)
      ∗ (bigSep Finset.univ fun s : Fin 2 => semVal ((c : Thread nD τ), .dma (outSem s)) 0)) := by
  unfold Pipeline.ownSems0
  rw [BI.bigSep_univ_sum, BI.bigSep_univ_sum, BI.bigSep_univ_sum, BI.bigSep_univ_sum, unit_eq, bigSep_univ_prod, bigSep_univ_prod]
  rfl

theorem unscopedSems0_eq (c : Dev nD) : (unscopedSems0 c : sProp 𝕄) = semVal (barCell c) 0 := by
  unfold unscopedSems0; rw [bigSep_eq_bigSepL_of_eq [SemLoc.reg barSem] (by decide) (by decide)]; rfl

/-- The counters of the copies in and out, which no cell governs. -/
def localSems (c : Dev nD) : sProp 𝕄 :=
  iprop((bigSep Finset.univ fun g : Fin 4 => semVal ((c : Thread nD τ), .dma (inSem g)) 0)
    ∗ (bigSep Finset.univ fun s : Fin 2 => semVal ((c : Thread nD τ), .dma (outSem s)) 0))

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun i : CI => semVal (gcell (c, i)) 0) ∗ localSems c) : sProp 𝕄) := by
  rw [ownSems0_eq, unscopedSems0_eq, ci_eq]
  unfold localSems
  iintro ⟨⟨HF, HS, HV, HI, HO⟩, HB⟩
  isplitr [HI HO]
  · isplitl [HB]; · iexact HB
    isplitl [HF]; · iexact HF
    isplitl [HS]; · iexact HS
    iexact HV
  isplitl [HI] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => CellR m c (csem i)) ∗ (bigSep Finset.univ fun i : CI => atPos ER (gcell (c, i)) 0 ∅ 0)
          ∗ (bigSep Finset.univ fun i : TI => tok (c, i)) ∗ localSems c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun i : CI => semVal (gcell (c, i)) 0) ∗ bigSep Finset.univ fun i : CI => roundState ER (Rd m) (gcell (c, i)) 0)
      ⊢ (|={Set.univ}=> bigSep Finset.univ fun i : CI => iprop(∃ κ : ℕ, cellInv ER (Rd m) κ (gcell (c, i))) : sProp 𝕄) from by
        rw [← bigSep_sep']
        exact (bigSep_mono fun i _ => (Rounds.body_intro ER (Rd m) (gcell (c, i))).trans inv_alloc).trans (bigSep_fupd _ _)) $$ [Hv Hst] with Hinv
  · isplitl [Hv] <;> iassumption
  imodintro
  ihave Hat := (Entails.of_eq (bigSep_sep' Finset.univ (fun i : CI => (atPos ER (gcell (c, i)) 0 ∅ 0 : sProp 𝕄)) (fun i => reached ER (gcell (c, i)) 0))) $$ Hat
  icases Hat with ⟨Hat, Hr⟩
  isplitl [Hinv Hr]
  · iapply (show iprop((bigSep Finset.univ fun i : CI => iprop(∃ κ : ℕ, cellInv ER (Rd m) κ (gcell (c, i)))) ∗ bigSep Finset.univ fun i : CI => reached ER (gcell (c, i)) 0)
      ⊢ (bigSep Finset.univ fun i : CI => CellR m c (csem i) : sProp 𝕄) from Entails.of_eq (by rw [← bigSep_sep']; rfl))
    isplitl [Hinv] <;> iassumption
  isplitl [Hat]; · iexact Hat
  isplitl [Htok] <;> iassumption

/-- Every cell of the mesh, governed. -/
def records : sProp 𝕄 := bigSep Finset.univ fun x : Dev nD × CI => CellR m x.1 (csem x.2)

instance records_persistent : BI.Persistent (records (F := F) m) := by unfold records; infer_instance

theorem records_at (c : Dev nD) (i : CI) : records m ⊢ CellR m c (csem i) :=
  haveI : DecidableEq (Dev nD × CI) := Classical.decEq _
  bigSep_elim (Φ := fun x : Dev nD × CI => CellR m x.1 (csem x.2)) (Finset.mem_univ (c, i))

/-- What a device is dealt of the protocol. -/
def G' (c : Dev nD) : sProp 𝕄 :=
  iprop(records m ∗ (bigSep Finset.univ fun i : CI => atPos ER (gcell (c, i)) 0 ∅ 0) ∗ (bigSep Finset.univ fun i : TI => payTok (c, i)) ∗ localSems c)

theorem regroup :
    (bigSep Finset.univ fun c : Dev nD => iprop((bigSep Finset.univ fun i : CI => CellR m c (csem i)) ∗ (bigSep Finset.univ fun i : CI => atPos ER (gcell (c, i)) 0 ∅ 0)
          ∗ (bigSep Finset.univ fun i : TI => tok (c, i)) ∗ localSems c) : sProp 𝕄)
      ⊢ bigSep Finset.univ (G' m) := by
  unfold G'
  simp only [bigSep_sep']
  rw [toks_around, ← bigSep_univ_prod (fun x : Dev nD × CI => CellR m x.1 (csem x.2))]
  rw [show (bigSep Finset.univ fun x : Dev nD × CI => CellR m x.1 (csem x.2)) = records m from rfl]
  iintro ⟨HR, Hrest⟩
  isplitl [HR]
  · iapply (BI.bigSep_of_persistent Finset.univ (records m)); iexact HR
  iexact Hrest

/-- Every device's counters governed, and the tokens handed round, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- How many of a list's peers' counters are the one given. -/
def count (f : Fin 16 → SemLoc sig) (s : SemLoc sig) (ks : List (Fin 16)) : ℕ := (ks.map fun k => if s = f k then 1 else 0).sum

theorem sum_owedL (f : Fin 16 → SemLoc sig) (n : ℕ) (c : Dev nD) (s : SemLoc sig) (ks : List (Fin 16)) :
    ∑ d : Dev nD, owedL f n d ks ((c : Thread nD τ), s) () = n * count f s ks := by
  induction ks with
  | nil => exact Finset.sum_eq_zero fun d _ => rfl
  | cons k ks ih =>
    have h (d : Dev nD) : owedL f n d (k :: ks) ((c : Thread nD τ), s) ()
        = owedL f n d ks ((c : Thread nD τ), s) () + (if d = fwd c (-k) then (if s = f k then n else 0) else 0) := by
      show (owedL f n d ks + tallyAt ((fwd d k : Thread nD τ), f k) () n) ((c : Thread nD τ), s) () = _
      rw [Pi.add_apply, Finsupp.add_apply, tallyAt_apply]
      congr 1
      by_cases hd : d = fwd c (-k)
      · subst hd
        rw [back_fwd, if_pos rfl]
        by_cases hs : s = f k
        · subst hs; rw [if_pos ⟨rfl, rfl⟩, if_pos rfl]
        · rw [if_neg (fun h => hs (congrArg Prod.snd h.1)), if_neg hs]
      · rw [if_neg hd, if_neg]
        rintro ⟨h, -⟩
        have h1 : c = fwd d k := congrArg (fun g : GSem nD τ sig => g.1.1) h
        exact hd (by rw [h1, fwd_back])
    rw [Finset.sum_congr rfl fun d _ => h d, Finset.sum_add_distrib, ih, Finset.sum_ite_eq' Finset.univ (fwd c (-k)) fun _ => _, if_pos (Finset.mem_univ _)]
    show _ = n * ((if s = f k then 1 else 0) + count f s ks)
    split <;> simp [Nat.mul_add, Nat.add_comm]

theorem sum_owed (c : Dev nD) (s : SemLoc sig) :
    ∑ d : Dev nD, O₀ d ((c : Thread nD τ), s) () = 1 * count (fun _ => .reg finSem) s ks15
      + N * count (fun k => .dma (recvSem 3 k)) s ks15 + N * count (fun k => .dma (recvSem 2 k)) s ks15
      + N * count (fun k => .dma (recvSem 1 k)) s ks15 + N * count (fun k => .dma (recvSem 0 k)) s ks15
      + 1 * count (fun _ => .reg barSem) s ks15 := by
  simp only [← sum_owedL _ _ c, ← Finset.sum_add_distrib]
  rfl

theorem count_bar : count (fun _ => .reg finSem) (.reg barSem) ks15 = 0 ∧ (∀ g, count (fun k => .dma (recvSem g k)) (.reg barSem) ks15 = 0)
    ∧ count (fun _ => .reg barSem) (.reg barSem) ks15 = 15 := by decide +kernel
theorem count_fin : count (fun _ => .reg finSem) (.reg finSem) ks15 = 15 ∧ (∀ g, count (fun k => .dma (recvSem g k)) (.reg finSem) ks15 = 0)
    ∧ count (fun _ => .reg barSem) (.reg finSem) ks15 = 0 := by decide +kernel
theorem count_recv : ∀ g k, k ∈ ks15 → count (fun _ => .reg finSem) (.dma (recvSem g k)) ks15 = 0
    ∧ (∀ g', count (fun k' => .dma (recvSem g' k')) (.dma (recvSem g k)) ks15 = if g' = g then 1 else 0)
    ∧ count (fun _ => .reg barSem) (.dma (recvSem g k)) ks15 = 0 := by decide +kernel

theorem launch_credit (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem owed_bar (c : Dev nD) : ∑ d : Dev nD, O₀ d (barCell c) () = 15 := by
  rw [sum_owed]; simp only [count_bar.1, count_bar.2.1, count_bar.2.2, Nat.mul_zero, Nat.one_mul, Nat.zero_add, Nat.add_zero]
theorem owed_fin (c : Dev nD) : ∑ d : Dev nD, O₀ d (finCell c) () = 15 := by
  rw [sum_owed]; simp only [count_fin.1, count_fin.2.1, count_fin.2.2, Nat.mul_zero, Nat.one_mul, Nat.zero_add, Nat.add_zero]
theorem owed_recv (c : Dev nD) (g : Fin 4) (k : Fin 16) (hk : k ∈ ks15) : ∑ d : Dev nD, O₀ d (recvCell c g k) () = N := by
  rw [sum_owed]; simp only [(count_recv g k hk).1, (count_recv g k hk).2.1, (count_recv g k hk).2.2]
  fin_cases g <;> simp

/-- The credit a device is dealt: its units at its barrier and its closing exchange, and its arrivals. -/
def creds (c : Dev nD) : sProp 𝕄 :=
  iprop(cred (tallyAt (barCell c) () 15) ∗ cred (tallyAt (finCell c) () 15)
    ∗ bigSep Finset.univ fun g : Fin 4 => sepL ks15 fun k => cred (tallyAt (recvCell c g k) () N))

theorem creds_intro (c : Dev nD) : (Pipeline.launchCred O₀ c : sProp 𝕄) ⊢ creds c := by
  have hs : (Pipeline.launchCred O₀ c : sProp 𝕄) ⊢ _ := BI.bigSep_subset (Finset.subset_univ (Finset.univ.map ⟨csem, csem_injective⟩))
  have he := (bigSep_map (M := 𝕄) ⟨csem, csem_injective⟩ (s := Finset.univ)
    (Φ := fun sm : SemLoc sig => cred (tallyOn ((c : Thread nD τ), sm) (launchCredit (Pipeline.owing O₀) 0 ((c : Thread nD τ), sm))))).trans (ci_eq _)
  have hv : (bigSep Finset.univ fun g : Fin 4 => bigSep Finset.univ fun k : Fin 16 =>
        cred (tallyOn (recvCell c g k) (launchCredit (Pipeline.owing O₀) 0 (recvCell c g k))) : sProp 𝕄)
      ⊢ bigSep Finset.univ fun g : Fin 4 => sepL ks15 fun k => cred (tallyAt (recvCell c g k) () N) := bigSep_mono fun g _ => by
    rw [univ_eq]
    refine sep_elim_right.trans (sepL_mono ks15 fun k hk => ?_)
    rw [← launch_credit c (.dma (recvSem g k)) N (owed_recv c g k hk)]
  iintro H
  ihave H := hs $$ H
  ihave H := (Entails.of_eq he) $$ H
  icases H with ⟨HB, HF, -, HV⟩
  unfold creds
  rw [← launch_credit c (.reg barSem) 15 (owed_bar c), ← launch_credit c (.reg finSem) 15 (owed_fin c)]
  isplitl [HB]; · iexact HB
  isplitl [HF]; · iexact HF
  iapply hv
  iexact HV

end Cert.KernelIdeal.Norm

end
-- ==== Proof.Run.lean ====
/-
  The run of the kernel on the mesh: every device ends with its block of the result in place, its inputs unchanged, every counter at zero.
-/
module

public import proofs.«01_k».proof.Proof.Cells

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## What a device starts and ends with -/

/-- The input and the result of a device, as they are before the call. -/
def arrays (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))

def start (c : Dev nD) : sProp 𝕄 := iprop(G' m c ∗ creds c ∗ levAts L lv ∗ arrays m c)

/-- The kernel's own buffers, holding anything. -/
def bufs (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m c ∗ bufs c)

/-- The counters of the cells at distance nought, which nothing uses. -/
def idle (c : Dev nD) : sProp 𝕄 := bigSep Finset.univ fun g : Fin 4 => iprop(semVal (sendCell c g 0) 0 ∗ semVal (recvCell c g 0) 0)

def Φ₁ (c : Dev nD) : sProp 𝕄 :=
  iprop(bigSep Finset.univ (EndR m c) ∗ xAll m c ∗ (Stg c 0 ∗ Stg c 1) ∗ semVal (barCell c) 0 ∗ semVal (finCell c) 0 ∗ idle c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gamF m c
    | ⟨1, _⟩ => betF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## Entering -/

theorem sepL_with {α : Type} {R : sProp 𝕄} [BI.Persistent R] (l : List α) {Φ Ψ : α → sProp 𝕄} (h : ∀ a, iprop(R ∗ Φ a) ⊢ Ψ a) :
    iprop(R ∗ sepL l Φ) ⊢ sepL l Ψ := by
  induction l with
  | nil => exact sep_elim_right
  | cons a l ih =>
    rw [sepL_cons, sepL_cons]
    iintro ⟨#HR, Ha, Hl⟩
    isplitl [Ha]
    · iapply (h a)
      isplitr; · iexact HR
      iexact Ha
    iapply ih
    isplitr; · iexact HR
    iexact Hl

theorem four_mono {Φ Ψ : Fin 4 → sProp 𝕄} (h : ∀ g, Φ g ⊢ Ψ g) : bigSep Finset.univ Φ ⊢ bigSep Finset.univ Ψ :=
  bigSep_mono fun g _ => h g

theorem four_with {R : sProp 𝕄} [BI.Persistent R] {Φ Ψ : Fin 4 → sProp 𝕄} (h : ∀ g, iprop(R ∗ Φ g) ⊢ Ψ g) :
    iprop(R ∗ bigSep Finset.univ Φ) ⊢ bigSep Finset.univ Ψ :=
  (sep_mono_left (BI.bigSep_of_persistent Finset.univ R)).trans (by rw [← bigSep_sep']; exact bigSep_mono fun g _ => h g)

/-- The slots of a device, its own apart from those it hands to its peers. -/
theorem slots_split (c : Dev nD) :
    iprop(∃ f, ((c : Thread nD τ).loc cc0_scratch1) ↦{fullShare} f)
      ⊢ (iprop((bigSep Finset.univ fun g : Fin 4 => iprop(∃ f, slotP c g 0 fullShare f))
          ∗ sepL ks15 fun k => bigSep Finset.univ fun g : Fin 4 => iprop(∃ f, slotP c g (-k) fullShare f)) : sProp 𝕄) := by
  have h (f : Buf (Elt F) ((c : Thread nD τ).loc cc0_scratch1)) : (((c : Thread nD τ).loc cc0_scratch1) ↦{fullShare} f : sProp 𝕄)
      ⊢ iprop((bigSep Finset.univ fun g : Fin 4 => slotP c g 0 fullShare f)
          ∗ bigSep Finset.univ fun g : Fin 4 => sepL ks15 fun k => slotP c g k fullShare f) := by
    rw [comm_slots, ← bigSep_sep']
    exact Entails.of_eq (bigSep_congr fun g _ => univ_eq _)
  have h' (f : Buf (Elt F) ((c : Thread nD τ).loc cc0_scratch1)) : (bigSep Finset.univ fun g : Fin 4 => sepL ks15 fun k => slotP c g k fullShare f : sProp 𝕄)
      = sepL ks15 fun k => bigSep Finset.univ fun g : Fin 4 => slotP c g (-k) fullShare f := by
    rw [← far_eq]
    have h1 (g : Fin 4) : (sepL ks15 fun k => slotP c g k fullShare f : sProp 𝕄) = bigSep far fun k => slotP c g (-k) fullShare f := by
      rw [← far_eq]; conv_lhs => rw [← neg_far, bigSep_map]
      rfl
    simp only [h1, fin4_eq, bigSep_sep']
  iintro ⟨%f, H⟩
  ihave H := (h f) $$ H
  icases H with ⟨H0, H⟩
  ihave H := (Entails.of_eq (h' f)) $$ H
  isplitl [H0]
  · iapply (show (bigSep Finset.univ fun g : Fin 4 => slotP c g 0 fullShare f : sProp 𝕄) ⊢ bigSep Finset.univ fun g : Fin 4 => iprop(∃ f, slotP c g 0 fullShare f) from
      four_mono fun g => by iintro H; iexists f; iexact H)
    iexact H0
  · iapply (show (sepL ks15 fun k => bigSep Finset.univ fun g : Fin 4 => slotP c g (-k) fullShare f : sProp 𝕄)
        ⊢ sepL ks15 fun k => bigSep Finset.univ fun g : Fin 4 => iprop(∃ f, slotP c g (-k) fullShare f) from
      sepL_mono ks15 fun k _ => four_mono fun g => by iintro H; iexists f; iexact H)
    iexact H

/-- A device's positions at its cells, those at distance nought apart. -/
def poses (c : Dev nD) : sProp 𝕄 :=
  iprop(atPos ER (barCell c) 0 ∅ 0 ∗ atPos ER (finCell c) 0 ∅ 0
    ∗ (bigSep Finset.univ fun g : Fin 4 => sepL ks15 fun k => iprop(atPos ER (sendCell c g k) 0 ∅ 0 ∗ atPos ER (recvCell c g k) 0 ∅ 0)))
def poses0 (c : Dev nD) : sProp 𝕄 :=
  bigSep Finset.univ fun g : Fin 4 => iprop(atPos ER (sendCell c g 0) 0 ∅ 0 ∗ atPos ER (recvCell c g 0) 0 ∅ 0)

theorem poses_split (c : Dev nD) : (bigSep Finset.univ fun i : CI => (atPos ER (gcell (c, i)) 0 ∅ 0 : sProp 𝕄)) ⊢ iprop(poses c ∗ poses0 c) := by
  rw [ci_eq]
  unfold poses poses0
  have h : iprop((bigSep Finset.univ fun g : Fin 4 => bigSep Finset.univ fun k : Fin 16 => atPos ER (sendCell c g k) 0 ∅ 0)
      ∗ (bigSep Finset.univ fun g : Fin 4 => bigSep Finset.univ fun k : Fin 16 => atPos ER (recvCell c g k) 0 ∅ 0))
      ⊢ (bigSep Finset.univ fun g : Fin 4 => iprop((sepL ks15 fun k => iprop(atPos ER (sendCell c g k) 0 ∅ 0 ∗ atPos ER (recvCell c g k) 0 ∅ 0))
          ∗ (atPos ER (sendCell c g 0) 0 ∅ 0 ∗ atPos ER (recvCell c g 0) 0 ∅ 0)) : sProp 𝕄) := by
    rw [← bigSep_sep']
    refine four_mono fun g => ?_
    rw [univ_eq, univ_eq]
    iintro ⟨⟨Hs0, Hs⟩, ⟨Hr0, Hr⟩⟩
    isplitl [Hs Hr]
    · iapply sepL_zip
      isplitl [Hs] <;> iassumption
    isplitl [Hs0] <;> iassumption
  iintro ⟨HB, HF, HS, HV⟩
  ihave H := h $$ [HS HV]
  · isplitl [HS]; · iexact HS
    iexact HV
  ihave H := (Entails.of_eq (bigSep_sep' _ _ _)) $$ H
  icases H with ⟨H, H0⟩
  isplitr [H0]
  · isplitl [HB]; · iexact HB
    isplitl [HF]; · iexact HF
    iexact H
  iexact H0

/-- A counter with no duties is the device's again. -/
theorem close_idle (c : Dev nD) (s : SemLoc sig) (h : dutiesK (kd s) = ∅) :
    iprop(CellR m c s ∗ atPos ER ((c : Thread nD τ), s) 0 ∅ 0) ⊢ |={Set.univ}=> semVal ((c : Thread nD τ), s) 0 := by
  unfold CellR
  iintro ⟨⟨⟨%κ, #HI⟩, -⟩, Hat⟩
  imod (Rounds.cell_close ER (Rd m) (Set.mem_univ κ) (fun h => h) (R := 0) (duties_self m c s h)) $$ [Hat] with Hz
  · isplitr; · iexact HI
    iexact Hat
  imodintro; iexact Hz

theorem idle_intro (c : Dev nD) : iprop(records m ∗ poses0 c) ⊢ |={Set.univ}=> idle c := by
  unfold poses0 idle
  refine (four_with (Ψ := fun g => iprop(|={Set.univ}=> (semVal (sendCell c g 0) 0 ∗ semVal (recvCell c g 0) 0))) fun g => ?_).trans (bigSep_fupd _ _)
  iintro ⟨#HR, Hs, Hr⟩
  imod (close_idle m c (.dma (sendSem g 0)) (by rw [kd_send]; rfl)) $$ [Hs] with Hs
  · isplitr; · iapply (records_at m c (.inr (.inr (.inl (g, 0))))); iexact HR
    iexact Hs
  imod (close_idle m c (.dma (recvSem g 0)) (by rw [kd_recv]; rfl)) $$ [Hr] with Hr
  · isplitr; · iapply (records_at m c (.inr (.inr (.inr (g, 0))))); iexact HR
    iexact Hr
  imodintro
  isplitl [Hs] <;> iassumption

/-- The tokens a device pays with, those at distance nought left out. -/
def pays (c : Dev nD) : sProp 𝕄 :=
  iprop((sepL ks15 fun k => dutyTok ER (barCell (fwd c k)) 0 k) ∗ (sepL ks15 fun k => dutyTok ER (finCell (fwd c k)) 0 k)
    ∗ (bigSep Finset.univ fun g : Fin 4 => sepL ks15 fun k => iprop(dutyTok ER (sendCell c g k) 0 0 ∗ dutyTok ER (recvCell (fwd c k) g k) 0 0)))

theorem pays_intro (c : Dev nD) : (bigSep Finset.univ fun i : TI => payTok (F := F) (c, i)) ⊢ pays c := by
  rw [ti_eq]
  unfold pays
  have h : iprop((bigSep Finset.univ fun g : Fin 4 => bigSep Finset.univ fun k : Fin 16 => dutyTok ER (sendCell c g k) 0 0)
      ∗ (bigSep Finset.univ fun g : Fin 4 => bigSep Finset.univ fun k : Fin 16 => dutyTok ER (recvCell (fwd c k) g k) 0 0))
      ⊢ (bigSep Finset.univ fun g : Fin 4 => sepL ks15 fun k => iprop(dutyTok ER (sendCell c g k) 0 0 ∗ dutyTok ER (recvCell (fwd c k) g k) 0 0) : sProp 𝕄) := by
    rw [← bigSep_sep']
    refine four_mono fun g => ?_
    rw [univ_eq, univ_eq]
    iintro ⟨⟨-, Hs⟩, ⟨-, Hr⟩⟩
    iapply sepL_zip
    isplitl [Hs] <;> iassumption
  have hb : (bigSep Finset.univ fun k => payTok (c, .inl k)) ⊢ (sepL ks15 fun k => dutyTok ER (barCell (fwd c k)) 0 k : sProp 𝕄) := by
    rw [univ_eq]; exact sep_elim_right
  have hf : (bigSep Finset.univ fun k => payTok (c, .inr (.inl k))) ⊢ (sepL ks15 fun k => dutyTok ER (finCell (fwd c k)) 0 k : sProp 𝕄) := by
    rw [univ_eq]; exact sep_elim_right
  iintro ⟨HB, HF, HS, HV⟩
  isplitl [HB]; · iapply hb; iexact HB
  isplitl [HF]; · iapply hf; iexact HF
  iapply h
  isplitl [HS]; · iexact HS
  iexact HV

/-- What the body needs, put together from what the device was dealt. -/
theorem enter (c : Dev nD) :
    Φ₀ m c ⊢ |={Set.univ}=> iprop((sepL [0, 1, 2, 3] (fun g => iprop(srcP m c g ∗ (∃ f, xP c g f) ∗ semVal ((c : Thread nD τ), .dma (inSem g)) 0))
        ∗ sepL ks15 (SigR m c barSem) ∗ UnitsR m c (.reg barSem) ∗ bigSep Finset.univ (PreR m c) ∗ levAts L lv)
      ∗ (bigSep Finset.univ (fun g => sepL ks15 (WaitR m c g))
        ∗ bigSep Finset.univ (fun g : Fin 4 => iprop((∃ f, outP c (chunkNo g 0) f) ∗ (∃ f, outP c (chunkNo g 1) f)))
        ∗ (Stg c 0 ∗ Stg c 1) ∗ sepL ks15 (SigR m c finSem) ∗ UnitsR m c (.reg finSem))
      ∗ idle c) := by
  unfold Φ₀ start G' localSems creds arrays bufs
  iintro ⟨⟨⟨#HR, Hpos, Htok, Hin, Hout⟩, ⟨HcB, HcF, HcV⟩, #Hlev, Ha, Hv⟩, ⟨%fx, Hx⟩, Hc, Hst⟩
  ihave Hpos := (poses_split (F := F) c) $$ Hpos
  icases Hpos with ⟨Hpos, Hpos0⟩
  imod (idle_intro m c) $$ [Hpos0] with Hidle
  · isplitr; · iexact HR
    iexact Hpos0
  imodintro
  unfold poses
  icases Hpos with ⟨HpB, HpF, Hpos⟩
  ihave Htok := (pays_intro (F := F) c) $$ Htok
  unfold pays
  icases Htok with ⟨HtB, HtF, Htok⟩
  ihave Hc := (slots_split (F := F) c) $$ Hc
  icases Hc with ⟨Hown, Hgive⟩
  isplitl [Ha Hx Hin HcB HpB HtB Hgive Hown Htok]
  · isplitl [Ha Hx Hin]
    · ihave Ha := (Entails.of_eq (src_eq m c)) $$ Ha
      ihave Hx := (Entails.of_eq (x_eq c fx)) $$ Hx
      iapply (show iprop(bigSep Finset.univ (srcP m c) ∗ (bigSep Finset.univ fun g => xP c g fx)
          ∗ (bigSep Finset.univ fun g : Fin 4 => semVal ((c : Thread nD τ), .dma (inSem g)) 0))
        ⊢ (sepL [0, 1, 2, 3] (fun g => iprop(srcP m c g ∗ (∃ f, xP c g f) ∗ semVal ((c : Thread nD τ), .dma (inSem g)) 0)) : sProp 𝕄) from by
          rw [← sepL_eq [0, 1, 2, 3] (by decide), show ([0, 1, 2, 3] : List (Fin 4)).toFinset = Finset.univ from by decide, ← bigSep_sep', ← bigSep_sep']
          refine four_mono fun g => ?_
          iintro ⟨H1, H2, H3⟩
          isplitl [H1]; · iexact H1
          isplitl [H2]; · iexists fx; iexact H2
          iexact H3)
      isplitl [Ha]; · iexact Ha
      isplitl [Hx] <;> iassumption
    isplitl [HtB Hgive]
    · iapply (sepL_with (R := records m) ks15 (Φ := fun k => iprop(dutyTok ER (barCell (fwd c k)) 0 k ∗ bigSep Finset.univ fun g : Fin 4 => iprop(∃ f, slotP c g (-k) fullShare f)))
        (Ψ := SigR m c barSem) fun k => by
          unfold SigR
          rw [kd_bar]
          iintro ⟨#HR, Ht, Hp⟩
          isplitr; · iapply (records_at m (fwd c k) (.inl ())); iexact HR
          isplitl [Ht]; · iexact Ht
          iapply (show (bigSep Finset.univ fun g : Fin 4 => iprop(∃ f, slotP c g (-k) fullShare f) : sProp 𝕄) ⊢ payK m (fwd c k) k .bar from
            Entails.of_eq (barPay_fwd c k).symm)
          iexact Hp)
      isplitr; · iexact HR
      iapply sepL_zip
      isplitl [HtB] <;> iassumption
    isplitl [HcB HpB]
    · unfold UnitsR
      isplitr; · iapply (records_at m c (.inl ())); iexact HR
      isplitl [HcB] <;> iassumption
    isplitl [Hown Htok]
    · iapply (four_with (R := records m) (Φ := fun g => iprop((∃ f, slotP c g 0 fullShare f)
          ∗ sepL ks15 fun k => iprop(dutyTok ER (sendCell c g k) 0 0 ∗ dutyTok ER (recvCell (fwd c k) g k) 0 0))) (Ψ := PreR m c) fun g => by
          unfold PreR
          iintro ⟨#HR, Ho, Ht⟩
          isplitl [Ho]; · iexact Ho
          iapply (sepL_with (R := records m) ks15 (Φ := fun k => iprop(dutyTok ER (sendCell c g k) 0 0 ∗ dutyTok ER (recvCell (fwd c k) g k) 0 0))
            (Ψ := PreSend m c g) fun k => by
              unfold PreSend
              iintro ⟨#HR, Ht⟩
              isplitr; · iapply (records_at m c (.inr (.inr (.inl (g, k))))); iexact HR
              isplitr; · iapply (records_at m (fwd c k) (.inr (.inr (.inr (g, k))))); iexact HR
              iexact Ht)
          isplitr; · iexact HR
          iexact Ht)
      isplitr; · iexact HR
      iapply (Entails.of_eq (bigSep_sep' Finset.univ (fun g : Fin 4 => (iprop(∃ f, slotP c g 0 fullShare f) : sProp 𝕄))
        (fun g => sepL ks15 fun k => iprop(dutyTok ER (sendCell c g k) 0 0 ∗ dutyTok ER (recvCell (fwd c k) g k) 0 0))).symm)
      isplitl [Hown] <;> iassumption
    iexact Hlev
  isplitr [Hidle]
  · isplitl [Hpos HcV]
    · iapply (four_with (R := records m) (Φ := fun g => iprop((sepL ks15 fun k => iprop(atPos ER (sendCell c g k) 0 ∅ 0 ∗ atPos ER (recvCell c g k) 0 ∅ 0))
          ∗ sepL ks15 fun k => cred (tallyAt (recvCell c g k) () N))) (Ψ := fun g => sepL ks15 (WaitR m c g)) fun g => by
          iintro ⟨#HR, Hp, Hc⟩
          iapply (sepL_with (R := records m) ks15 (Φ := fun k => iprop((atPos ER (sendCell c g k) 0 ∅ 0 ∗ atPos ER (recvCell c g k) 0 ∅ 0) ∗ cred (tallyAt (recvCell c g k) () N)))
            (Ψ := WaitR m c g) fun k => by
              unfold WaitR
              iintro ⟨#HR, ⟨Hs, Hr⟩, Hc⟩
              isplitr; · iapply (records_at m c (.inr (.inr (.inl (g, k))))); iexact HR
              isplitr; · iapply (records_at m c (.inr (.inr (.inr (g, k))))); iexact HR
              isplitl [Hs]; · iexact Hs
              isplitl [Hr] <;> iassumption)
          isplitr; · iexact HR
          iapply sepL_zip
          isplitl [Hp] <;> iassumption)
      isplitr; · iexact HR
      iapply (Entails.of_eq (bigSep_sep' Finset.univ (fun g : Fin 4 => (sepL ks15 fun k => iprop(atPos ER (sendCell c g k) 0 ∅ 0 ∗ atPos ER (recvCell c g k) 0 ∅ 0) : sProp 𝕄))
        (fun g => sepL ks15 fun k => cred (tallyAt (recvCell c g k) () N))).symm)
      isplitl [Hpos] <;> iassumption
    isplitl [Hv]
    · ihave Hv := (Entails.of_eq (out_eq c (m ((c : Thread nD τ).loc main_v1)))) $$ Hv
      iapply (show (bigSep Finset.univ fun g : Fin 4 => iprop(outP c (chunkNo g 0) (m ((c : Thread nD τ).loc main_v1)) ∗ outP c (chunkNo g 1) (m ((c : Thread nD τ).loc main_v1))) : sProp 𝕄)
        ⊢ bigSep Finset.univ fun g : Fin 4 => iprop((∃ f, outP c (chunkNo g 0) f) ∗ (∃ f, outP c (chunkNo g 1) f)) from four_mono fun g => by
          iintro ⟨H0, H1⟩
          isplitl [H0]
          · iexists _; iexact H0
          · iexists _; iexact H1)
      iexact Hv
    isplitl [Hst Hout]
    · ihave Hst := (stage_split (F := F) c) $$ Hst
      icases Hst with ⟨H0, H1⟩
      ihave Hout := (show (bigSep Finset.univ fun s : Fin 2 => semVal ((c : Thread nD τ), .dma (outSem s)) 0 : sProp 𝕄)
        ⊢ iprop(semVal ((c : Thread nD τ), .dma (outSem 0)) 0 ∗ semVal ((c : Thread nD τ), .dma (outSem 1)) 0) from
          Entails.of_eq (bigSep_univ_eq_bigSepL [0, 1] (by decide) (by decide) _)) $$ Hout
      icases Hout with ⟨Hz0, Hz1⟩
      unfold Stg
      isplitl [H0 Hz0]
      · isplitl [H0] <;> iassumption
      isplitl [H1] <;> iassumption
    isplitl [HtF]
    · iapply (sepL_with (R := records m) ks15 (Φ := fun k => dutyTok ER (finCell (fwd c k)) 0 k) (Ψ := SigR m c finSem) fun k => by
          unfold SigR
          rw [kd_fin]
          iintro ⟨#HR, Ht⟩
          isplitr; · iapply (records_at m (fwd c k) (.inr (.inl ()))); iexact HR
          isplitl [Ht]; · iexact Ht
          iapply (show (iprop(emp) : sProp 𝕄) ⊢ payK m (fwd c k) k .fin from Entails.refl _)
          iempintro)
      isplitr; · iexact HR
      iexact HtF
    unfold UnitsR
    isplitr; · iapply (records_at m c (.inr (.inl ()))); iexact HR
    isplitl [HcF] <;> iassumption
  iexact Hidle

end Cert.KernelIdeal.Norm

end
-- ==== Proof.Main.lean ====
/-
  The launch of the kernel: the body's obligation, what the devices leave, and the run of the whole mesh.
-/
module

public import proofs.«01_k».proof.Proof.Run
public import Idealize.ShloMosaic.Lib.Pipeline.CollectiveSegs

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

theorem fetch_0 (t : Fin cfg0.N) : (cfg0.win (0 : Fin 2)).fetch t = true := fetch0_0 t
theorem fetch_1 (t : Fin cfg0.N) : (cfg0.win (1 : Fin 2)).fetch t = true := fetch0_1 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding something known. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (gamF m c) ∗ stg c cc0_stg1_0 (betF m c))

theorem hz : (![0] : Fin 1 → Nat) = fun _ => 0 := funext fun a => by fin_cases a; rfl

theorem read_gam (f : (cc0_stg0_0 : Ref sig .tc).ty.Contents (Elt F)) :
    (Memref.whole cc0_stg0_0 : Memref sig .tc .vmem S1024 .f32).view.readAt (Elt F) (Rect.unit (s := S1024) ![0] S1024.size inb_S1024_S1024_0).toLoadRect f = f :=
  Memref.readAt_unit_zero (Elt F) cc0_stg0_0 hz _ f
theorem read_bet (f : (cc0_stg1_0 : Ref sig .tc).ty.Contents (Elt F)) :
    (Memref.whole cc0_stg1_0 : Memref sig .tc .vmem S1024 .f32).view.readAt (Elt F) (Rect.unit (s := S1024) ![0] S1024.size inb_S1024_S1024_0).toLoadRect f = f :=
  Memref.readAt_unit_zero (Elt F) cc0_stg1_0 hz _ f

/-- The body from what a device starts with to what it ends with. -/
theorem sound_body (c : Dev nD) :
    bodyPre m ρ c ⊢ wp frame (wpE (defs₀ (F := F)) 𝒱₀ (c : Thread nD τ) none) Set.univ
      (body (Memref.whole cc0_stg0_0) (Memref.whole cc0_stg1_0)) (fun _ => bodyPost m ρ c) := by
  unfold body
  rw [wp_deviceId]
  unfold bodyPre
  iintro ⟨HΦ, Ho, ⟨%d0, %g0, %hg0, Hg⟩, ⟨%d1, %g1, %hg1, Hb⟩⟩
  have hx : g0 = gamF m c := by rw [hg0]; unfold Dat.before; rw [if_pos (fetch_0 t0_0)]; rfl
  have hy : g1 = betF m c := by rw [hg1]; unfold Dat.before; rw [if_pos (fetch_1 t0_0)]; rfl
  subst hx hy
  unfold Dat.owesAt Pipeline.owesWithin
  icases Ho with ⟨%W, %hW, HO⟩
  rw [show (dats m ρ 0 c).owed t0_0.castSucc = O₀ c from rfl]
  imod (enter m c) $$ HΦ with ⟨⟨H1, H2, H3, H4, #Hlev⟩, ⟨H5, H6, H7, H8, H9⟩, Hidle⟩
  iapply (wp_front m c _ (fun _ => bodyPost m ρ c)) $$ [H1 H2 H3 H4 HO]
  · isplitl [H1]; · iexact H1
    isplitl [H2]; · iexact H2
    isplitl [H3]; · iexact H3
    isplitl [H4]; · iexact H4
    isplitr; · iexact Hlev
    unfold owe; iexists W; iexact HO
  iintro ⟨Hmid, HzB, HO⟩
  iapply (wp_load 𝒱₀ (c : Thread nD τ) none Set.univ (m := (Memref.whole cc0_stg0_0 : Memref sig .tc .vmem S1024 .f32)) (Finset.subset_univ _)) $$ Hg; iintro Hg
  rw [read_gam]
  iapply (wp_load 𝒱₀ (c : Thread nD τ) none Set.univ (m := (Memref.whole cc0_stg1_0 : Memref sig .tc .vmem S1024 .f32)) (Finset.subset_univ _)) $$ Hb; iintro Hb
  rw [read_bet]
  iapply (wp_back m c (fun _ => bodyPost m ρ c)) $$ [Hmid H5 H6 H7 H8 H9 HO]
  · isplitl [Hmid]; · iexact Hmid
    isplitl [H5]; · iexact H5
    isplitl [H6]; · iexact H6
    isplitl [H7]; · iexact H7
    isplitl [H8]; · iexact H8
    isplitl [H9]; · iexact H9
    isplitr; · iexact Hlev
    iexact HO
  iintro ⟨Hend, Hx, HS, HzF, HO⟩
  unfold bodyPost Φ₁ Dat.owesAt Pipeline.owesWithin
  rw [show (dats m ρ 0 c).owed t0_0.succ = 0 from rfl]
  isplitl [Hend Hx HS HzB HzF Hidle]
  · isplitl [Hend]; · iexact Hend
    isplitl [Hx]; · iexact Hx
    isplitl [HS]; · iexact HS
    isplitl [HzB]; · iexact HzB
    isplitl [HzF] <;> iassumption
  isplitl [HO]
  · unfold owe
    icases HO with ⟨%W', HO⟩
    iexists W'
    isplitr; · ipureintro; exact fun _ _ => Or.inl trivial
    iexact HO
  isplitl [Hg]
  · iexists _; isplitr; · (ipureintro; rfl)
    iexact Hg
  iexists _; isplitr; · (ipureintro; rfl)
  iexact Hb

/-- The body's obligation on device `c`. -/
theorem body_obligation (c : Dev nD) : BodyObligation (dats (F := F) m ρ 0 c) (defs₀ (F := F)) 𝒱₀ () Set.univ := fun t => by
  rw [fin_N0 t]
  rw [show (defs₀ (F := F)) Proc.tc cfg0.body (cfg0.bodyArgs t0_0 (cfg0.slots t0_0)) = bodyAt0 t0_0 from rfl, body_eq]
  rw [bigSep_W0, bigSep_W0]
  have h := sound_body m ρ c
  unfold bodyPre bodyPost stg at h
  simp only [← owns_whole_eq] at h
  have hs0 : (cfg0.win 0).stage (cfg0.slots t0_0 0) = Memref.whole cc0_stg0_0 := rfl
  have hs1 : (cfg0.win 1).stage (cfg0.slots t0_0 1) = Memref.whole cc0_stg1_0 := rfl
  have hw0 : win0_0.stage (cfg0.slots t0_0 0) = Memref.whole cc0_stg0_0 := rfl
  have hw1 : win0_1.stage (cfg0.slots t0_0 1) = Memref.whole cc0_stg1_0 := rfl
  have hi0 : cfg0.idle 0 (cfg0.grid.coords t0_0) = false := rfl
  have hi1 : cfg0.idle 1 (cfg0.grid.coords t0_0) = false := rfl
  have hp0 : (dats m ρ 0 c).Φ t0_0.castSucc = Φ₀ m c := rfl
  have hp1 : (dats m ρ 0 c).Φ t0_0.succ = Φ₁ m c := rfl
  have ha0 : (dats m ρ 0 c).after 0 t0_0 = gamF m c := rfl
  have ha1 : (dats m ρ 0 c).after 1 t0_0 = betF m c := rfl
  rw [hw0, hw1, hp0, hp1, hi0, ha0, ha1]
  exact h

/-! ## What a device leaves -/

/-- The input and the result of a device, as they are after the call. -/
def left (c : Dev nD) : sProp 𝕄 :=
  iprop((((c : Thread nD τ).loc main_arg0) ↦{fullShare} m ((c : Thread nD τ).loc main_arg0))
    ∗ (((c : Thread nD τ).loc main_v1) ↦{fullShare} outF m c))

theorem two_eq (Φ : Fin 2 → sProp 𝕄) : bigSep Finset.univ Φ = iprop(Φ 0 ∗ Φ 1) := bigSep_univ_eq_bigSepL [0, 1] (by decide) (by decide) Φ

theorem sems_back (c : Dev nD) :
    iprop((bigSep Finset.univ fun g : Fin 4 => sepL ks15 fun k => iprop(semVal (sendCell c g k) 0 ∗ semVal (recvCell c g k) 0)) ∗ idle c)
      ⊢ (iprop((bigSep Finset.univ fun g : Fin 4 => bigSep Finset.univ fun k : Fin 16 => semVal (sendCell c g k) 0)
          ∗ (bigSep Finset.univ fun g : Fin 4 => bigSep Finset.univ fun k : Fin 16 => semVal (recvCell c g k) 0)) : sProp 𝕄) := by
  unfold idle
  rw [← bigSep_sep', ← bigSep_sep']
  refine four_mono fun g => ?_
  rw [univ_eq, univ_eq]
  iintro ⟨H, Hs0, Hr0⟩
  ihave H := (sepL_unzip ks15 _ _) $$ H
  icases H with ⟨Hs, Hr⟩
  isplitl [Hs0 Hs]
  · isplitl [Hs0] <;> iassumption
  isplitl [Hr0] <;> iassumption

theorem leave (c : Dev nD) :
    Φ₁ m c ⊢ iprop((unscopedSems0 c ∗ left m c) ∗ Pipeline.ownSems0 osem c ∗ bufs c) := by
  rw [ownSems0_eq, unscopedSems0_eq]
  unfold Φ₁ EndR
  simp only [bigSep_sep']
  iintro ⟨⟨Hsrc, Hin, Hgr, Hss, Ho0, Ho1⟩, Hx, ⟨HS0, HS1⟩, HzB, HzF, Hidle⟩
  ihave Hss := (sems_back (F := F) c) $$ [Hss Hidle]
  · isplitl [Hss]
    · iapply (Entails.of_eq (show (bigSep Finset.univ fun g : Fin 4 => sepL ks15 fun k => iprop(semVal (sendCell c g k) 0 ∗ semVal (recvCell c g k) 0) : sProp 𝕄) = _ from rfl))
      iexact Hss
    iexact Hidle
  icases Hss with ⟨Hs, Hr⟩
  isplitl [HzB Hsrc Ho0 Ho1]
  · isplitl [HzB]; · iexact HzB
    unfold left
    isplitl [Hsrc]; · iapply (Entails.of_eq (src_eq m c).symm); iexact Hsrc
    iapply (Entails.of_eq (out_eq c (outF m c)).symm)
    iapply (Entails.of_eq (bigSep_sep' Finset.univ (fun g : Fin 4 => outP c (chunkNo g 0) (outF m c)) (fun g => outP c (chunkNo g 1) (outF m c))).symm)
    isplitl [Ho0] <;> iassumption
  unfold Stg
  icases HS0 with ⟨HS0, Hz0⟩
  icases HS1 with ⟨HS1, Hz1⟩
  isplitl [HzF Hs Hr Hin Hz0 Hz1]
  · isplitl [HzF]; · iexact HzF
    isplitl [Hs]; · iexact Hs
    isplitl [Hr]; · iexact Hr
    isplitl [Hin]; · iexact Hin
    iapply (Entails.of_eq (two_eq fun s : Fin 2 => (semVal ((c : Thread nD τ), .dma (outSem s)) 0 : sProp 𝕄)).symm)
    isplitl [Hz0]; · iexact Hz0
    iexact Hz1
  unfold bufs xAll
  isplitl [Hx]; · iexists (xF m c); iexact Hx
  isplitl [Hgr]
  · iexists (commF m c); iapply (comm_back m c); iexact Hgr
  iapply (stage_join (F := F) c)
  isplitl [HS0] <;> iassumption

/-! ## The launch's side conditions -/

theorem rest_arrays (c : Dev nD) :
    (Pipeline.unscopedRestP Pipeline.Prefetch.none cfg0.spec c (fun b => m ((c : Thread nD τ).loc b)) : sProp 𝕄) ⊢ arrays m c := by
  rw [Pipeline.unscopedRestP_none]
  exact Entails.of_eq (unscopedRest0_eq c _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hrest, Hlev, Hcr, -, HG⟩
  ihave Hc := (creds_intro (F := F) c) $$ Hcr
  ihave Hrest := (rest_arrays m c) $$ Hrest
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop((unscopedSems0 c ∗ left m c) ∗ Pipeline.ownSems0 osem c ∗ Pipeline.scopedRest cfg0.spec c) := by
  rw [show (dats m ρ 0 c).Φ (Fin.last cfg0.N) = Φ₁ m c from rfl, scopedRest0_eq]
  exact leave m c

theorem stage_other : ∀ (w : Fin 2) s, kd (.dma ((cfg0.spec w).sem s)) = .other := by decide +kernel

theorem wait_stages (c : Dev nD) : (levAts L lv : sProp 𝕄) ⊢ Pipeline.cellsWaits cfgs (dats m ρ) () 0 c :=
  Pipeline.cellsWaits_intro cfgs (dats m ρ) () 0 c fun w s t =>
    mayWait c _ _ (by
      rw [show kd (.dma ((cfg0.spec w).sem s)) = .other from stage_other w s]
      rcases t with ⟨_ | _, ht⟩
      · exact above_O₀ c
      · exact above_zero _)

/-! ## The run -/

/-- What the run leaves: on every device the two staged arrays as they were, the input as it was, the result computed. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg0) = m ((c : Thread nD τ).loc main_arg0)
    ∧ r.2.mem ((c : Thread nD τ).loc main_v1) = outF m c

theorem read_left (c : Dev nD) (s' : Phys nD τ sig (Elt F)) :
    iprop((unscopedSems0 c ∗ left m c) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)
          ∧ s'.mem.mem ((c : Thread nD τ).loc main_v1) = outF m c⌝ ∗ (SI s' : sProp 𝕄)) := by
  unfold left
  iintro ⟨⟨Hu, Ha, Hv⟩, -, HSI⟩
  imod (Pipeline.unscopedSems0_read (X := unscopedSems0 c) (c := c) fupd_intro s') $$ [Hu HSI] with ⟨%h0, HSI⟩
  · isplitl [Hu] <;> iassumption
  icombine HSI Ha gives %h1
  icombine HSI Hv gives %h2
  imodintro
  isplitr
  · ipureintro
    exact ⟨h0, funext fun i => h1 i (Finset.mem_univ i), funext fun i => h2 i (Finset.mem_univ i)⟩
  iexact HSI

/-- On the mesh of sixteen devices, for any float values, from any memory with zero counters: every weakly fair execution of
    the call terminates, and every final state has each device's result computed, its inputs unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := wait_stages m ρ)
    (G := G m) (G' := G' m) (u₀ := u₀)
    (hu₀ := by
      unfold u₀
      iintro Hu
      ihave H := (own_deal _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ left m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_v1) = outF m c)
    (hY := fun c s' => read_left m c s')
    (hQ := fun _ h hs => ⟨fun c => ⟨(h c).1, (h c).2.2.2⟩, sem_eq_zero hs fun c => (h c).2.2.1⟩)

/-- The staged arrays after the run hold what they held. -/
theorem arr_gam (c : Dev nD) : (dats m ρ 0 c).arrAt (0 : Fin 2) cfg0.N = m ((c : Thread nD τ).loc main_arg1) :=
  (dats (F := F) m ρ 0 c).arrAt_in (0 : Fin 2) rfl _
theorem arr_bet (c : Dev nD) : (dats m ρ 0 c).arrAt (1 : Fin 2) cfg0.N = m ((c : Thread nD τ).loc main_arg2) :=
  (dats (F := F) m ρ 0 c).arrAt_in (1 : Fin 2) rfl _

end Cert.KernelIdeal.Norm

end
-- ==== Proof.Frames.lean ====
module

public import proofs.«01_k».proof.Proof.Main

@[expose] public section

set_option maxRecDepth 16384

noncomputable section

namespace Cert.KernelIdeal.Norm

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Transfers (Flight wp_dmaLocal wp_waitLocalO Flight_mono)

variable {F : FTy → Type} [FloatOps F]

variable (m : (ℓ : Loc nD τ sig) → Buf (Elt F) ℓ) (ρ : Dev nD → PrngReg)

/-! ## The frames -/

/-- What every run of the kernel keeps, over any float values: the three arguments unchanged, the result computed, every
    counter at zero. -/
theorem run_values : θ_run defs (onTc (τ := τ) (main (F := F))) ⟨m, fun _ => 0, ρ⟩ (fun r =>
    (∀ c : Dev nD, r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c).2.2, (h.1 c).2.1,
    ((h.1 c).1 (0 : Fin 2)).trans (arr_gam m ρ c), ((h.1 c).1 (1 : Fin 2)).trans (arr_bet m ρ c)⟩, h.2⟩) (run_main m ρ)

/-- The frame of the kernel, over any float values. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => (h.1 c).2, h.2⟩) (run_values m ρ)

end Cert.KernelIdeal.Norm

end
-- ==== Proof.Stats.lean ====
/-
  What one device's block computes, entry by entry, over the extended reals.
-/
module

public import proofs.«01_k».proof.Proof.Gen.KernelIdeal.Skeleton
public import Idealize.ShloMosaic.Lib.Pointwise

@[expose] public section

set_option maxRecDepth 16384

noncomputable section

namespace Cert.KernelIdeal.Norm

open Cert.KernelIdeal.Gen
open Idealize.ShloMosaic

/-- The sums of the rows: entry `(0, a, l)` of the statistics of 1024 rows is the sum of row `128 a + l`. -/
theorem stat_sum (X : Vec Ideal S1024x1024 .f32) (a : Fin 8) (l : Fin 128) :
    k0_pay1 X (ix5 0 0 0 a l) = ∑ j : Fin 1024, X (ix2 ⟨a.val * 128 + l.val, by omega⟩ j) := by
  pointwise [k0_pay1]

/-- The sums of squares of the rows: entry `(1, a, l)` is the sum of the squares of row `128 a + l`. -/
theorem stat_sq (X : Vec Ideal S1024x1024 .f32) (a : Fin 8) (l : Fin 128) :
    k0_pay1 X (ix5 0 0 1 a l)
      = ∑ j : Fin 1024, X (ix2 ⟨a.val * 128 + l.val, by omega⟩ j) * X (ix2 ⟨a.val * 128 + l.val, by omega⟩ j) := by
  pointwise [k0_pay1]

/-- The mean of a row, from the sixteen devices' sums. -/
theorem mean_apply (G : Vec Ideal S1x16x2x8x128 .f32) (a : Fin 8) (l : Fin 128) :
    k0_pay23 G (ix2 a l) = Ideal.div (∑ k : Fin 16, G (ix5 0 k 0 a l)) (Ideal.ofBits .f32 0x46800000#32) := by
  pointwise [k0_pay23, k0_pay22]

/-- The reciprocal of the standard deviation of a row, from the sixteen devices' sums and sums of squares. -/
theorem rstd_apply (G : Vec Ideal S1x16x2x8x128 .f32) (a : Fin 8) (l : Fin 128) :
    k0_pay24 G (ix2 a l)
      = Ideal.rsqrt (Ideal.div (∑ k : Fin 16, G (ix5 0 k 1 a l)) (Ideal.ofBits .f32 0x46800000#32)
          - k0_pay23 G (ix2 a l) * k0_pay23 G (ix2 a l) + Ideal.ofBits .f32 0x3727C5AC#32) := by
  pointwise [k0_pay24, k0_pay23, k0_pay22]

/-- One normalised entry of the first half of a group. -/
theorem first_apply (γ β : Vec Ideal S1x1x1024 .f32) (G : Vec Ideal S1x16x2x8x128 .f32) (X : Vec Ideal S512x1024 .f32)
    (r : Fin 512) (j : Fin 1024) :
    k0_pay25 γ β G X (ix3 0 r j)
      = (X (ix2 r j) - k0_pay23 G (ix2 ⟨r.val / 128, by omega⟩ ⟨r.val % 128, by omega⟩))
          * k0_pay24 G (ix2 ⟨r.val / 128, by omega⟩ ⟨r.val % 128, by omega⟩) * γ (ix3 0 0 j) + β (ix3 0 0 j) := by
  pointwise [k0_pay25, k0_pay24, k0_pay23, k0_pay22]

/-- One normalised entry of the second half of a group. -/
theorem second_apply (γ β : Vec Ideal S1x1x1024 .f32) (μ ν : Vec Ideal S8x128 .f32) (X : Vec Ideal S512x1024 .f32)
    (r : Fin 512) (j : Fin 1024) :
    k0_pay26 γ β μ ν X (ix3 0 r j)
      = (X (ix2 r j) - μ (ix2 ⟨4 + r.val / 128, by omega⟩ ⟨r.val % 128, by omega⟩))
          * ν (ix2 ⟨4 + r.val / 128, by omega⟩ ⟨r.val % 128, by omega⟩) * γ (ix3 0 0 j) + β (ix3 0 0 j) := by
  pointwise [k0_pay26]

/-- The scale is used as it is given. -/
theorem scale_apply (v : Vec Ideal S1024 .f32) (j : Fin 1024) : k0_pay6 v (ix3 0 0 j) = v (ix1 j) := by
  pointwise [k0_pay6]
/-- The shift is used as it is given. -/
theorem shift_apply (v : Vec Ideal S1024 .f32) (j : Fin 1024) : k0_pay7 v (ix3 0 0 j) = v (ix1 j) := by
  pointwise [k0_pay7]

end Cert.KernelIdeal.Norm

end
-- ==== Proof.Held.lean ====
/-
  What the arrays hold at the end, entry by entry, over the extended reals.
-/
module

public import proofs.«01_k».proof.Proof.Frames
public import proofs.«01_k».proof.Proof.Stats

@[expose] public section

set_option maxRecDepth 16384

noncomputable section

namespace Cert.KernelIdeal.Norm

open Cert.KernelIdeal.Gen
open Idealize.ShloMosaic Idealize.ShloMosaic.TcCoe

variable (m : (ℓ : Loc nD τ sig) → Buf (Elt Ideal) ℓ)

/-- Entry `(r, j)` of device `c`'s block of the input. -/
def xAt (c : Dev nD) (r : Fin 4096) (j : Fin 1024) : EReal := xF m c (ix2 r j)
/-- Entry `j` of device `c`'s block of the scale. -/
def gamAt (c : Dev nD) (j : Fin 1024) : EReal := (m ((c : Thread nD τ).loc main_arg1) : S1024.Idx → EReal) (ix1 j)
/-- Entry `j` of device `c`'s block of the shift. -/
def betAt (c : Dev nD) (j : Fin 1024) : EReal := (m ((c : Thread nD τ).loc main_arg2) : S1024.Idx → EReal) (ix1 j)

/-- Equal coordinates, equal entries. -/
theorem xAt_congr {c : Dev nD} {i : S4096x1024.Idx} {r : Fin 4096} {j : Fin 1024} (h0 : (i 0).val = r.val) (h1 : (i 1).val = j.val) :
    (xF m c : S4096x1024.Idx → EReal) i = xAt m c r j :=
  congrArg (xF m c : S4096x1024.Idx → EReal)
    ((eq_ix2 i).trans (congrArg₂ ix2 (Fin.ext h0 : (i 0 : Fin 4096) = r) (Fin.ext h1 : (i 1 : Fin 1024) = j)))

/-- Row `a` of group `g` is row `1024 g + a` of the block. -/
theorem grpX_apply (c : Dev nD) (g : Fin 4) (a : Fin 1024) (j : Fin 1024) (r : Fin 4096) (hr : r.val = 1024 * g.val + a.val) :
    grpX m c g (ix2 a j) = xAt m c r j := by
  refine xAt_congr m (i := (rowsR g).emb (ix2 a j)) ?_ ?_
  · simp [hr]
  · simp

/-- Row `a` of chunk `t` is row `512 t + a` of the block. -/
theorem chunkX_apply (c : Dev nD) (t : Fin 8) (a : Fin 512) (j : Fin 1024) (r : Fin 4096) (hr : r.val = 512 * t.val + a.val) :
    chunkX m c t (ix2 a j) = xAt m c r j := by
  refine xAt_congr m (i := (halfR t).emb (ix2 a j)) ?_ ?_
  · simp [hr]
  · simp

/-- The staged scale is device `c`'s block of the scale. -/
theorem gamF_apply (c : Dev nD) (j : Fin 1024) : gamF m c (ix1 j) = gamAt m c j := by
  refine congrArg (m ((c : Thread nD τ).loc main_arg1) : S1024.Idx → EReal) ?_
  rw [eq_ix1 (((win0_0.blk t0_0).view.emb (ix1 j) : S1024.Idx))]
  exact congrArg ix1 (Fin.ext (win0_0.rect_emb_val_of_index_zero t0_0 (0 : Fin 1) rfl (ix1 j)))

/-- The staged shift is device `c`'s block of the shift. -/
theorem betF_apply (c : Dev nD) (j : Fin 1024) : betF m c (ix1 j) = betAt m c j := by
  refine congrArg (m ((c : Thread nD τ).loc main_arg2) : S1024.Idx → EReal) ?_
  rw [eq_ix1 (((win0_1.blk t0_0).view.emb (ix1 j) : S1024.Idx))]
  exact congrArg ix1 (Fin.ext (win0_1.rect_emb_val_of_index_zero t0_0 (0 : Fin 1) rfl (ix1 j)))

/-- Slot `k` of the statistics device `c` holds is what the device `k` before it computed. -/
theorem groupG_apply (c : Dev nD) (g : Fin 4) (k : Fin 16) (b : Fin 2) (a : Fin 8) (l : Fin 128) :
    groupG m c g (ix5 0 k b a l) = k0_pay1 (grpX m (fwd c (-k)) g) (ix5 0 0 b a l) := by
  refine statF_congr m c (Fin.ext ?_) (Fin.ext ?_) (funext fun x => Fin.ext ?_)
  · show ((groupR g).emb (ix5 0 k b a l) 1).val = _
    simp
  · show ((groupR g).emb (ix5 0 k b a l) 0).val = _
    simp
  · match x with
    | ⟨0, _⟩ => rfl
    | ⟨1, _⟩ => rfl
    | ⟨2, _⟩ => show ((groupR g).emb (ix5 0 k b a l) 2).val = _; simp
    | ⟨3, _⟩ => show ((groupR g).emb (ix5 0 k b a l) 3).val = _; simp
    | ⟨4, _⟩ => show ((groupR g).emb (ix5 0 k b a l) 4).val = _; simp

/-- The sum of row `r` over all devices. -/
def sumAt (r : Fin 4096) : EReal := ∑ d : Fin 16, ∑ j : Fin 1024, xAt m d r j
/-- The sum of the squares of row `r` over all devices. -/
def sqAt (r : Fin 4096) : EReal := ∑ d : Fin 16, ∑ j : Fin 1024, xAt m d r j * xAt m d r j
/-- The mean of row `r` as the kernel computes it. -/
def meanAt (r : Fin 4096) : EReal := Ideal.div (sumAt m r) (Ideal.ofBits .f32 0x46800000#32)
/-- The reciprocal standard deviation of row `r` as the kernel computes it. -/
def rstdAt (r : Fin 4096) : EReal :=
  Ideal.rsqrt (Ideal.div (sqAt m r) (Ideal.ofBits .f32 0x46800000#32) - meanAt m r * meanAt m r + Ideal.ofBits .f32 0x3727C5AC#32)

/-- Walking back from device `c` one device at a time meets every device once. -/
theorem sum_back (c : Dev nD) (f : Fin 16 → EReal) : ∑ k : Fin 16, f (fwd c (-k)) = ∑ d : Fin 16, f d := by
  refine Equiv.sum_comp (Function.Involutive.toPerm (fun k : Fin 16 => (fwd c (-k) : Fin 16)) ?_) f
  intro k
  revert c k
  decide

variable {m} in
/-- The sum over the slots is the sum of the row over all devices. -/
theorem row_sum (c : Dev nD) (g : Fin 4) (a : Fin 8) (l : Fin 128) (r : Fin 4096) (hr : r.val = 1024 * g.val + (a.val * 128 + l.val)) :
    ∑ k : Fin 16, groupG m c g (ix5 0 k 0 a l) = sumAt m r := by
  rw [sumAt, ← sum_back c fun d => ∑ j : Fin 1024, xAt m d r j]
  refine Finset.sum_congr rfl fun k _ => ?_
  rw [groupG_apply, stat_sum]
  exact Finset.sum_congr rfl fun j _ => grpX_apply m _ g _ j r hr

variable {m} in
/-- The sum over the slots is the sum of the row's squares over all devices. -/
theorem row_sq (c : Dev nD) (g : Fin 4) (a : Fin 8) (l : Fin 128) (r : Fin 4096) (hr : r.val = 1024 * g.val + (a.val * 128 + l.val)) :
    ∑ k : Fin 16, groupG m c g (ix5 0 k 1 a l) = sqAt m r := by
  rw [sqAt, ← sum_back c fun d => ∑ j : Fin 1024, xAt m d r j * xAt m d r j]
  refine Finset.sum_congr rfl fun k _ => ?_
  rw [groupG_apply, stat_sq]
  exact Finset.sum_congr rfl fun j _ => by rw [grpX_apply m _ g _ j r hr]

variable {m} in
/-- The mean of a row of group `g`. -/
theorem row_mean (c : Dev nD) (g : Fin 4) (a : Fin 8) (l : Fin 128) (r : Fin 4096) (hr : r.val = 1024 * g.val + (a.val * 128 + l.val)) :
    k0_pay23 (groupG m c g) (ix2 a l) = meanAt m r := by
  rw [mean_apply, row_sum c g a l r hr, meanAt]

variable {m} in
/-- The reciprocal standard deviation of a row of group `g`. -/
theorem row_rstd (c : Dev nD) (g : Fin 4) (a : Fin 8) (l : Fin 128) (r : Fin 4096) (hr : r.val = 1024 * g.val + (a.val * 128 + l.val)) :
    k0_pay24 (groupG m c g) (ix2 a l) = rstdAt m r := by
  rw [rstd_apply, row_sq c g a l r hr, row_mean c g a l r hr, rstdAt]

/-- One entry of a chunk the kernel writes. -/
theorem chunkW_apply (c : Dev nD) (g : Fin 4) (h : Fin 2) (a : Fin 512) (j : Fin 1024) (r : Fin 4096)
    (hr : r.val = 1024 * g.val + 512 * h.val + a.val) :
    chunkW m c g h (ix3 0 a j) = (xAt m c r j - meanAt m r) * rstdAt m r * gamAt m c j + betAt m c j := by
  have hx : chunkX m c (chunkNo g h) (ix2 a j) = xAt m c r j :=
    chunkX_apply m c _ a j r (by show _ = 512 * (2 * g.val + h.val) + _; omega)
  unfold chunkW
  match h with
  | ⟨0, h0⟩ =>
    have hr' : r.val = 1024 * g.val + (a.val / 128 * 128 + a.val % 128) := by simp only at hr; omega
    show k0_pay25 _ _ _ _ _ = _
    rw [first_apply, hx, scale_apply, shift_apply, gamF_apply, betF_apply,
      row_mean c g ⟨a.val / 128, by omega⟩ ⟨a.val % 128, by omega⟩ r hr', row_rstd c g ⟨a.val / 128, by omega⟩ ⟨a.val % 128, by omega⟩ r hr']
  | ⟨1, h1⟩ =>
    have hr' : r.val = 1024 * g.val + ((4 + a.val / 128) * 128 + a.val % 128) := by simp only at hr; omega
    show k0_pay26 _ _ _ _ _ _ = _
    rw [second_apply, hx, scale_apply, shift_apply, gamF_apply, betF_apply,
      row_mean c g ⟨4 + a.val / 128, by omega⟩ ⟨a.val % 128, by omega⟩ r hr',
      row_rstd c g ⟨4 + a.val / 128, by omega⟩ ⟨a.val % 128, by omega⟩ r hr']

/-- One entry of device `c`'s block of the result. -/
theorem outF_apply (c : Dev nD) (r : Fin 4096) (j : Fin 1024) :
    (outF m c : S4096x1024.Idx → EReal) (ix2 r j)
      = (xAt m c r j - meanAt m r) * rstdAt m r * gamAt m c j + betAt m c j := by
  refine Eq.trans (congrArg (chunkW m c (rowGrp (ix2 r j)) (rowHalf (ix2 r j))) (a₂ := ix3 0 ⟨r.val % 512, by omega⟩ j) ?_) ?_
  · have : inChunk (ix2 r j) = ix2 ⟨r.val % 512, by omega⟩ j := funext fun a => match a with | ⟨0, _⟩ => rfl | ⟨1, _⟩ => rfl
    rw [this]
    pointwise []
  · refine chunkW_apply m c _ _ _ j r ?_
    show r.val = 1024 * (r.val / 1024) + 512 * (r.val / 512 % 2) + r.val % 512
    omega

end Cert.KernelIdeal.Norm

end
-- ==== Proof.Algebra.lean ====
/-
  The equation between the two normalisations, for one row of real numbers: the variance as the mean of the squares less the
  square of the mean, and the product with a reciprocal root as the quotient by a root.
-/
module

public import Idealize.ShloMosaic.PureOps.Ideal
public import Mathlib.Algebra.BigOperators.Fin
public import Mathlib.Tactic.Ring
public import Mathlib.Tactic.FieldSimp
public import Mathlib.Tactic.Linarith
public import Mathlib.Tactic.Positivity

@[expose] public section

noncomputable section

namespace Cert.Norm

open Idealize.ShloMosaic

/-- The number of columns, as the two programs write it. -/
theorem count_eq : Ideal.ofBits .f32 0x46800000#32 = ((16384 : ℝ) : EReal) := by
  simp [Ideal.ofBits, Ideal.ieee, -EReal.coe_mul]; norm_num

/-- The bound of the precondition is infinite. -/
theorem inf_eq : Ideal.ofBits .f32 0x7F800000#32 = ⊤ := by
  simp [Ideal.ofBits, Ideal.ieee]

/-- What is added to the variance is a positive real number. -/
theorem eps_eq : ∃ e : ℝ, 0 < e ∧ Ideal.ofBits .f32 0x3727C5AC#32 = (e : EReal) := by
  refine ⟨_, ?_, by simp [Ideal.ofBits, Ideal.ieee, -EReal.coe_mul]; rfl⟩
  norm_num

/-- Dividing a real number by a nonzero one. -/
theorem div_real (a : ℝ) {b : ℝ} (hb : b ≠ 0) : Ideal.div (a : EReal) (b : EReal) = ((a / b : ℝ) : EReal) := by
  rw [Ideal.div_coe hb, ← EReal.coe_mul, mul_one_div]

/-- A sum of real numbers is real. -/
theorem sum_real {ι : Type} (s : Finset ι) (f : ι → ℝ) : ∑ i ∈ s, (f i : EReal) = ((∑ i ∈ s, f i : ℝ) : EReal) :=
  (map_sum (⟨⟨Real.toEReal, rfl⟩, EReal.coe_add⟩ : ℝ →+ EReal) f s).symm

/-- The mean of the squares less the square of the mean is the mean of the squared deviations. -/
theorem variance {n : ℕ} (x : Fin n → ℝ) {N : ℝ} (hN : N = n) (h0 : N ≠ 0) :
    (∑ i, x i * x i) / N - (∑ i, x i) / N * ((∑ i, x i) / N)
      = (∑ i, (x i - (∑ i, x i) / N) * (x i - (∑ i, x i) / N)) / N := by
  generalize hS : (∑ i, x i) / N = μ
  have hμ : ∑ i, x i = μ * N := by rw [← hS, div_mul_cancel₀ _ h0]
  have e : ∑ i, (x i - μ) * (x i - μ) = ∑ i, x i * x i - 2 * μ * ∑ i, x i + N * (μ * μ) := by
    rw [Finset.mul_sum, ← Finset.sum_sub_distrib]
    have : N * (μ * μ) = ∑ _i : Fin n, μ * μ := by rw [Finset.sum_const, Finset.card_univ, Fintype.card_fin, nsmul_eq_mul, hN]
    rw [this, ← Finset.sum_add_distrib]
    exact Finset.sum_congr rfl fun i _ => by ring
  rw [e, hμ]
  field_simp
  ring

/-- THE EQUATION, for one row `x` of 16384 real numbers, at its column `J`, for any scale `γ` and shift `β`: the kernel's
    product of the deviation with the reciprocal root, scaled and shifted, is the reference's quotient by the root. -/
theorem entry_eq (x : Fin 16384 → ℝ) (J : Fin 16384) (γ β : EReal) :
    ((x J : EReal) - Ideal.div (∑ i, (x i : EReal)) (Ideal.ofBits .f32 0x46800000#32))
        * Ideal.rsqrt (Ideal.div (∑ i, (x i : EReal) * (x i : EReal)) (Ideal.ofBits .f32 0x46800000#32)
            - Ideal.div (∑ i, (x i : EReal)) (Ideal.ofBits .f32 0x46800000#32)
              * Ideal.div (∑ i, (x i : EReal)) (Ideal.ofBits .f32 0x46800000#32)
            + Ideal.ofBits .f32 0x3727C5AC#32) * γ + β
      = Ideal.div (γ * ((x J : EReal) - Ideal.div (∑ i, (x i : EReal)) (Ideal.ofBits .f32 0x46800000#32)))
          (Ideal.sqrt (Ideal.div (∑ i, ((x i : EReal) - Ideal.div (∑ i, (x i : EReal)) (Ideal.ofBits .f32 0x46800000#32))
              * ((x i : EReal) - Ideal.div (∑ i, (x i : EReal)) (Ideal.ofBits .f32 0x46800000#32)))
              (Ideal.ofBits .f32 0x46800000#32) + Ideal.ofBits .f32 0x3727C5AC#32)) + β := by
  obtain ⟨e, he, hE⟩ := eps_eq
  have h0 : (16384 : ℝ) ≠ 0 := by norm_num
  rw [hE, count_eq]
  simp only [← EReal.coe_mul, sum_real, div_real _ h0, ← EReal.coe_sub, ← EReal.coe_add]
  rw [variance x (by norm_num) h0]
  generalize (∑ i, x i) / (16384 : ℝ) = μ
  have hV : 0 ≤ (∑ i, (x i - μ) * (x i - μ)) / (16384 : ℝ) :=
    div_nonneg (Finset.sum_nonneg fun i _ => mul_self_nonneg _) (by norm_num)
  generalize (∑ i, (x i - μ) * (x i - μ)) / (16384 : ℝ) = V at hV
  have hv : 0 < V + e := by linarith
  have hs : Real.sqrt (V + e) ≠ 0 := (Real.sqrt_pos.2 hv).ne'
  rw [Ideal.rsqrt_coe, Ideal.sqrt_coe, if_neg (not_lt.2 hv.le), if_neg hv.ne', if_neg (not_lt.2 hv.le), Ideal.div_coe hs, one_div,
    mul_assoc, mul_comm _ γ, ← mul_assoc, mul_comm _ γ]

end Cert.Norm

end
-- ==== Proof.Equation.lean ====
/-
  The equation between the kernel and the reference: device `c`'s result is block `c` of the reference's.
-/
module

public import proofs.«01_k».proof.Defs
public import proofs.«01_k».proof.Proof.Held
public import proofs.«01_k».proof.Proof.RefValue
public import proofs.«01_k».proof.Proof.Algebra
public import Idealize.ShloMosaic.Lib.Layout

@[expose] public section

set_option maxRecDepth 16384

noncomputable section

namespace Cert.Norm

open Idealize.ShloMosaic Idealize.ShloMosaic.TcCoe
open Cert.KernelIdeal (nD τ sig main_arg0 main_arg1 main_arg2 main_v1)
open Cert.KernelIdeal.Norm Cert.ReferenceIdeal.Norm

variable (m : (ℓ : Loc nD τ sig) → Buf (Elt Ideal) ℓ)

/-- Column `j` of block `d` among all columns. -/
def col (d : Fin 16) (j : Fin 1024) : Fin 16384 := ⟨d.val * 1024 + j.val, by omega⟩

/-- A sum over the columns is the sum over the blocks of the sums over their columns. -/
theorem sum_col (f : Fin 16384 → EReal) : ∑ d : Fin 16, ∑ j : Fin 1024, f (col d j) = ∑ J : Fin 16384, f J := by
  rw [← Fintype.sum_prod_type' (f := fun d j => f (col d j))]
  refine Fintype.sum_equiv (finProdFinEquiv (m := 16) (n := 1024)) _ _ fun p => congrArg f (Fin.ext ?_)
  show p.1.val * 1024 + p.2.val = p.2.val + 1024 * p.1.val
  omega

/-- The precondition says that every entry of every device's block of the input is a real number. -/
theorem real_of_pre [Cert.Pre_x_finite_KernelIdeal.Facts] (h : Cert.Pre_KernelIdeal_x_finite_KernelIdeal m) (c : Dev nD) (r : Fin 4096)
    (j : Fin 1024) : ∃ v : ℝ, xAt m c r j = (v : EReal) := by
  have e := congrFun (h c) (ix2 r j)
  pointwise [Cert.Pre_x_finite_KernelIdeal.fn] at e
  have lt : max (xAt m c r j) (-xAt m c r j) < ⊤ := by
    rw [← inf_eq]
    by_contra hc
    exact absurd (e.symm.trans (congrArg BitVec.ofBool (decide_eq_false hc))) (by decide)
  generalize xAt m c r j = v at lt
  induction v using EReal.rec with
  | bot => simp at lt
  | coe v => exact ⟨v, rfl⟩
  | top => simp at lt

variable {m}

/-- One entry of a device's result is the reference's entry at the same place of the whole array. -/
theorem out_entry (X : FVec Ideal Cert.ReferenceIdeal.S4096x16384 .f32) (G B : FVec Ideal Cert.ReferenceIdeal.S16384 .f32)
    (hX : ∀ c r j, xAt m c r j = X (ix2 r (col c j))) (hG : ∀ c j, gamAt m c j = G (ix1 (col c j)))
    (hB : ∀ c j, betAt m c j = B (ix1 (col c j))) (hfin : ∀ c r j, ∃ v : ℝ, xAt m c r j = (v : EReal))
    (c : Dev nD) (r : Fin 4096) (j : Fin 1024) :
    (outF m c : Cert.KernelIdeal.S4096x1024.Idx → EReal) (ix2 r j) = refOut X G B (ix2 r (col c j)) := by
  have hr : ∀ J : Fin 16384, ∃ v : ℝ, X (ix2 r J) = (v : EReal) := fun J => by
    obtain ⟨v, hv⟩ := hfin ⟨J.val / 1024, by show _ < 16; omega⟩ r ⟨J.val % 1024, by omega⟩
    have hJ : col ⟨J.val / 1024, by omega⟩ ⟨J.val % 1024, by omega⟩ = J := Fin.ext (by show J.val / 1024 * 1024 + J.val % 1024 = J.val; omega)
    exact ⟨v, by rw [← hv, hX, hJ]⟩
  choose x hx using hr
  have hs : sumAt m r = ∑ J : Fin 16384, (x J : EReal) := by
    simp only [sumAt, hX, hx]
    exact sum_col fun J => (x J : EReal)
  have hq : sqAt m r = ∑ J : Fin 16384, (x J : EReal) * (x J : EReal) := by
    simp only [sqAt, hX, hx]
    exact sum_col fun J => (x J : EReal) * (x J : EReal)
  have hN : 0 < Ideal.ofBits .f32 0x46800000#32 := by
    rw [count_eq]
    exact EReal.coe_pos.2 (by norm_num)
  rw [outF_apply, refOut_apply, refVar_apply hN]
  simp only [refDev_apply, refMean_apply, rstdAt, meanAt, hs, hq, hX, hG, hB, hx]
  exact entry_eq x (col c j) (G (ix1 (col c j))) (B (ix1 (col c j)))

/-- THE EQUATION: where the devices' arguments are the blocks of the reference's arguments and every entry of the input is a
    real number, device `c`'s result is block `c` of the reference's. -/
theorem out_block (X : FVec Ideal Cert.ReferenceIdeal.S4096x16384 .f32) (G B : FVec Ideal Cert.ReferenceIdeal.S16384 .f32)
    (hX : ∀ c : Dev nD, m ((c.tc : Thread nD τ).loc main_arg0) = Layout.block ⟨2, ![4096, 1024]⟩ ⟨2, ![4096, 16384]⟩ 1 16 c X)
    (hG : ∀ c : Dev nD, m ((c.tc : Thread nD τ).loc main_arg1) = Layout.block ⟨1, ![1024]⟩ ⟨1, ![16384]⟩ 0 16 c G)
    (hB : ∀ c : Dev nD, m ((c.tc : Thread nD τ).loc main_arg2) = Layout.block ⟨1, ![1024]⟩ ⟨1, ![16384]⟩ 0 16 c B)
    (hfin : ∀ c r j, ∃ v : ℝ, xAt m c r j = (v : EReal)) (c : Dev nD) :
    outF m c = Layout.block ⟨2, ![4096, 1024]⟩ ⟨2, ![4096, 16384]⟩ 1 16 c (refOut X G B) := by
  have e2 : ∀ (c : Fin 16) (r : Fin 4096) (j : Fin 1024),
      (by decide : Layout.Tiles ⟨2, ![4096, 1024]⟩ ⟨2, ![4096, 16384]⟩ 1 16).idx c (ix2 r j) = ix2 r (col c j) := fun c r j =>
    funext fun a => match a with | ⟨0, _⟩ => rfl | ⟨1, _⟩ => rfl
  have e1 : ∀ (c : Fin 16) (j : Fin 1024),
      (by decide : Layout.Tiles ⟨1, ![1024]⟩ ⟨1, ![16384]⟩ 0 16).idx c (ix1 j) = ix1 (col c j) := fun c j =>
    funext fun a => match a with | ⟨0, _⟩ => rfl
  funext i
  obtain ⟨r, j, rfl⟩ : ∃ (r : Fin 4096) (j : Fin 1024), i = ix2 r j := ⟨i 0, i 1, eq_ix2 i⟩
  refine (out_entry X G B (fun c r j => ?_) (fun c j => ?_) (fun c j => ?_) hfin c r j).trans
    (congrArg (refOut X G B) (e2 c r j)).symm
  · exact (congrFun (hX c) (ix2 r j)).trans (congrArg X (e2 c r j))
  · exact (congrFun (hG c) (ix1 j)).trans (congrArg G (e1 c j))
  · exact (congrFun (hB c) (ix1 j)).trans (congrArg B (e1 c j))

end Cert.Norm

end
-- ==== Proof.Same.lean ====
/-
  The printed kernel and its idealized text are one program: the frame of the one is the frame of the other.
-/
module

public import proofs.«01_k».proof.Defs
public import proofs.«01_k».proof.Proof.Gen.Kernel
public import proofs.«01_k».proof.Proof.Frames

@[expose] public section

set_option maxRecDepth 65536

noncomputable section

namespace Cert.Same

open Idealize.ShloMosaic Idealize.SL.Sem

set_option maxHeartbeats 0 in
/-- The kernel function of the two texts is the same. -/
theorem body_same : Cert.Kernel.cc0_body (F := Bits) = Cert.KernelIdeal.cc0_body (F := Bits) := rfl

/-- The body tables of the two texts are the same. -/
theorem defs₀_same : Cert.Kernel.defs₀ (F := Bits) = Cert.KernelIdeal.defs₀ (F := Bits) := by
  unfold Cert.Kernel.defs₀ Cert.KernelIdeal.defs₀
  congr 1
  funext a b
  obtain ⟨n, hn⟩ := a
  cases n with
  | zero =>
    obtain ⟨t, s⟩ := b
    dsimp only
    rw [body_same]
  | succ n => exact absurd hn (Nat.not_lt.2 (Nat.le_add_left _ _))

/-- And so are the tables with the pipelines. -/
theorem defs_same : Cert.Kernel.defs (F := Bits) = Cert.KernelIdeal.defs (F := Bits) :=
  congrArg (Pipeline.defs (Cert.KernelIdeal.pcfgs (F := Bits))) defs₀_same

/-- The frame of the kernel as printed: the run of its idealized text, which is the same text, read at the words. -/
theorem frame_kernel : Cert.quiescent_Kernel := fun m ρ _ => by
  rw [defs_same]
  exact Cert.KernelIdeal.Norm.run_frame (F := Bits) m ρ

end Cert.Same

end
-- ==== Proof.lean ====
/-
  The claims of the layernorm kernel: the frames of the kernel, of its idealization and of the reference, that the
  idealization is the kernel's own text, and that over the extended reals every device's result is its block of the
  reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_x_finite_KernelIdeal
public import proofs.«01_k».proof.Proof.Gen.Pre_x_finite_ReferenceIdeal
public import proofs.«01_k».proof.Proof.RefValue
public import proofs.«01_k».proof.Proof.Equation
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The frame of the idealized kernel, from any memory. -/
theorem frame_ideal : Cert.quiescent_KernelIdeal := fun m ρ _ => Cert.KernelIdeal.Norm.run_frame m ρ

/-- The frame of the idealized kernel, from a memory that meets the precondition: the same runs. -/
theorem frame_ideal_pre : Cert.quiescent_KernelIdeal_pre_x_finite_KernelIdeal := fun m ρ _ => Cert.KernelIdeal.Norm.run_frame m ρ

/-- The frame of the reference, from any memory. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Norm.run_ref m ρ)

/-- The frame of the reference, from a memory that meets the precondition: the same runs. -/
theorem frame_reference_pre : Cert.quiescent_ReferenceIdeal_pre_x_finite_ReferenceIdeal := fun m ρ _ => frame_reference m ρ trivial

/-- The value claim: from arguments that are the blocks of the reference's, the input finite, every device's result is its
    block of the reference's result. -/
theorem value : Cert.algebraic_KernelIdeal_ReferenceIdeal_pre_x_finite_KernelIdeal := fun m ρ m' ρ' hpre hargs =>
  ⟨_, (θ_run Cert.KernelIdeal.defs _ _).mono
      (fun _ h c => ⟨((h.1 c).1).trans (Cert.Norm.out_block _ _ _ (fun c => (hargs c).1) (fun c => (hargs c).2.1)
        (fun c => (hargs c).2.2) (Cert.Norm.real_of_pre m hpre) c), (h.1 c).2⟩)
      (Cert.KernelIdeal.Norm.run_values m ρ),
    (θ_run Cert.ReferenceIdeal.defs _ _).mono (fun _ h => h 0) (Cert.ReferenceIdeal.Norm.run_ref m' ρ')⟩

theorem claim : Cert.Claim := ⟨Cert.Kernel.Gen.facts, Cert.KernelIdeal.Gen.facts, Cert.ReferenceIdeal.Gen.facts,
  Cert.Pre_x_finite_KernelIdeal.Gen.facts, Cert.Pre_x_finite_ReferenceIdeal.Gen.facts,
  Cert.Same.frame_kernel, frame_ideal, frame_ideal_pre, frame_reference, frame_reference_pre, trivial, value⟩

end Cert.Proof

end
